-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4096x2048 : Shape := ⟨2, ![4096, 2048]⟩
abbrev S2x64x2048 : Shape := ⟨3, ![2, 64, 2048]⟩
abbrev S2x128x2048 : Shape := ⟨3, ![2, 128, 2048]⟩
abbrev S2 : Shape := ⟨1, ![2]⟩
abbrev S_ : Shape := ⟨0, ![]⟩
abbrev S128x128 : Shape := ⟨2, ![128, 128]⟩
abbrev S1x128x2048 : Shape := ⟨3, ![1, 128, 2048]⟩
abbrev S1x64x2048 : Shape := ⟨3, ![1, 64, 2048]⟩
abbrev S64x2048 : Shape := ⟨2, ![64, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .i8⟩
  | .hbm, ⟨1, _⟩ => ⟨S128x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x128, .i8⟩
  | .local _ .vmem, ⟨1, _⟩ => ⟨S128x2048, .i8⟩
  | .local _ .vmem, ⟨2, _⟩ => ⟨S4096x2048, .f32⟩
  | .local _ .vmem, ⟨3, _⟩ => ⟨S2x64x2048, .f32⟩
  | .local _ .vmem, ⟨4, _⟩ => ⟨S2x64x2048, .f32⟩
  | .local _ .vmem, ⟨5, _⟩ => ⟨S2x128x2048, .f32⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 4 17 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 3

abbrev nD : Nat := 32
abbrev τ : Topo := Topo.v7x

variable {F : FTy → Type} [FloatOps F]

abbrev grid0 : Pipeline.Grid := .none

def k0_dev1 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_320 : BitVec 32 := 1#32
  let v470 : BitVec 32 := Scalar.muli v85 c1_i32_320
  let v471 : BitVec 32 := Scalar.addi c0_i32_321 v470
  v471.toNat
def k0_dev2 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_323 : BitVec 32 := 1#32
  let v472 : BitVec 32 := Scalar.muli v241 c1_i32_323
  let v473 : BitVec 32 := Scalar.addi c0_i32_324 v472
  v473.toNat
def k0_dev3 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_326 : BitVec 32 := 1#32
  let v474 : BitVec 32 := Scalar.muli v163 c1_i32_326
  let v475 : BitVec 32 := Scalar.addi c0_i32_327 v474
  v475.toNat
def k0_off1 (d0 : Dev nD) (c0_i32_329 : BitVec 32) : Fin 2 → Nat :=
  let c1_i32_330 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v477 : BitVec 32 := Scalar.subi c1_i32_330 v69
  let c16_i32_331 : BitVec 32 := 16#32
  let v478 : BitVec 32 := Scalar.muli v477 c16_i32_331
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let v476 : BitVec 32 := Scalar.subi v84 c0_i32_329
  let c16_i32_332 : BitVec 32 := 16#32
  let c0_i32_333 : BitVec 32 := 0#32
  let v479 : BitVec 1 := Scalar.cmpi .eq c16_i32_332 c0_i32_333
  let c1_i32_334 : BitVec 32 := 1#32
  let v480 : BitVec 32 := Scalar.select v479 c1_i32_334 c16_i32_332
  let v481 : BitVec 32 := Scalar.remsi v476 v480
  let c0_i32_336 : BitVec 32 := 0#32
  let v483 : BitVec 1 := Scalar.cmpi .slt v481 c0_i32_336
  let c0_i32_337 : BitVec 32 := 0#32
  let v484 : BitVec 1 := Scalar.cmpi .slt v480 c0_i32_337
  let v485 : BitVec 1 := Scalar.xori v483 v484
  let c0_i32_335 : BitVec 32 := 0#32
  let v482 : BitVec 1 := Scalar.cmpi .ne v481 c0_i32_335
  let v486 : BitVec 1 := Scalar.andi v485 v482
  let v487 : BitVec 32 := Scalar.addi v481 v480
  let v488 : BitVec 32 := Scalar.select v486 v487 v481
  let v489 : BitVec 32 := Scalar.addi v478 v488
  let c128_i32 : BitVec 32 := 128#32
  let v490 : BitVec 32 := Scalar.muli v489 c128_i32
  let c0_i32_345 : BitVec 32 := 0#32
  ![v490.toNat, 0]
def k0_dev4 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_341 : BitVec 32 := 1#32
  let v491 : BitVec 32 := Scalar.muli v85 c1_i32_341
  let v492 : BitVec 32 := Scalar.addi c0_i32_342 v491
  v492.toNat
def k0_dev5 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_359 : BitVec 32 := 1#32
  let v515 : BitVec 32 := Scalar.muli v85 c1_i32_359
  let v516 : BitVec 32 := Scalar.addi c0_i32_360 v515
  v516.toNat
def k0_off2 (d0 : Dev nD) (c0_i32_372 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_373 : BitVec 32 := 16#32
  let v532 : BitVec 32 := Scalar.muli v69 c16_i32_373
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let v531 : BitVec 32 := Scalar.subi v84 c0_i32_372
  let c16_i32_374 : BitVec 32 := 16#32
  let c0_i32_375 : BitVec 32 := 0#32
  let v533 : BitVec 1 := Scalar.cmpi .eq c16_i32_374 c0_i32_375
  let c1_i32_376 : BitVec 32 := 1#32
  let v534 : BitVec 32 := Scalar.select v533 c1_i32_376 c16_i32_374
  let v535 : BitVec 32 := Scalar.remsi v531 v534
  let c0_i32_378 : BitVec 32 := 0#32
  let v537 : BitVec 1 := Scalar.cmpi .slt v535 c0_i32_378
  let c0_i32_379 : BitVec 32 := 0#32
  let v538 : BitVec 1 := Scalar.cmpi .slt v534 c0_i32_379
  let v539 : BitVec 1 := Scalar.xori v537 v538
  let c0_i32_377 : BitVec 32 := 0#32
  let v536 : BitVec 1 := Scalar.cmpi .ne v535 c0_i32_377
  let v540 : BitVec 1 := Scalar.andi v539 v536
  let v541 : BitVec 32 := Scalar.addi v535 v534
  let v542 : BitVec 32 := Scalar.select v540 v541 v535
  let v543 : BitVec 32 := Scalar.addi v532 v542
  let c128_i32_380 : BitVec 32 := 128#32
  let v544 : BitVec 32 := Scalar.muli v543 c128_i32_380
  let v545 : Index := Scalar.indexCast v544
  let c0_381 : Index := 0#32
  ![v545.toNat, 0]
def k0_dev6 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_387 : BitVec 32 := 1#32
  let v553 : BitVec 32 := Scalar.muli v85 c1_i32_387
  let v554 : BitVec 32 := Scalar.addi c0_i32_388 v553
  v554.toNat
def k0_off3 (d0 : Dev nD) (c0_i32_389 : BitVec 32) (c0_i32_398 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_390 : BitVec 32 := 16#32
  let v556 : BitVec 32 := Scalar.muli v69 c16_i32_390
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let v555 : BitVec 32 := Scalar.subi v84 c0_i32_389
  let c16_i32_391 : BitVec 32 := 16#32
  let c0_i32_392 : BitVec 32 := 0#32
  let v557 : BitVec 1 := Scalar.cmpi .eq c16_i32_391 c0_i32_392
  let c1_i32_393 : BitVec 32 := 1#32
  let v558 : BitVec 32 := Scalar.select v557 c1_i32_393 c16_i32_391
  let v559 : BitVec 32 := Scalar.remsi v555 v558
  let c0_i32_395 : BitVec 32 := 0#32
  let v561 : BitVec 1 := Scalar.cmpi .slt v559 c0_i32_395
  let c0_i32_396 : BitVec 32 := 0#32
  let v562 : BitVec 1 := Scalar.cmpi .slt v558 c0_i32_396
  let v563 : BitVec 1 := Scalar.xori v561 v562
  let c0_i32_394 : BitVec 32 := 0#32
  let v560 : BitVec 1 := Scalar.cmpi .ne v559 c0_i32_394
  let v564 : BitVec 1 := Scalar.andi v563 v560
  let v565 : BitVec 32 := Scalar.addi v559 v558
  let v566 : BitVec 32 := Scalar.select v564 v565 v559
  let v567 : BitVec 32 := Scalar.addi v556 v566
  let c128_i32_397 : BitVec 32 := 128#32
  let v568 : BitVec 32 := Scalar.muli v567 c128_i32_397
  let v569 : BitVec 32 := Scalar.addi v568 c0_i32_398
  let c0_i32_406 : BitVec 32 := 0#32
  ![v569.toNat, 0]
def k0_dev7 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_402 : BitVec 32 := 1#32
  let v570 : BitVec 32 := Scalar.muli v163 c1_i32_402
  let v571 : BitVec 32 := Scalar.addi c0_i32_403 v570
  v571.toNat
def k0_dev8 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_419 : BitVec 32 := 1#32
  let v594 : BitVec 32 := Scalar.muli v163 c1_i32_419
  let v595 : BitVec 32 := Scalar.addi c0_i32_420 v594
  v595.toNat
def k0_off4 (d0 : Dev nD) (c0_i32_432 : BitVec 32) (c0_i32_442 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_434 : BitVec 32 := 16#32
  let v612 : BitVec 32 := Scalar.muli v69 c16_i32_434
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let v610 : BitVec 32 := Scalar.subi v84 c0_i32_432
  let c1_i32_433 : BitVec 32 := 1#32
  let v611 : BitVec 32 := Scalar.subi v610 c1_i32_433
  let c16_i32_435 : BitVec 32 := 16#32
  let c0_i32_436 : BitVec 32 := 0#32
  let v613 : BitVec 1 := Scalar.cmpi .eq c16_i32_435 c0_i32_436
  let c1_i32_437 : BitVec 32 := 1#32
  let v614 : BitVec 32 := Scalar.select v613 c1_i32_437 c16_i32_435
  let v615 : BitVec 32 := Scalar.remsi v611 v614
  let c0_i32_439 : BitVec 32 := 0#32
  let v617 : BitVec 1 := Scalar.cmpi .slt v615 c0_i32_439
  let c0_i32_440 : BitVec 32 := 0#32
  let v618 : BitVec 1 := Scalar.cmpi .slt v614 c0_i32_440
  let v619 : BitVec 1 := Scalar.xori v617 v618
  let c0_i32_438 : BitVec 32 := 0#32
  let v616 : BitVec 1 := Scalar.cmpi .ne v615 c0_i32_438
  let v620 : BitVec 1 := Scalar.andi v619 v616
  let v621 : BitVec 32 := Scalar.addi v615 v614
  let v622 : BitVec 32 := Scalar.select v620 v621 v615
  let v623 : BitVec 32 := Scalar.addi v612 v622
  let c128_i32_441 : BitVec 32 := 128#32
  let v624 : BitVec 32 := Scalar.muli v623 c128_i32_441
  let v625 : BitVec 32 := Scalar.addi v624 c0_i32_442
  let v626 : Index := Scalar.indexCast v625
  let c0_443 : Index := 0#32
  ![v626.toNat, 0]
def k0_dev9 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_449 : BitVec 32 := 1#32
  let v634 : BitVec 32 := Scalar.muli v241 c1_i32_449
  let v635 : BitVec 32 := Scalar.addi c0_i32_450 v634
  v635.toNat
def k0_dev10 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_473 : BitVec 32 := 1#32
  let v656 : BitVec 32 := Scalar.muli v85 c1_i32_473
  let v657 : BitVec 32 := Scalar.addi c0_i32_474 v656
  v657.toNat
def k0_dev11 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_500 : BitVec 32 := 1#32
  let v694 : BitVec 32 := Scalar.muli v85 c1_i32_500
  let v695 : BitVec 32 := Scalar.addi c0_i32_501 v694
  v695.toNat
def k0_dev12 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_515 : BitVec 32 := 1#32
  let v711 : BitVec 32 := Scalar.muli v163 c1_i32_515
  let v712 : BitVec 32 := Scalar.addi c0_i32_516 v711
  v712.toNat
def k0_dev13 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_545 : BitVec 32 := 1#32
  let v751 : BitVec 32 := Scalar.muli v241 c1_i32_545
  let v752 : BitVec 32 := Scalar.addi c0_i32_546 v751
  v752.toNat
def k0_dev14 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_560 : BitVec 32 := 1#32
  let v768 : BitVec 32 := Scalar.muli v163 c1_i32_560
  let v769 : BitVec 32 := Scalar.addi c0_i32_561 v768
  v769.toNat
def k0_dev15 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_590 : BitVec 32 := 1#32
  let v808 : BitVec 32 := Scalar.muli v241 c1_i32_590
  let v809 : BitVec 32 := Scalar.addi c0_i32_591 v808
  v809.toNat
def k0_dev16 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_614 : BitVec 32 := 1#32
  let v830 : BitVec 32 := Scalar.muli v85 c1_i32_614
  let v831 : BitVec 32 := Scalar.addi c0_i32_615 v830
  v831.toNat
def k0_dev17 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_642 : BitVec 32 := 1#32
  let v868 : BitVec 32 := Scalar.muli v85 c1_i32_642
  let v869 : BitVec 32 := Scalar.addi c0_i32_643 v868
  v869.toNat
def k0_dev18 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_666 : BitVec 32 := 1#32
  let v890 : BitVec 32 := Scalar.muli v163 c1_i32_666
  let v891 : BitVec 32 := Scalar.addi c0_i32_667 v890
  v891.toNat
def k0_dev19 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_696 : BitVec 32 := 1#32
  let v930 : BitVec 32 := Scalar.muli v241 c1_i32_696
  let v931 : BitVec 32 := Scalar.addi c0_i32_697 v930
  v931.toNat
def k0_dev20 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_720 : BitVec 32 := 1#32
  let v952 : BitVec 32 := Scalar.muli v163 c1_i32_720
  let v953 : BitVec 32 := Scalar.addi c0_i32_721 v952
  v953.toNat
def k0_dev21 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_750 : BitVec 32 := 1#32
  let v992 : BitVec 32 := Scalar.muli v241 c1_i32_750
  let v993 : BitVec 32 := Scalar.addi c0_i32_751 v992
  v993.toNat
def k0_dev22 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_774 : BitVec 32 := 1#32
  let v1014 : BitVec 32 := Scalar.muli v85 c1_i32_774
  let v1015 : BitVec 32 := Scalar.addi c0_i32_775 v1014
  v1015.toNat
def k0_dev23 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_802 : BitVec 32 := 1#32
  let v1052 : BitVec 32 := Scalar.muli v85 c1_i32_802
  let v1053 : BitVec 32 := Scalar.addi c0_i32_803 v1052
  v1053.toNat
def k0_dev24 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_826 : BitVec 32 := 1#32
  let v1074 : BitVec 32 := Scalar.muli v163 c1_i32_826
  let v1075 : BitVec 32 := Scalar.addi c0_i32_827 v1074
  v1075.toNat
def k0_dev25 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_856 : BitVec 32 := 1#32
  let v1114 : BitVec 32 := Scalar.muli v241 c1_i32_856
  let v1115 : BitVec 32 := Scalar.addi c0_i32_857 v1114
  v1115.toNat
def k0_dev26 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_880 : BitVec 32 := 1#32
  let v1136 : BitVec 32 := Scalar.muli v163 c1_i32_880
  let v1137 : BitVec 32 := Scalar.addi c0_i32_881 v1136
  v1137.toNat
def k0_dev27 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_910 : BitVec 32 := 1#32
  let v1176 : BitVec 32 := Scalar.muli v241 c1_i32_910
  let v1177 : BitVec 32 := Scalar.addi c0_i32_911 v1176
  v1177.toNat
def k0_dev28 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_933 : BitVec 32 := 1#32
  let v1198 : BitVec 32 := Scalar.muli v85 c1_i32_933
  let v1199 : BitVec 32 := Scalar.addi c0_i32_934 v1198
  v1199.toNat
def k0_dev29 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_961 : BitVec 32 := 1#32
  let v1236 : BitVec 32 := Scalar.muli v85 c1_i32_961
  let v1237 : BitVec 32 := Scalar.addi c0_i32_962 v1236
  v1237.toNat
def k0_dev30 (d0 : Dev nD) : Nat :=
  let c0_i32_986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_985 : BitVec 32 := 1#32
  let v1258 : BitVec 32 := Scalar.muli v163 c1_i32_985
  let v1259 : BitVec 32 := Scalar.addi c0_i32_986 v1258
  v1259.toNat
def k0_dev31 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1015 : BitVec 32 := 1#32
  let v1298 : BitVec 32 := Scalar.muli v241 c1_i32_1015
  let v1299 : BitVec 32 := Scalar.addi c0_i32_1016 v1298
  v1299.toNat
def k0_dev32 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1039 : BitVec 32 := 1#32
  let v1320 : BitVec 32 := Scalar.muli v163 c1_i32_1039
  let v1321 : BitVec 32 := Scalar.addi c0_i32_1040 v1320
  v1321.toNat
def k0_dev33 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1069 : BitVec 32 := 1#32
  let v1360 : BitVec 32 := Scalar.muli v241 c1_i32_1069
  let v1361 : BitVec 32 := Scalar.addi c0_i32_1070 v1360
  v1361.toNat
def k0_dev34 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1092 : BitVec 32 := 1#32
  let v1382 : BitVec 32 := Scalar.muli v85 c1_i32_1092
  let v1383 : BitVec 32 := Scalar.addi c0_i32_1093 v1382
  v1383.toNat
def k0_dev35 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1120 : BitVec 32 := 1#32
  let v1420 : BitVec 32 := Scalar.muli v85 c1_i32_1120
  let v1421 : BitVec 32 := Scalar.addi c0_i32_1121 v1420
  v1421.toNat
def k0_dev36 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1144 : BitVec 32 := 1#32
  let v1442 : BitVec 32 := Scalar.muli v163 c1_i32_1144
  let v1443 : BitVec 32 := Scalar.addi c0_i32_1145 v1442
  v1443.toNat
def k0_dev37 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1174 : BitVec 32 := 1#32
  let v1482 : BitVec 32 := Scalar.muli v241 c1_i32_1174
  let v1483 : BitVec 32 := Scalar.addi c0_i32_1175 v1482
  v1483.toNat
def k0_dev38 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1198 : BitVec 32 := 1#32
  let v1504 : BitVec 32 := Scalar.muli v163 c1_i32_1198
  let v1505 : BitVec 32 := Scalar.addi c0_i32_1199 v1504
  v1505.toNat
def k0_dev39 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1228 : BitVec 32 := 1#32
  let v1544 : BitVec 32 := Scalar.muli v241 c1_i32_1228
  let v1545 : BitVec 32 := Scalar.addi c0_i32_1229 v1544
  v1545.toNat
def k0_dev40 (d0 : Dev nD) : Nat :=
  let c0_i32_1252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1251 : BitVec 32 := 1#32
  let v1566 : BitVec 32 := Scalar.muli v85 c1_i32_1251
  let v1567 : BitVec 32 := Scalar.addi c0_i32_1252 v1566
  v1567.toNat
def k0_dev41 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1279 : BitVec 32 := 1#32
  let v1604 : BitVec 32 := Scalar.muli v85 c1_i32_1279
  let v1605 : BitVec 32 := Scalar.addi c0_i32_1280 v1604
  v1605.toNat
def k0_dev42 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1303 : BitVec 32 := 1#32
  let v1626 : BitVec 32 := Scalar.muli v163 c1_i32_1303
  let v1627 : BitVec 32 := Scalar.addi c0_i32_1304 v1626
  v1627.toNat
def k0_dev43 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1333 : BitVec 32 := 1#32
  let v1666 : BitVec 32 := Scalar.muli v241 c1_i32_1333
  let v1667 : BitVec 32 := Scalar.addi c0_i32_1334 v1666
  v1667.toNat
def k0_dev44 (d0 : Dev nD) : Nat :=
  let c0_i32_1358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1357 : BitVec 32 := 1#32
  let v1688 : BitVec 32 := Scalar.muli v163 c1_i32_1357
  let v1689 : BitVec 32 := Scalar.addi c0_i32_1358 v1688
  v1689.toNat
def k0_dev45 (d0 : Dev nD) : Nat :=
  let c0_i32_1388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1387 : BitVec 32 := 1#32
  let v1728 : BitVec 32 := Scalar.muli v241 c1_i32_1387
  let v1729 : BitVec 32 := Scalar.addi c0_i32_1388 v1728
  v1729.toNat
def k0_dev46 (d0 : Dev nD) : Nat :=
  let c0_i32_1412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1411 : BitVec 32 := 1#32
  let v1750 : BitVec 32 := Scalar.muli v85 c1_i32_1411
  let v1751 : BitVec 32 := Scalar.addi c0_i32_1412 v1750
  v1751.toNat
def k0_dev47 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1439 : BitVec 32 := 1#32
  let v1788 : BitVec 32 := Scalar.muli v85 c1_i32_1439
  let v1789 : BitVec 32 := Scalar.addi c0_i32_1440 v1788
  v1789.toNat
def k0_dev48 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1463 : BitVec 32 := 1#32
  let v1810 : BitVec 32 := Scalar.muli v163 c1_i32_1463
  let v1811 : BitVec 32 := Scalar.addi c0_i32_1464 v1810
  v1811.toNat
def k0_dev49 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1493 : BitVec 32 := 1#32
  let v1850 : BitVec 32 := Scalar.muli v241 c1_i32_1493
  let v1851 : BitVec 32 := Scalar.addi c0_i32_1494 v1850
  v1851.toNat
def k0_dev50 (d0 : Dev nD) : Nat :=
  let c0_i32_1518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1517 : BitVec 32 := 1#32
  let v1872 : BitVec 32 := Scalar.muli v163 c1_i32_1517
  let v1873 : BitVec 32 := Scalar.addi c0_i32_1518 v1872
  v1873.toNat
def k0_dev51 (d0 : Dev nD) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1547 : BitVec 32 := 1#32
  let v1912 : BitVec 32 := Scalar.muli v241 c1_i32_1547
  let v1913 : BitVec 32 := Scalar.addi c0_i32_1548 v1912
  v1913.toNat
def k0_dev52 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1570 : BitVec 32 := 1#32
  let v1934 : BitVec 32 := Scalar.muli v85 c1_i32_1570
  let v1935 : BitVec 32 := Scalar.addi c0_i32_1571 v1934
  v1935.toNat
def k0_dev53 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1598 : BitVec 32 := 1#32
  let v1972 : BitVec 32 := Scalar.muli v85 c1_i32_1598
  let v1973 : BitVec 32 := Scalar.addi c0_i32_1599 v1972
  v1973.toNat
def k0_dev54 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1622 : BitVec 32 := 1#32
  let v1994 : BitVec 32 := Scalar.muli v163 c1_i32_1622
  let v1995 : BitVec 32 := Scalar.addi c0_i32_1623 v1994
  v1995.toNat
def k0_dev55 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1652 : BitVec 32 := 1#32
  let v2034 : BitVec 32 := Scalar.muli v241 c1_i32_1652
  let v2035 : BitVec 32 := Scalar.addi c0_i32_1653 v2034
  v2035.toNat
def k0_dev56 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1676 : BitVec 32 := 1#32
  let v2056 : BitVec 32 := Scalar.muli v163 c1_i32_1676
  let v2057 : BitVec 32 := Scalar.addi c0_i32_1677 v2056
  v2057.toNat
def k0_dev57 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1706 : BitVec 32 := 1#32
  let v2096 : BitVec 32 := Scalar.muli v241 c1_i32_1706
  let v2097 : BitVec 32 := Scalar.addi c0_i32_1707 v2096
  v2097.toNat
def k0_dev58 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1729 : BitVec 32 := 1#32
  let v2118 : BitVec 32 := Scalar.muli v85 c1_i32_1729
  let v2119 : BitVec 32 := Scalar.addi c0_i32_1730 v2118
  v2119.toNat
def k0_dev59 (d0 : Dev nD) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1757 : BitVec 32 := 1#32
  let v2156 : BitVec 32 := Scalar.muli v85 c1_i32_1757
  let v2157 : BitVec 32 := Scalar.addi c0_i32_1758 v2156
  v2157.toNat
def k0_dev60 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1781 : BitVec 32 := 1#32
  let v2178 : BitVec 32 := Scalar.muli v163 c1_i32_1781
  let v2179 : BitVec 32 := Scalar.addi c0_i32_1782 v2178
  v2179.toNat
def k0_dev61 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1811 : BitVec 32 := 1#32
  let v2218 : BitVec 32 := Scalar.muli v241 c1_i32_1811
  let v2219 : BitVec 32 := Scalar.addi c0_i32_1812 v2218
  v2219.toNat
def k0_dev62 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1835 : BitVec 32 := 1#32
  let v2240 : BitVec 32 := Scalar.muli v163 c1_i32_1835
  let v2241 : BitVec 32 := Scalar.addi c0_i32_1836 v2240
  v2241.toNat
def k0_dev63 (d0 : Dev nD) : Nat :=
  let c0_i32_1866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1865 : BitVec 32 := 1#32
  let v2280 : BitVec 32 := Scalar.muli v241 c1_i32_1865
  let v2281 : BitVec 32 := Scalar.addi c0_i32_1866 v2280
  v2281.toNat
def k0_dev64 (d0 : Dev nD) : Nat :=
  let c0_i32_1889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1888 : BitVec 32 := 1#32
  let v2302 : BitVec 32 := Scalar.muli v85 c1_i32_1888
  let v2303 : BitVec 32 := Scalar.addi c0_i32_1889 v2302
  v2303.toNat
def k0_dev65 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_1916 : BitVec 32 := 1#32
  let v2340 : BitVec 32 := Scalar.muli v85 c1_i32_1916
  let v2341 : BitVec 32 := Scalar.addi c0_i32_1917 v2340
  v2341.toNat
def k0_dev66 (d0 : Dev nD) : Nat :=
  let c0_i32_1941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1940 : BitVec 32 := 1#32
  let v2362 : BitVec 32 := Scalar.muli v163 c1_i32_1940
  let v2363 : BitVec 32 := Scalar.addi c0_i32_1941 v2362
  v2363.toNat
def k0_dev67 (d0 : Dev nD) : Nat :=
  let c0_i32_1971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_1970 : BitVec 32 := 1#32
  let v2402 : BitVec 32 := Scalar.muli v241 c1_i32_1970
  let v2403 : BitVec 32 := Scalar.addi c0_i32_1971 v2402
  v2403.toNat
def k0_dev68 (d0 : Dev nD) : Nat :=
  let c0_i32_1995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_1994 : BitVec 32 := 1#32
  let v2424 : BitVec 32 := Scalar.muli v163 c1_i32_1994
  let v2425 : BitVec 32 := Scalar.addi c0_i32_1995 v2424
  v2425.toNat
def k0_dev69 (d0 : Dev nD) : Nat :=
  let c0_i32_2025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2024 : BitVec 32 := 1#32
  let v2464 : BitVec 32 := Scalar.muli v241 c1_i32_2024
  let v2465 : BitVec 32 := Scalar.addi c0_i32_2025 v2464
  v2465.toNat
def k0_dev70 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2047 : BitVec 32 := 1#32
  let v2486 : BitVec 32 := Scalar.muli v85 c1_i32_2047
  let v2487 : BitVec 32 := Scalar.addi c0_i32_2048 v2486
  v2487.toNat
def k0_dev71 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2075 : BitVec 32 := 1#32
  let v2524 : BitVec 32 := Scalar.muli v85 c1_i32_2075
  let v2525 : BitVec 32 := Scalar.addi c0_i32_2076 v2524
  v2525.toNat
def k0_dev72 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2099 : BitVec 32 := 1#32
  let v2546 : BitVec 32 := Scalar.muli v163 c1_i32_2099
  let v2547 : BitVec 32 := Scalar.addi c0_i32_2100 v2546
  v2547.toNat
def k0_dev73 (d0 : Dev nD) : Nat :=
  let c0_i32_2130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2129 : BitVec 32 := 1#32
  let v2586 : BitVec 32 := Scalar.muli v241 c1_i32_2129
  let v2587 : BitVec 32 := Scalar.addi c0_i32_2130 v2586
  v2587.toNat
def k0_dev74 (d0 : Dev nD) : Nat :=
  let c0_i32_2154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2153 : BitVec 32 := 1#32
  let v2608 : BitVec 32 := Scalar.muli v163 c1_i32_2153
  let v2609 : BitVec 32 := Scalar.addi c0_i32_2154 v2608
  v2609.toNat
def k0_dev75 (d0 : Dev nD) : Nat :=
  let c0_i32_2184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2183 : BitVec 32 := 1#32
  let v2648 : BitVec 32 := Scalar.muli v241 c1_i32_2183
  let v2649 : BitVec 32 := Scalar.addi c0_i32_2184 v2648
  v2649.toNat
def k0_dev76 (d0 : Dev nD) : Nat :=
  let c0_i32_2207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2206 : BitVec 32 := 1#32
  let v2670 : BitVec 32 := Scalar.muli v85 c1_i32_2206
  let v2671 : BitVec 32 := Scalar.addi c0_i32_2207 v2670
  v2671.toNat
def k0_dev77 (d0 : Dev nD) : Nat :=
  let c0_i32_2235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2234 : BitVec 32 := 1#32
  let v2708 : BitVec 32 := Scalar.muli v85 c1_i32_2234
  let v2709 : BitVec 32 := Scalar.addi c0_i32_2235 v2708
  v2709.toNat
def k0_dev78 (d0 : Dev nD) : Nat :=
  let c0_i32_2259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2258 : BitVec 32 := 1#32
  let v2730 : BitVec 32 := Scalar.muli v163 c1_i32_2258
  let v2731 : BitVec 32 := Scalar.addi c0_i32_2259 v2730
  v2731.toNat
def k0_dev79 (d0 : Dev nD) : Nat :=
  let c0_i32_2289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2288 : BitVec 32 := 1#32
  let v2770 : BitVec 32 := Scalar.muli v241 c1_i32_2288
  let v2771 : BitVec 32 := Scalar.addi c0_i32_2289 v2770
  v2771.toNat
def k0_dev80 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2312 : BitVec 32 := 1#32
  let v2792 : BitVec 32 := Scalar.muli v163 c1_i32_2312
  let v2793 : BitVec 32 := Scalar.addi c0_i32_2313 v2792
  v2793.toNat
def k0_dev81 (d0 : Dev nD) : Nat :=
  let c0_i32_2343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2342 : BitVec 32 := 1#32
  let v2832 : BitVec 32 := Scalar.muli v241 c1_i32_2342
  let v2833 : BitVec 32 := Scalar.addi c0_i32_2343 v2832
  v2833.toNat
def k0_dev82 (d0 : Dev nD) : Nat :=
  let c0_i32_2366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2365 : BitVec 32 := 1#32
  let v2854 : BitVec 32 := Scalar.muli v85 c1_i32_2365
  let v2855 : BitVec 32 := Scalar.addi c0_i32_2366 v2854
  v2855.toNat
def k0_dev83 (d0 : Dev nD) : Nat :=
  let c0_i32_2394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2393 : BitVec 32 := 1#32
  let v2892 : BitVec 32 := Scalar.muli v85 c1_i32_2393
  let v2893 : BitVec 32 := Scalar.addi c0_i32_2394 v2892
  v2893.toNat
def k0_dev84 (d0 : Dev nD) : Nat :=
  let c0_i32_2418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2417 : BitVec 32 := 1#32
  let v2914 : BitVec 32 := Scalar.muli v163 c1_i32_2417
  let v2915 : BitVec 32 := Scalar.addi c0_i32_2418 v2914
  v2915.toNat
def k0_dev85 (d0 : Dev nD) : Nat :=
  let c0_i32_2448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2447 : BitVec 32 := 1#32
  let v2954 : BitVec 32 := Scalar.muli v241 c1_i32_2447
  let v2955 : BitVec 32 := Scalar.addi c0_i32_2448 v2954
  v2955.toNat
def k0_dev86 (d0 : Dev nD) : Nat :=
  let c0_i32_2472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2471 : BitVec 32 := 1#32
  let v2976 : BitVec 32 := Scalar.muli v163 c1_i32_2471
  let v2977 : BitVec 32 := Scalar.addi c0_i32_2472 v2976
  v2977.toNat
def k0_dev87 (d0 : Dev nD) : Nat :=
  let c0_i32_2502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2501 : BitVec 32 := 1#32
  let v3016 : BitVec 32 := Scalar.muli v241 c1_i32_2501
  let v3017 : BitVec 32 := Scalar.addi c0_i32_2502 v3016
  v3017.toNat
def k0_dev88 (d0 : Dev nD) : Nat :=
  let c0_i32_2525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2524 : BitVec 32 := 1#32
  let v3038 : BitVec 32 := Scalar.muli v85 c1_i32_2524
  let v3039 : BitVec 32 := Scalar.addi c0_i32_2525 v3038
  v3039.toNat
def k0_dev89 (d0 : Dev nD) : Nat :=
  let c0_i32_2553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2552 : BitVec 32 := 1#32
  let v3076 : BitVec 32 := Scalar.muli v85 c1_i32_2552
  let v3077 : BitVec 32 := Scalar.addi c0_i32_2553 v3076
  v3077.toNat
def k0_dev90 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2576 : BitVec 32 := 1#32
  let v3098 : BitVec 32 := Scalar.muli v163 c1_i32_2576
  let v3099 : BitVec 32 := Scalar.addi c0_i32_2577 v3098
  v3099.toNat
def k0_dev91 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2606 : BitVec 32 := 1#32
  let v3138 : BitVec 32 := Scalar.muli v241 c1_i32_2606
  let v3139 : BitVec 32 := Scalar.addi c0_i32_2607 v3138
  v3139.toNat
def k0_dev92 (d0 : Dev nD) : Nat :=
  let c0_i32_2631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2630 : BitVec 32 := 1#32
  let v3160 : BitVec 32 := Scalar.muli v163 c1_i32_2630
  let v3161 : BitVec 32 := Scalar.addi c0_i32_2631 v3160
  v3161.toNat
def k0_dev93 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2660 : BitVec 32 := 1#32
  let v3200 : BitVec 32 := Scalar.muli v241 c1_i32_2660
  let v3201 : BitVec 32 := Scalar.addi c0_i32_2661 v3200
  v3201.toNat
def k0_dev94 (d0 : Dev nD) : Nat :=
  let c0_i32_2686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2685 : BitVec 32 := 1#32
  let v3231 : BitVec 32 := Scalar.muli v85 c1_i32_2685
  let v3232 : BitVec 32 := Scalar.addi c0_i32_2686 v3231
  v3232.toNat
def k0_off5 (d0 : Dev nD) (c0_i32_2696 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_2688 : BitVec 32 := 16#32
  let v3234 : BitVec 32 := Scalar.muli v69 c16_i32_2688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c1_i32_2687 : BitVec 32 := 1#32
  let v3233 : BitVec 32 := Scalar.addi v84 c1_i32_2687
  let c16_i32_2689 : BitVec 32 := 16#32
  let c0_i32_2690 : BitVec 32 := 0#32
  let v3235 : BitVec 1 := Scalar.cmpi .eq c16_i32_2689 c0_i32_2690
  let c1_i32_2691 : BitVec 32 := 1#32
  let v3236 : BitVec 32 := Scalar.select v3235 c1_i32_2691 c16_i32_2689
  let v3237 : BitVec 32 := Scalar.remsi v3233 v3236
  let c0_i32_2693 : BitVec 32 := 0#32
  let v3239 : BitVec 1 := Scalar.cmpi .slt v3237 c0_i32_2693
  let c0_i32_2694 : BitVec 32 := 0#32
  let v3240 : BitVec 1 := Scalar.cmpi .slt v3236 c0_i32_2694
  let v3241 : BitVec 1 := Scalar.xori v3239 v3240
  let c0_i32_2692 : BitVec 32 := 0#32
  let v3238 : BitVec 1 := Scalar.cmpi .ne v3237 c0_i32_2692
  let v3242 : BitVec 1 := Scalar.andi v3241 v3238
  let v3243 : BitVec 32 := Scalar.addi v3237 v3236
  let v3244 : BitVec 32 := Scalar.select v3242 v3243 v3237
  let v3245 : BitVec 32 := Scalar.addi v3234 v3244
  let c128_i32_2695 : BitVec 32 := 128#32
  let v3246 : BitVec 32 := Scalar.muli v3245 c128_i32_2695
  let v3247 : BitVec 32 := Scalar.addi v3246 c0_i32_2696
  let v3248 : Index := Scalar.indexCast v3247
  let c0_2697 : Index := 0#32
  ![v3248.toNat, 0]
def k0_off6 (d0 : Dev nD) (c0_i32_2709 : BitVec 32) (c0_i32_2720 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_2710 : BitVec 32 := 16#32
  let v3262 : BitVec 32 := Scalar.muli v69 c16_i32_2710
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c1_i32_2708 : BitVec 32 := 1#32
  let v3260 : BitVec 32 := Scalar.addi v84 c1_i32_2708
  let v3261 : BitVec 32 := Scalar.subi v3260 c0_i32_2709
  let c16_i32_2711 : BitVec 32 := 16#32
  let c0_i32_2712 : BitVec 32 := 0#32
  let v3263 : BitVec 1 := Scalar.cmpi .eq c16_i32_2711 c0_i32_2712
  let c1_i32_2713 : BitVec 32 := 1#32
  let v3264 : BitVec 32 := Scalar.select v3263 c1_i32_2713 c16_i32_2711
  let v3265 : BitVec 32 := Scalar.remsi v3261 v3264
  let c0_i32_2715 : BitVec 32 := 0#32
  let v3267 : BitVec 1 := Scalar.cmpi .slt v3265 c0_i32_2715
  let c0_i32_2716 : BitVec 32 := 0#32
  let v3268 : BitVec 1 := Scalar.cmpi .slt v3264 c0_i32_2716
  let v3269 : BitVec 1 := Scalar.xori v3267 v3268
  let c0_i32_2714 : BitVec 32 := 0#32
  let v3266 : BitVec 1 := Scalar.cmpi .ne v3265 c0_i32_2714
  let v3270 : BitVec 1 := Scalar.andi v3269 v3266
  let v3271 : BitVec 32 := Scalar.addi v3265 v3264
  let v3272 : BitVec 32 := Scalar.select v3270 v3271 v3265
  let v3273 : BitVec 32 := Scalar.addi v3262 v3272
  let c128_i32_2719 : BitVec 32 := 128#32
  let v3276 : BitVec 32 := Scalar.muli v3273 c128_i32_2719
  let v3277 : BitVec 32 := Scalar.addi v3276 c0_i32_2720
  let c0_i32_2725 : BitVec 32 := 0#32
  ![v3277.toNat, 0]
def k0_dev95 (d0 : Dev nD) : Nat :=
  let c0_i32_2724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2723 : BitVec 32 := 1#32
  let v3278 : BitVec 32 := Scalar.muli v163 c1_i32_2723
  let v3279 : BitVec 32 := Scalar.addi c0_i32_2724 v3278
  v3279.toNat
def k0_dev96 (d0 : Dev nD) : Nat :=
  let c0_i32_2753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2752 : BitVec 32 := 1#32
  let v3317 : BitVec 32 := Scalar.muli v241 c1_i32_2752
  let v3318 : BitVec 32 := Scalar.addi c0_i32_2753 v3317
  v3318.toNat
def k0_dev97 (d0 : Dev nD) : Nat :=
  let c0_i32_2791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2790 : BitVec 32 := 1#32
  let v3364 : BitVec 32 := Scalar.muli v163 c1_i32_2790
  let v3365 : BitVec 32 := Scalar.addi c0_i32_2791 v3364
  v3365.toNat
def k0_off7 (d0 : Dev nD) (c0_i32_2804 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32_2805 : BitVec 32 := 16#32
  let v3379 : BitVec 32 := Scalar.muli v69 c16_i32_2805
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c1_i32_2803 : BitVec 32 := 1#32
  let v3377 : BitVec 32 := Scalar.addi v84 c1_i32_2803
  let v3378 : BitVec 32 := Scalar.subi v3377 c0_i32_2804
  let c16_i32_2806 : BitVec 32 := 16#32
  let c0_i32_2807 : BitVec 32 := 0#32
  let v3380 : BitVec 1 := Scalar.cmpi .eq c16_i32_2806 c0_i32_2807
  let c1_i32_2808 : BitVec 32 := 1#32
  let v3381 : BitVec 32 := Scalar.select v3380 c1_i32_2808 c16_i32_2806
  let v3382 : BitVec 32 := Scalar.remsi v3378 v3381
  let c0_i32_2810 : BitVec 32 := 0#32
  let v3384 : BitVec 1 := Scalar.cmpi .slt v3382 c0_i32_2810
  let c0_i32_2811 : BitVec 32 := 0#32
  let v3385 : BitVec 1 := Scalar.cmpi .slt v3381 c0_i32_2811
  let v3386 : BitVec 1 := Scalar.xori v3384 v3385
  let c0_i32_2809 : BitVec 32 := 0#32
  let v3383 : BitVec 1 := Scalar.cmpi .ne v3382 c0_i32_2809
  let v3387 : BitVec 1 := Scalar.andi v3386 v3383
  let v3388 : BitVec 32 := Scalar.addi v3382 v3381
  let v3389 : BitVec 32 := Scalar.select v3387 v3388 v3382
  let v3390 : BitVec 32 := Scalar.addi v3379 v3389
  let c128_i32_2813 : BitVec 32 := 128#32
  let v3392 : BitVec 32 := Scalar.muli v3390 c128_i32_2813
  let c0_i32_2818 : BitVec 32 := 0#32
  ![v3392.toNat, 0]
def k0_dev98 (d0 : Dev nD) : Nat :=
  let c0_i32_2817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2816 : BitVec 32 := 1#32
  let v3393 : BitVec 32 := Scalar.muli v85 c1_i32_2816
  let v3394 : BitVec 32 := Scalar.addi c0_i32_2817 v3393
  v3394.toNat
def k0_dev99 (d0 : Dev nD) : Nat :=
  let c0_i32_2828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2827 : BitVec 32 := 1#32
  let v3407 : BitVec 32 := Scalar.muli v241 c1_i32_2827
  let v3408 : BitVec 32 := Scalar.addi c0_i32_2828 v3407
  v3408.toNat
def k0_dev100 (d0 : Dev nD) : Nat :=
  let c0_i32_2854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2853 : BitVec 32 := 1#32
  let v3432 : BitVec 32 := Scalar.muli v163 c1_i32_2853
  let v3433 : BitVec 32 := Scalar.addi c0_i32_2854 v3432
  v3433.toNat
def k0_dev101 (d0 : Dev nD) : Nat :=
  let c0_i32_2865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2864 : BitVec 32 := 1#32
  let v3446 : BitVec 32 := Scalar.muli v241 c1_i32_2864
  let v3447 : BitVec 32 := Scalar.addi c0_i32_2865 v3446
  v3447.toNat
def k0_dev102 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2890 : BitVec 32 := 1#32
  let v3471 : BitVec 32 := Scalar.muli v163 c1_i32_2890
  let v3472 : BitVec 32 := Scalar.addi c0_i32_2891 v3471
  v3472.toNat
def k0_dev103 (d0 : Dev nD) : Nat :=
  let c0_i32_2917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2916 : BitVec 32 := 1#32
  let v3500 : BitVec 32 := Scalar.muli v85 c1_i32_2916
  let v3501 : BitVec 32 := Scalar.addi c0_i32_2917 v3500
  v3501.toNat
def k0_dev104 (d0 : Dev nD) : Nat :=
  let c0_i32_2928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_2927 : BitVec 32 := 1#32
  let v3514 : BitVec 32 := Scalar.muli v85 c1_i32_2927
  let v3515 : BitVec 32 := Scalar.addi c0_i32_2928 v3514
  v3515.toNat
def k0_dev105 (d0 : Dev nD) : Nat :=
  let c0_i32_2937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2936 : BitVec 32 := 1#32
  let v3522 : BitVec 32 := Scalar.muli v241 c1_i32_2936
  let v3523 : BitVec 32 := Scalar.addi c0_i32_2937 v3522
  v3523.toNat
def k0_dev106 (d0 : Dev nD) : Nat :=
  let c0_i32_2961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2960 : BitVec 32 := 1#32
  let v3546 : BitVec 32 := Scalar.muli v163 c1_i32_2960
  let v3547 : BitVec 32 := Scalar.addi c0_i32_2961 v3546
  v3547.toNat
def k0_dev107 (d0 : Dev nD) : Nat :=
  let c0_i32_2972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_2971 : BitVec 32 := 1#32
  let v3560 : BitVec 32 := Scalar.muli v241 c1_i32_2971
  let v3561 : BitVec 32 := Scalar.addi c0_i32_2972 v3560
  v3561.toNat
def k0_dev108 (d0 : Dev nD) : Nat :=
  let c0_i32_2996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_2995 : BitVec 32 := 1#32
  let v3584 : BitVec 32 := Scalar.muli v163 c1_i32_2995
  let v3585 : BitVec 32 := Scalar.addi c0_i32_2996 v3584
  v3585.toNat
def k0_dev109 (d0 : Dev nD) : Nat :=
  let c0_i32_3020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3019 : BitVec 32 := 1#32
  let v3612 : BitVec 32 := Scalar.muli v85 c1_i32_3019
  let v3613 : BitVec 32 := Scalar.addi c0_i32_3020 v3612
  v3613.toNat
def k0_dev110 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3030 : BitVec 32 := 1#32
  let v3626 : BitVec 32 := Scalar.muli v85 c1_i32_3030
  let v3627 : BitVec 32 := Scalar.addi c0_i32_3031 v3626
  v3627.toNat
def k0_dev111 (d0 : Dev nD) : Nat :=
  let c0_i32_3040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3039 : BitVec 32 := 1#32
  let v3634 : BitVec 32 := Scalar.muli v241 c1_i32_3039
  let v3635 : BitVec 32 := Scalar.addi c0_i32_3040 v3634
  v3635.toNat
def k0_dev112 (d0 : Dev nD) : Nat :=
  let c0_i32_3064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3063 : BitVec 32 := 1#32
  let v3658 : BitVec 32 := Scalar.muli v163 c1_i32_3063
  let v3659 : BitVec 32 := Scalar.addi c0_i32_3064 v3658
  v3659.toNat
def k0_dev113 (d0 : Dev nD) : Nat :=
  let c0_i32_3075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3074 : BitVec 32 := 1#32
  let v3672 : BitVec 32 := Scalar.muli v241 c1_i32_3074
  let v3673 : BitVec 32 := Scalar.addi c0_i32_3075 v3672
  v3673.toNat
def k0_dev114 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3098 : BitVec 32 := 1#32
  let v3696 : BitVec 32 := Scalar.muli v163 c1_i32_3098
  let v3697 : BitVec 32 := Scalar.addi c0_i32_3099 v3696
  v3697.toNat
def k0_dev115 (d0 : Dev nD) : Nat :=
  let c0_i32_3123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3122 : BitVec 32 := 1#32
  let v3724 : BitVec 32 := Scalar.muli v85 c1_i32_3122
  let v3725 : BitVec 32 := Scalar.addi c0_i32_3123 v3724
  v3725.toNat
def k0_dev116 (d0 : Dev nD) : Nat :=
  let c0_i32_3134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3133 : BitVec 32 := 1#32
  let v3738 : BitVec 32 := Scalar.muli v85 c1_i32_3133
  let v3739 : BitVec 32 := Scalar.addi c0_i32_3134 v3738
  v3739.toNat
def k0_dev117 (d0 : Dev nD) : Nat :=
  let c0_i32_3143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3142 : BitVec 32 := 1#32
  let v3746 : BitVec 32 := Scalar.muli v241 c1_i32_3142
  let v3747 : BitVec 32 := Scalar.addi c0_i32_3143 v3746
  v3747.toNat
def k0_dev118 (d0 : Dev nD) : Nat :=
  let c0_i32_3167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3166 : BitVec 32 := 1#32
  let v3770 : BitVec 32 := Scalar.muli v163 c1_i32_3166
  let v3771 : BitVec 32 := Scalar.addi c0_i32_3167 v3770
  v3771.toNat
def k0_dev119 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3177 : BitVec 32 := 1#32
  let v3784 : BitVec 32 := Scalar.muli v241 c1_i32_3177
  let v3785 : BitVec 32 := Scalar.addi c0_i32_3178 v3784
  v3785.toNat
def k0_dev120 (d0 : Dev nD) : Nat :=
  let c0_i32_3202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3201 : BitVec 32 := 1#32
  let v3808 : BitVec 32 := Scalar.muli v163 c1_i32_3201
  let v3809 : BitVec 32 := Scalar.addi c0_i32_3202 v3808
  v3809.toNat
def k0_dev121 (d0 : Dev nD) : Nat :=
  let c0_i32_3226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3225 : BitVec 32 := 1#32
  let v3836 : BitVec 32 := Scalar.muli v85 c1_i32_3225
  let v3837 : BitVec 32 := Scalar.addi c0_i32_3226 v3836
  v3837.toNat
def k0_dev122 (d0 : Dev nD) : Nat :=
  let c0_i32_3237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3236 : BitVec 32 := 1#32
  let v3850 : BitVec 32 := Scalar.muli v85 c1_i32_3236
  let v3851 : BitVec 32 := Scalar.addi c0_i32_3237 v3850
  v3851.toNat
def k0_dev123 (d0 : Dev nD) : Nat :=
  let c0_i32_3246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3245 : BitVec 32 := 1#32
  let v3858 : BitVec 32 := Scalar.muli v241 c1_i32_3245
  let v3859 : BitVec 32 := Scalar.addi c0_i32_3246 v3858
  v3859.toNat
def k0_dev124 (d0 : Dev nD) : Nat :=
  let c0_i32_3270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3269 : BitVec 32 := 1#32
  let v3882 : BitVec 32 := Scalar.muli v163 c1_i32_3269
  let v3883 : BitVec 32 := Scalar.addi c0_i32_3270 v3882
  v3883.toNat
def k0_dev125 (d0 : Dev nD) : Nat :=
  let c0_i32_3281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3280 : BitVec 32 := 1#32
  let v3896 : BitVec 32 := Scalar.muli v241 c1_i32_3280
  let v3897 : BitVec 32 := Scalar.addi c0_i32_3281 v3896
  v3897.toNat
def k0_dev126 (d0 : Dev nD) : Nat :=
  let c0_i32_3305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3304 : BitVec 32 := 1#32
  let v3920 : BitVec 32 := Scalar.muli v163 c1_i32_3304
  let v3921 : BitVec 32 := Scalar.addi c0_i32_3305 v3920
  v3921.toNat
def k0_dev127 (d0 : Dev nD) : Nat :=
  let c0_i32_3329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3328 : BitVec 32 := 1#32
  let v3948 : BitVec 32 := Scalar.muli v85 c1_i32_3328
  let v3949 : BitVec 32 := Scalar.addi c0_i32_3329 v3948
  v3949.toNat
def k0_dev128 (d0 : Dev nD) : Nat :=
  let c0_i32_3340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3339 : BitVec 32 := 1#32
  let v3962 : BitVec 32 := Scalar.muli v85 c1_i32_3339
  let v3963 : BitVec 32 := Scalar.addi c0_i32_3340 v3962
  v3963.toNat
def k0_dev129 (d0 : Dev nD) : Nat :=
  let c0_i32_3349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3348 : BitVec 32 := 1#32
  let v3970 : BitVec 32 := Scalar.muli v241 c1_i32_3348
  let v3971 : BitVec 32 := Scalar.addi c0_i32_3349 v3970
  v3971.toNat
def k0_dev130 (d0 : Dev nD) : Nat :=
  let c0_i32_3373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3372 : BitVec 32 := 1#32
  let v3994 : BitVec 32 := Scalar.muli v163 c1_i32_3372
  let v3995 : BitVec 32 := Scalar.addi c0_i32_3373 v3994
  v3995.toNat
def k0_dev131 (d0 : Dev nD) : Nat :=
  let c0_i32_3384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3383 : BitVec 32 := 1#32
  let v4008 : BitVec 32 := Scalar.muli v241 c1_i32_3383
  let v4009 : BitVec 32 := Scalar.addi c0_i32_3384 v4008
  v4009.toNat
def k0_dev132 (d0 : Dev nD) : Nat :=
  let c0_i32_3408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3407 : BitVec 32 := 1#32
  let v4032 : BitVec 32 := Scalar.muli v163 c1_i32_3407
  let v4033 : BitVec 32 := Scalar.addi c0_i32_3408 v4032
  v4033.toNat
def k0_dev133 (d0 : Dev nD) : Nat :=
  let c0_i32_3432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3431 : BitVec 32 := 1#32
  let v4060 : BitVec 32 := Scalar.muli v85 c1_i32_3431
  let v4061 : BitVec 32 := Scalar.addi c0_i32_3432 v4060
  v4061.toNat
def k0_dev134 (d0 : Dev nD) : Nat :=
  let c0_i32_3443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3442 : BitVec 32 := 1#32
  let v4074 : BitVec 32 := Scalar.muli v85 c1_i32_3442
  let v4075 : BitVec 32 := Scalar.addi c0_i32_3443 v4074
  v4075.toNat
def k0_dev135 (d0 : Dev nD) : Nat :=
  let c0_i32_3452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3451 : BitVec 32 := 1#32
  let v4082 : BitVec 32 := Scalar.muli v241 c1_i32_3451
  let v4083 : BitVec 32 := Scalar.addi c0_i32_3452 v4082
  v4083.toNat
def k0_dev136 (d0 : Dev nD) : Nat :=
  let c0_i32_3476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3475 : BitVec 32 := 1#32
  let v4106 : BitVec 32 := Scalar.muli v163 c1_i32_3475
  let v4107 : BitVec 32 := Scalar.addi c0_i32_3476 v4106
  v4107.toNat
def k0_dev137 (d0 : Dev nD) : Nat :=
  let c0_i32_3487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3486 : BitVec 32 := 1#32
  let v4120 : BitVec 32 := Scalar.muli v241 c1_i32_3486
  let v4121 : BitVec 32 := Scalar.addi c0_i32_3487 v4120
  v4121.toNat
def k0_dev138 (d0 : Dev nD) : Nat :=
  let c0_i32_3511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3510 : BitVec 32 := 1#32
  let v4144 : BitVec 32 := Scalar.muli v163 c1_i32_3510
  let v4145 : BitVec 32 := Scalar.addi c0_i32_3511 v4144
  v4145.toNat
def k0_dev139 (d0 : Dev nD) : Nat :=
  let c0_i32_3535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3534 : BitVec 32 := 1#32
  let v4172 : BitVec 32 := Scalar.muli v85 c1_i32_3534
  let v4173 : BitVec 32 := Scalar.addi c0_i32_3535 v4172
  v4173.toNat
def k0_dev140 (d0 : Dev nD) : Nat :=
  let c0_i32_3546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3545 : BitVec 32 := 1#32
  let v4186 : BitVec 32 := Scalar.muli v85 c1_i32_3545
  let v4187 : BitVec 32 := Scalar.addi c0_i32_3546 v4186
  v4187.toNat
def k0_dev141 (d0 : Dev nD) : Nat :=
  let c0_i32_3555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3554 : BitVec 32 := 1#32
  let v4194 : BitVec 32 := Scalar.muli v241 c1_i32_3554
  let v4195 : BitVec 32 := Scalar.addi c0_i32_3555 v4194
  v4195.toNat
def k0_dev142 (d0 : Dev nD) : Nat :=
  let c0_i32_3579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3578 : BitVec 32 := 1#32
  let v4218 : BitVec 32 := Scalar.muli v163 c1_i32_3578
  let v4219 : BitVec 32 := Scalar.addi c0_i32_3579 v4218
  v4219.toNat
def k0_dev143 (d0 : Dev nD) : Nat :=
  let c0_i32_3590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3589 : BitVec 32 := 1#32
  let v4232 : BitVec 32 := Scalar.muli v241 c1_i32_3589
  let v4233 : BitVec 32 := Scalar.addi c0_i32_3590 v4232
  v4233.toNat
def k0_dev144 (d0 : Dev nD) : Nat :=
  let c0_i32_3614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3613 : BitVec 32 := 1#32
  let v4256 : BitVec 32 := Scalar.muli v163 c1_i32_3613
  let v4257 : BitVec 32 := Scalar.addi c0_i32_3614 v4256
  v4257.toNat
def k0_dev145 (d0 : Dev nD) : Nat :=
  let c0_i32_3638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3637 : BitVec 32 := 1#32
  let v4284 : BitVec 32 := Scalar.muli v85 c1_i32_3637
  let v4285 : BitVec 32 := Scalar.addi c0_i32_3638 v4284
  v4285.toNat
def k0_dev146 (d0 : Dev nD) : Nat :=
  let c0_i32_3649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3648 : BitVec 32 := 1#32
  let v4298 : BitVec 32 := Scalar.muli v85 c1_i32_3648
  let v4299 : BitVec 32 := Scalar.addi c0_i32_3649 v4298
  v4299.toNat
def k0_dev147 (d0 : Dev nD) : Nat :=
  let c0_i32_3658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3657 : BitVec 32 := 1#32
  let v4306 : BitVec 32 := Scalar.muli v241 c1_i32_3657
  let v4307 : BitVec 32 := Scalar.addi c0_i32_3658 v4306
  v4307.toNat
def k0_dev148 (d0 : Dev nD) : Nat :=
  let c0_i32_3682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3681 : BitVec 32 := 1#32
  let v4330 : BitVec 32 := Scalar.muli v163 c1_i32_3681
  let v4331 : BitVec 32 := Scalar.addi c0_i32_3682 v4330
  v4331.toNat
def k0_dev149 (d0 : Dev nD) : Nat :=
  let c0_i32_3693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3692 : BitVec 32 := 1#32
  let v4344 : BitVec 32 := Scalar.muli v241 c1_i32_3692
  let v4345 : BitVec 32 := Scalar.addi c0_i32_3693 v4344
  v4345.toNat
def k0_dev150 (d0 : Dev nD) : Nat :=
  let c0_i32_3717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3716 : BitVec 32 := 1#32
  let v4368 : BitVec 32 := Scalar.muli v163 c1_i32_3716
  let v4369 : BitVec 32 := Scalar.addi c0_i32_3717 v4368
  v4369.toNat
def k0_dev151 (d0 : Dev nD) : Nat :=
  let c0_i32_3741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3740 : BitVec 32 := 1#32
  let v4396 : BitVec 32 := Scalar.muli v85 c1_i32_3740
  let v4397 : BitVec 32 := Scalar.addi c0_i32_3741 v4396
  v4397.toNat
def k0_dev152 (d0 : Dev nD) : Nat :=
  let c0_i32_3752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3751 : BitVec 32 := 1#32
  let v4410 : BitVec 32 := Scalar.muli v85 c1_i32_3751
  let v4411 : BitVec 32 := Scalar.addi c0_i32_3752 v4410
  v4411.toNat
def k0_dev153 (d0 : Dev nD) : Nat :=
  let c0_i32_3761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3760 : BitVec 32 := 1#32
  let v4418 : BitVec 32 := Scalar.muli v241 c1_i32_3760
  let v4419 : BitVec 32 := Scalar.addi c0_i32_3761 v4418
  v4419.toNat
def k0_dev154 (d0 : Dev nD) : Nat :=
  let c0_i32_3785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3784 : BitVec 32 := 1#32
  let v4442 : BitVec 32 := Scalar.muli v163 c1_i32_3784
  let v4443 : BitVec 32 := Scalar.addi c0_i32_3785 v4442
  v4443.toNat
def k0_dev155 (d0 : Dev nD) : Nat :=
  let c0_i32_3796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3795 : BitVec 32 := 1#32
  let v4456 : BitVec 32 := Scalar.muli v241 c1_i32_3795
  let v4457 : BitVec 32 := Scalar.addi c0_i32_3796 v4456
  v4457.toNat
def k0_dev156 (d0 : Dev nD) : Nat :=
  let c0_i32_3820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3819 : BitVec 32 := 1#32
  let v4480 : BitVec 32 := Scalar.muli v163 c1_i32_3819
  let v4481 : BitVec 32 := Scalar.addi c0_i32_3820 v4480
  v4481.toNat
def k0_dev157 (d0 : Dev nD) : Nat :=
  let c0_i32_3844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3843 : BitVec 32 := 1#32
  let v4508 : BitVec 32 := Scalar.muli v85 c1_i32_3843
  let v4509 : BitVec 32 := Scalar.addi c0_i32_3844 v4508
  v4509.toNat
def k0_dev158 (d0 : Dev nD) : Nat :=
  let c0_i32_3855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3854 : BitVec 32 := 1#32
  let v4522 : BitVec 32 := Scalar.muli v85 c1_i32_3854
  let v4523 : BitVec 32 := Scalar.addi c0_i32_3855 v4522
  v4523.toNat
def k0_dev159 (d0 : Dev nD) : Nat :=
  let c0_i32_3864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3863 : BitVec 32 := 1#32
  let v4530 : BitVec 32 := Scalar.muli v241 c1_i32_3863
  let v4531 : BitVec 32 := Scalar.addi c0_i32_3864 v4530
  v4531.toNat
def k0_dev160 (d0 : Dev nD) : Nat :=
  let c0_i32_3888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3887 : BitVec 32 := 1#32
  let v4554 : BitVec 32 := Scalar.muli v163 c1_i32_3887
  let v4555 : BitVec 32 := Scalar.addi c0_i32_3888 v4554
  v4555.toNat
def k0_dev161 (d0 : Dev nD) : Nat :=
  let c0_i32_3899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3898 : BitVec 32 := 1#32
  let v4568 : BitVec 32 := Scalar.muli v241 c1_i32_3898
  let v4569 : BitVec 32 := Scalar.addi c0_i32_3899 v4568
  v4569.toNat
def k0_dev162 (d0 : Dev nD) : Nat :=
  let c0_i32_3923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3922 : BitVec 32 := 1#32
  let v4592 : BitVec 32 := Scalar.muli v163 c1_i32_3922
  let v4593 : BitVec 32 := Scalar.addi c0_i32_3923 v4592
  v4593.toNat
def k0_dev163 (d0 : Dev nD) : Nat :=
  let c0_i32_3947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3946 : BitVec 32 := 1#32
  let v4620 : BitVec 32 := Scalar.muli v85 c1_i32_3946
  let v4621 : BitVec 32 := Scalar.addi c0_i32_3947 v4620
  v4621.toNat
def k0_dev164 (d0 : Dev nD) : Nat :=
  let c0_i32_3958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_3957 : BitVec 32 := 1#32
  let v4634 : BitVec 32 := Scalar.muli v85 c1_i32_3957
  let v4635 : BitVec 32 := Scalar.addi c0_i32_3958 v4634
  v4635.toNat
def k0_dev165 (d0 : Dev nD) : Nat :=
  let c0_i32_3967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_3966 : BitVec 32 := 1#32
  let v4642 : BitVec 32 := Scalar.muli v241 c1_i32_3966
  let v4643 : BitVec 32 := Scalar.addi c0_i32_3967 v4642
  v4643.toNat
def k0_dev166 (d0 : Dev nD) : Nat :=
  let c0_i32_3991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_3990 : BitVec 32 := 1#32
  let v4666 : BitVec 32 := Scalar.muli v163 c1_i32_3990
  let v4667 : BitVec 32 := Scalar.addi c0_i32_3991 v4666
  v4667.toNat
def k0_dev167 (d0 : Dev nD) : Nat :=
  let c0_i32_4002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4001 : BitVec 32 := 1#32
  let v4680 : BitVec 32 := Scalar.muli v241 c1_i32_4001
  let v4681 : BitVec 32 := Scalar.addi c0_i32_4002 v4680
  v4681.toNat
def k0_dev168 (d0 : Dev nD) : Nat :=
  let c0_i32_4026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_4025 : BitVec 32 := 1#32
  let v4704 : BitVec 32 := Scalar.muli v163 c1_i32_4025
  let v4705 : BitVec 32 := Scalar.addi c0_i32_4026 v4704
  v4705.toNat
def k0_dev169 (d0 : Dev nD) : Nat :=
  let c0_i32_4050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4049 : BitVec 32 := 1#32
  let v4732 : BitVec 32 := Scalar.muli v85 c1_i32_4049
  let v4733 : BitVec 32 := Scalar.addi c0_i32_4050 v4732
  v4733.toNat
def k0_dev170 (d0 : Dev nD) : Nat :=
  let c0_i32_4061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4060 : BitVec 32 := 1#32
  let v4746 : BitVec 32 := Scalar.muli v85 c1_i32_4060
  let v4747 : BitVec 32 := Scalar.addi c0_i32_4061 v4746
  v4747.toNat
def k0_dev171 (d0 : Dev nD) : Nat :=
  let c0_i32_4070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4069 : BitVec 32 := 1#32
  let v4754 : BitVec 32 := Scalar.muli v241 c1_i32_4069
  let v4755 : BitVec 32 := Scalar.addi c0_i32_4070 v4754
  v4755.toNat
def k0_dev172 (d0 : Dev nD) : Nat :=
  let c0_i32_4094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_4093 : BitVec 32 := 1#32
  let v4778 : BitVec 32 := Scalar.muli v163 c1_i32_4093
  let v4779 : BitVec 32 := Scalar.addi c0_i32_4094 v4778
  v4779.toNat
def k0_dev173 (d0 : Dev nD) : Nat :=
  let c0_i32_4105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4104 : BitVec 32 := 1#32
  let v4792 : BitVec 32 := Scalar.muli v241 c1_i32_4104
  let v4793 : BitVec 32 := Scalar.addi c0_i32_4105 v4792
  v4793.toNat
def k0_dev174 (d0 : Dev nD) : Nat :=
  let c0_i32_4129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_4128 : BitVec 32 := 1#32
  let v4816 : BitVec 32 := Scalar.muli v163 c1_i32_4128
  let v4817 : BitVec 32 := Scalar.addi c0_i32_4129 v4816
  v4817.toNat
def k0_dev175 (d0 : Dev nD) : Nat :=
  let c0_i32_4153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4152 : BitVec 32 := 1#32
  let v4844 : BitVec 32 := Scalar.muli v85 c1_i32_4152
  let v4845 : BitVec 32 := Scalar.addi c0_i32_4153 v4844
  v4845.toNat
def k0_dev176 (d0 : Dev nD) : Nat :=
  let c0_i32_4164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4163 : BitVec 32 := 1#32
  let v4858 : BitVec 32 := Scalar.muli v85 c1_i32_4163
  let v4859 : BitVec 32 := Scalar.addi c0_i32_4164 v4858
  v4859.toNat
def k0_dev177 (d0 : Dev nD) : Nat :=
  let c0_i32_4173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4172 : BitVec 32 := 1#32
  let v4866 : BitVec 32 := Scalar.muli v241 c1_i32_4172
  let v4867 : BitVec 32 := Scalar.addi c0_i32_4173 v4866
  v4867.toNat
def k0_dev178 (d0 : Dev nD) : Nat :=
  let c0_i32_4197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_4196 : BitVec 32 := 1#32
  let v4890 : BitVec 32 := Scalar.muli v163 c1_i32_4196
  let v4891 : BitVec 32 := Scalar.addi c0_i32_4197 v4890
  v4891.toNat
def k0_dev179 (d0 : Dev nD) : Nat :=
  let c0_i32_4208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4207 : BitVec 32 := 1#32
  let v4904 : BitVec 32 := Scalar.muli v241 c1_i32_4207
  let v4905 : BitVec 32 := Scalar.addi c0_i32_4208 v4904
  v4905.toNat
def k0_dev180 (d0 : Dev nD) : Nat :=
  let c0_i32_4232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_39 : BitVec 32 := 1#32
  let v86 : BitVec 32 := Scalar.addi v84 c1_i32_39
  let c16_i32 : BitVec 32 := 16#32
  let c0_i32_40 : BitVec 32 := 0#32
  let v87 : BitVec 1 := Scalar.cmpi .eq c16_i32 c0_i32_40
  let c1_i32_41 : BitVec 32 := 1#32
  let v88 : BitVec 32 := Scalar.select v87 c1_i32_41 c16_i32
  let v89 : BitVec 32 := Scalar.remsi v86 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c0_i32_46 : BitVec 32 := 0#32
  let v98 : BitVec 1 := Scalar.cmpi .sgt v96 c0_i32_46
  let v99 : BitVec 32 := Scalar.extui v98
  let c0_i32_47 : BitVec 32 := 0#32
  let v100 : BitVec 1 := Scalar.cmpi .slt v96 c0_i32_47
  let v101 : BitVec 32 := Scalar.extui v100
  let v102 : BitVec 32 := Scalar.subi v99 v101
  let c4_i32_45 : BitVec 32 := 4#32
  let c0_i32_48 : BitVec 32 := 0#32
  let v103 : BitVec 1 := Scalar.cmpi .sgt c4_i32_45 c0_i32_48
  let v104 : BitVec 32 := Scalar.extui v103
  let c0_i32_49 : BitVec 32 := 0#32
  let v105 : BitVec 1 := Scalar.cmpi .slt c4_i32_45 c0_i32_49
  let v106 : BitVec 32 := Scalar.extui v105
  let v107 : BitVec 32 := Scalar.subi v104 v106
  let v108 : BitVec 1 := Scalar.cmpi .ne v102 v107
  let v109 : BitVec 32 := Scalar.remsi v96 c4_i32_45
  let c0_i32_50 : BitVec 32 := 0#32
  let v110 : BitVec 1 := Scalar.cmpi .ne v109 c0_i32_50
  let v111 : BitVec 1 := Scalar.andi v108 v110
  let v97 : BitVec 32 := Scalar.divsi v96 c4_i32_45
  let c1_i32_51 : BitVec 32 := 1#32
  let v112 : BitVec 32 := Scalar.subi v97 c1_i32_51
  let v113 : BitVec 32 := Scalar.select v111 v112 v97
  let c8_i32_72 : BitVec 32 := 8#32
  let v147 : BitVec 32 := Scalar.muli v113 c8_i32_72
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v113 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c4_i32_59 : BitVec 32 := 4#32
  let c0_i32_60 : BitVec 32 := 0#32
  let v125 : BitVec 1 := Scalar.cmpi .eq c4_i32_59 c0_i32_60
  let c1_i32_61 : BitVec 32 := 1#32
  let v126 : BitVec 32 := Scalar.select v125 c1_i32_61 c4_i32_59
  let v127 : BitVec 32 := Scalar.remsi v96 v126
  let c0_i32_63 : BitVec 32 := 0#32
  let v129 : BitVec 1 := Scalar.cmpi .slt v127 c0_i32_63
  let c0_i32_64 : BitVec 32 := 0#32
  let v130 : BitVec 1 := Scalar.cmpi .slt v126 c0_i32_64
  let v131 : BitVec 1 := Scalar.xori v129 v130
  let c0_i32_62 : BitVec 32 := 0#32
  let v128 : BitVec 1 := Scalar.cmpi .ne v127 c0_i32_62
  let v132 : BitVec 1 := Scalar.andi v131 v128
  let v133 : BitVec 32 := Scalar.addi v127 v126
  let v134 : BitVec 32 := Scalar.select v132 v133 v127
  let c3_i32_71 : BitVec 32 := 3#32
  let c4_i32_65 : BitVec 32 := 4#32
  let c0_i32_66 : BitVec 32 := 0#32
  let v135 : BitVec 1 := Scalar.cmpi .eq c4_i32_65 c0_i32_66
  let c1_i32_67 : BitVec 32 := 1#32
  let v136 : BitVec 32 := Scalar.select v135 c1_i32_67 c4_i32_65
  let v137 : BitVec 32 := Scalar.remsi v96 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let v145 : BitVec 32 := Scalar.subi c3_i32_71 v144
  let v146 : BitVec 32 := Scalar.select v124 v134 v145
  let c2_i32_73 : BitVec 32 := 2#32
  let v148 : BitVec 32 := Scalar.muli v146 c2_i32_73
  let v149 : BitVec 32 := Scalar.addi v147 v148
  let c2_i32_74 : BitVec 32 := 2#32
  let c0_i32_75 : BitVec 32 := 0#32
  let v150 : BitVec 1 := Scalar.cmpi .eq c2_i32_74 c0_i32_75
  let c1_i32_76 : BitVec 32 := 1#32
  let v151 : BitVec 32 := Scalar.select v150 c1_i32_76 c2_i32_74
  let v152 : BitVec 32 := Scalar.remsi v146 v151
  let c0_i32_78 : BitVec 32 := 0#32
  let v154 : BitVec 1 := Scalar.cmpi .slt v152 c0_i32_78
  let c0_i32_79 : BitVec 32 := 0#32
  let v155 : BitVec 1 := Scalar.cmpi .slt v151 c0_i32_79
  let v156 : BitVec 1 := Scalar.xori v154 v155
  let c0_i32_77 : BitVec 32 := 0#32
  let v153 : BitVec 1 := Scalar.cmpi .ne v152 c0_i32_77
  let v157 : BitVec 1 := Scalar.andi v156 v153
  let v158 : BitVec 32 := Scalar.addi v152 v151
  let v159 : BitVec 32 := Scalar.select v157 v158 v152
  let c0_i32_80 : BitVec 32 := 0#32
  let v160 : BitVec 1 := Scalar.cmpi .eq v159 c0_i32_80
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_81 : BitVec 32 := 1#32
  let v161 : BitVec 32 := Scalar.subi c1_i32_81 v69
  let v162 : BitVec 32 := Scalar.select v160 v69 v161
  let v163 : BitVec 32 := Scalar.addi v149 v162
  let c1_i32_4231 : BitVec 32 := 1#32
  let v4928 : BitVec 32 := Scalar.muli v163 c1_i32_4231
  let v4929 : BitVec 32 := Scalar.addi c0_i32_4232 v4928
  v4929.toNat
def k0_dev181 (d0 : Dev nD) : Nat :=
  let c0_i32_4256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4255 : BitVec 32 := 1#32
  let v4956 : BitVec 32 := Scalar.muli v85 c1_i32_4255
  let v4957 : BitVec 32 := Scalar.addi c0_i32_4256 v4956
  v4957.toNat
def k0_dev182 (d0 : Dev nD) : Nat :=
  let c0_i32_4267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4266 : BitVec 32 := 1#32
  let v4970 : BitVec 32 := Scalar.muli v85 c1_i32_4266
  let v4971 : BitVec 32 := Scalar.addi c0_i32_4267 v4970
  v4971.toNat
def k0_dev183 (d0 : Dev nD) : Nat :=
  let c0_i32_4276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4275 : BitVec 32 := 1#32
  let v4978 : BitVec 32 := Scalar.muli v241 c1_i32_4275
  let v4979 : BitVec 32 := Scalar.addi c0_i32_4276 v4978
  v4979.toNat
def k0_dev184 (d0 : Dev nD) : Nat :=
  let c0_i32_4285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v82 : BitVec 32 := Scalar.subi c3_i32 v46
  let v83 : BitVec 32 := Scalar.select v81 v46 v82
  let v84 : BitVec 32 := Scalar.addi v70 v83
  let c1_i32_82 : BitVec 32 := 1#32
  let v164 : BitVec 32 := Scalar.subi v84 c1_i32_82
  let c16_i32_83 : BitVec 32 := 16#32
  let c0_i32_84 : BitVec 32 := 0#32
  let v165 : BitVec 1 := Scalar.cmpi .eq c16_i32_83 c0_i32_84
  let c1_i32_85 : BitVec 32 := 1#32
  let v166 : BitVec 32 := Scalar.select v165 c1_i32_85 c16_i32_83
  let v167 : BitVec 32 := Scalar.remsi v164 v166
  let c0_i32_87 : BitVec 32 := 0#32
  let v169 : BitVec 1 := Scalar.cmpi .slt v167 c0_i32_87
  let c0_i32_88 : BitVec 32 := 0#32
  let v170 : BitVec 1 := Scalar.cmpi .slt v166 c0_i32_88
  let v171 : BitVec 1 := Scalar.xori v169 v170
  let c0_i32_86 : BitVec 32 := 0#32
  let v168 : BitVec 1 := Scalar.cmpi .ne v167 c0_i32_86
  let v172 : BitVec 1 := Scalar.andi v171 v168
  let v173 : BitVec 32 := Scalar.addi v167 v166
  let v174 : BitVec 32 := Scalar.select v172 v173 v167
  let c0_i32_90 : BitVec 32 := 0#32
  let v176 : BitVec 1 := Scalar.cmpi .sgt v174 c0_i32_90
  let v177 : BitVec 32 := Scalar.extui v176
  let c0_i32_91 : BitVec 32 := 0#32
  let v178 : BitVec 1 := Scalar.cmpi .slt v174 c0_i32_91
  let v179 : BitVec 32 := Scalar.extui v178
  let v180 : BitVec 32 := Scalar.subi v177 v179
  let c4_i32_89 : BitVec 32 := 4#32
  let c0_i32_92 : BitVec 32 := 0#32
  let v181 : BitVec 1 := Scalar.cmpi .sgt c4_i32_89 c0_i32_92
  let v182 : BitVec 32 := Scalar.extui v181
  let c0_i32_93 : BitVec 32 := 0#32
  let v183 : BitVec 1 := Scalar.cmpi .slt c4_i32_89 c0_i32_93
  let v184 : BitVec 32 := Scalar.extui v183
  let v185 : BitVec 32 := Scalar.subi v182 v184
  let v186 : BitVec 1 := Scalar.cmpi .ne v180 v185
  let v187 : BitVec 32 := Scalar.remsi v174 c4_i32_89
  let c0_i32_94 : BitVec 32 := 0#32
  let v188 : BitVec 1 := Scalar.cmpi .ne v187 c0_i32_94
  let v189 : BitVec 1 := Scalar.andi v186 v188
  let v175 : BitVec 32 := Scalar.divsi v174 c4_i32_89
  let c1_i32_95 : BitVec 32 := 1#32
  let v190 : BitVec 32 := Scalar.subi v175 c1_i32_95
  let v191 : BitVec 32 := Scalar.select v189 v190 v175
  let c8_i32_116 : BitVec 32 := 8#32
  let v225 : BitVec 32 := Scalar.muli v191 c8_i32_116
  let c2_i32_96 : BitVec 32 := 2#32
  let c0_i32_97 : BitVec 32 := 0#32
  let v192 : BitVec 1 := Scalar.cmpi .eq c2_i32_96 c0_i32_97
  let c1_i32_98 : BitVec 32 := 1#32
  let v193 : BitVec 32 := Scalar.select v192 c1_i32_98 c2_i32_96
  let v194 : BitVec 32 := Scalar.remsi v191 v193
  let c0_i32_100 : BitVec 32 := 0#32
  let v196 : BitVec 1 := Scalar.cmpi .slt v194 c0_i32_100
  let c0_i32_101 : BitVec 32 := 0#32
  let v197 : BitVec 1 := Scalar.cmpi .slt v193 c0_i32_101
  let v198 : BitVec 1 := Scalar.xori v196 v197
  let c0_i32_99 : BitVec 32 := 0#32
  let v195 : BitVec 1 := Scalar.cmpi .ne v194 c0_i32_99
  let v199 : BitVec 1 := Scalar.andi v198 v195
  let v200 : BitVec 32 := Scalar.addi v194 v193
  let v201 : BitVec 32 := Scalar.select v199 v200 v194
  let c0_i32_102 : BitVec 32 := 0#32
  let v202 : BitVec 1 := Scalar.cmpi .eq v201 c0_i32_102
  let c4_i32_103 : BitVec 32 := 4#32
  let c0_i32_104 : BitVec 32 := 0#32
  let v203 : BitVec 1 := Scalar.cmpi .eq c4_i32_103 c0_i32_104
  let c1_i32_105 : BitVec 32 := 1#32
  let v204 : BitVec 32 := Scalar.select v203 c1_i32_105 c4_i32_103
  let v205 : BitVec 32 := Scalar.remsi v174 v204
  let c0_i32_107 : BitVec 32 := 0#32
  let v207 : BitVec 1 := Scalar.cmpi .slt v205 c0_i32_107
  let c0_i32_108 : BitVec 32 := 0#32
  let v208 : BitVec 1 := Scalar.cmpi .slt v204 c0_i32_108
  let v209 : BitVec 1 := Scalar.xori v207 v208
  let c0_i32_106 : BitVec 32 := 0#32
  let v206 : BitVec 1 := Scalar.cmpi .ne v205 c0_i32_106
  let v210 : BitVec 1 := Scalar.andi v209 v206
  let v211 : BitVec 32 := Scalar.addi v205 v204
  let v212 : BitVec 32 := Scalar.select v210 v211 v205
  let c3_i32_115 : BitVec 32 := 3#32
  let c4_i32_109 : BitVec 32 := 4#32
  let c0_i32_110 : BitVec 32 := 0#32
  let v213 : BitVec 1 := Scalar.cmpi .eq c4_i32_109 c0_i32_110
  let c1_i32_111 : BitVec 32 := 1#32
  let v214 : BitVec 32 := Scalar.select v213 c1_i32_111 c4_i32_109
  let v215 : BitVec 32 := Scalar.remsi v174 v214
  let c0_i32_113 : BitVec 32 := 0#32
  let v217 : BitVec 1 := Scalar.cmpi .slt v215 c0_i32_113
  let c0_i32_114 : BitVec 32 := 0#32
  let v218 : BitVec 1 := Scalar.cmpi .slt v214 c0_i32_114
  let v219 : BitVec 1 := Scalar.xori v217 v218
  let c0_i32_112 : BitVec 32 := 0#32
  let v216 : BitVec 1 := Scalar.cmpi .ne v215 c0_i32_112
  let v220 : BitVec 1 := Scalar.andi v219 v216
  let v221 : BitVec 32 := Scalar.addi v215 v214
  let v222 : BitVec 32 := Scalar.select v220 v221 v215
  let v223 : BitVec 32 := Scalar.subi c3_i32_115 v222
  let v224 : BitVec 32 := Scalar.select v202 v212 v223
  let c2_i32_117 : BitVec 32 := 2#32
  let v226 : BitVec 32 := Scalar.muli v224 c2_i32_117
  let v227 : BitVec 32 := Scalar.addi v225 v226
  let c2_i32_118 : BitVec 32 := 2#32
  let c0_i32_119 : BitVec 32 := 0#32
  let v228 : BitVec 1 := Scalar.cmpi .eq c2_i32_118 c0_i32_119
  let c1_i32_120 : BitVec 32 := 1#32
  let v229 : BitVec 32 := Scalar.select v228 c1_i32_120 c2_i32_118
  let v230 : BitVec 32 := Scalar.remsi v224 v229
  let c0_i32_122 : BitVec 32 := 0#32
  let v232 : BitVec 1 := Scalar.cmpi .slt v230 c0_i32_122
  let c0_i32_123 : BitVec 32 := 0#32
  let v233 : BitVec 1 := Scalar.cmpi .slt v229 c0_i32_123
  let v234 : BitVec 1 := Scalar.xori v232 v233
  let c0_i32_121 : BitVec 32 := 0#32
  let v231 : BitVec 1 := Scalar.cmpi .ne v230 c0_i32_121
  let v235 : BitVec 1 := Scalar.andi v234 v231
  let v236 : BitVec 32 := Scalar.addi v230 v229
  let v237 : BitVec 32 := Scalar.select v235 v236 v230
  let c0_i32_124 : BitVec 32 := 0#32
  let v238 : BitVec 1 := Scalar.cmpi .eq v237 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v239 : BitVec 32 := Scalar.subi c1_i32_125 v69
  let v240 : BitVec 32 := Scalar.select v238 v69 v239
  let v241 : BitVec 32 := Scalar.addi v227 v240
  let c1_i32_4284 : BitVec 32 := 1#32
  let v4986 : BitVec 32 := Scalar.muli v241 c1_i32_4284
  let v4987 : BitVec 32 := Scalar.addi c0_i32_4285 v4986
  v4987.toNat
def k0_dev185 (d0 : Dev nD) : Nat :=
  let c0_i32_4307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4306 : BitVec 32 := 1#32
  let v5008 : BitVec 32 := Scalar.muli v85 c1_i32_4306
  let v5009 : BitVec 32 := Scalar.addi c0_i32_4307 v5008
  v5009.toNat
def k0_dev186 (d0 : Dev nD) : Nat :=
  let c0_i32_4318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4317 : BitVec 32 := 1#32
  let v5022 : BitVec 32 := Scalar.muli v85 c1_i32_4317
  let v5023 : BitVec 32 := Scalar.addi c0_i32_4318 v5022
  v5023.toNat
def k0_dev187 (d0 : Dev nD) : Nat :=
  let c0_i32_4327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v85 : BitVec 32 := Scalar.xori v2 c1_i32_38
  let c1_i32_4326 : BitVec 32 := 1#32
  let v5030 : BitVec 32 := Scalar.muli v85 c1_i32_4326
  let v5031 : BitVec 32 := Scalar.addi c0_i32_4327 v5030
  v5031.toNat
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.K.Body.lean ====
module

public import proofs.«01_k».proof.Proof.K.Macros
public import proofs.«01_k».proof.Proof.Gen.Kernel.Launch

/-! The printed body is the program of named steps. -/

@[expose] public section

noncomputable section

namespace Cert.Kernel.Pf

open Idealize.ShloMosaic Idealize.ShloMosaic.TcCoe Idealize.SL.Sem Cert.Kernel.Gen

variable {F : FTy → Type} [FloatOps F]

set_option maxRecDepth 1000000 in
theorem body_eq :
    cc0_body (F := F) bX (Memref.isWhole_whole _) bW (Memref.isWhole_whole _) bSx (Memref.isWhole_whole _) bSw (Memref.isWhole_whole _)
      bO (Memref.isWhole_whole _) bA (Memref.isWhole_whole _) bB (Memref.isWhole_whole _) bC (Memref.isWhole_whole _)
      cc0_scratch3 cc0_scratch4 cc0_scratch5 cc0_scratch6 cc0_scratch7 cc0_scratch8 cc0_scratch9 cc0_scratch10 cc0_scratch11 = body := by
  chain_rfl

end Cert.Kernel.Pf

end
-- ==== Proof.KI.Macros.lean ====
module

public import proofs.«01_k».proof.Proof.Gen.KernelIdeal.Skeleton
public import proofs.«01_k».proof.Proof.Gen.KernelIdeal.Points

/-! The kernel body as a program over a few named steps.

The printed body is one long straight line. Here it is written again as steps that take their loop index as a
parameter: a chunk of the local product, the start and the end of a transfer to the partner, the start and the end of a
transfer around the ring, the scaling of a half block, the closing waits. `Body.lean` proves that the printed body is
this program by unfolding both. -/

@[expose] public section

noncomputable section

namespace Cert.KernelIdeal.Pf

open Idealize.ShloMosaic Idealize.ShloMosaic.TcCoe Idealize.SL.Sem Cert.KernelIdeal.Gen

variable {F : FTy → Type} [FloatOps F]

/-! ## The buffers, the semaphores and the neighbours -/

abbrev bX : Memref sig .tc .vmem S4096x128 .i8 := Memref.whole cc0_stg0_0
abbrev bW : Memref sig .tc .vmem S128x2048 .i8 := Memref.whole cc0_stg1_0
abbrev bSx : Memref sig .tc .smem S1 .f32 := Memref.whole cc0_stg2_0
abbrev bSw : Memref sig .tc .smem S1 .f32 := Memref.whole cc0_stg3_0
abbrev bO : Memref sig .tc .vmem S4096x2048 .f32 := Memref.whole cc0_stg4_0
abbrev bA : Memref sig .tc .vmem S2x64x2048 .f32 := Memref.whole cc0_scratch0
abbrev bB : Memref sig .tc .vmem S2x64x2048 .f32 := Memref.whole cc0_scratch1
abbrev bC : Memref sig .tc .vmem S2x128x2048 .f32 := Memref.whole cc0_scratch2

/-- The device that holds the other half of the rows of the same ring position. -/
abbrev partner (d : Dev nD) : Dev nD := ⟨k0_dev1 d, k0_dev1_lt d⟩
/-- The previous and the next device of the ring. -/
abbrev ringL (d : Dev nD) : Dev nD := ⟨k0_dev2 d, k0_dev2_lt d⟩
abbrev ringR (d : Dev nD) : Dev nD := ⟨k0_dev3 d, k0_dev3_lt d⟩

theorem inbS2 (p : ℕ) (hp : p < 2) : ∀ a, (![p] : Fin 1 → ℕ) a + S1.size a ≤ S2.size a := by
  intro a; fin_cases a; simp; omega
theorem inbC (p : ℕ) (hp : p < 2) : ∀ a, (![p, 0, 0] : Fin 3 → ℕ) a + S1x128x2048.size a ≤ S2x128x2048.size a := by
  intro a; fin_cases a <;> simp; omega
theorem inbR (p : ℕ) (hp : p < 2) : ∀ a, (![p, 0, 0] : Fin 3 → ℕ) a + S1x64x2048.size a ≤ S2x64x2048.size a := by
  intro a; fin_cases a <;> simp; omega
theorem inbX (j : ℕ) (hj : j < 32) : ∀ a, (![128 * j, 0] : Fin 2 → ℕ) a + S128x128.size a ≤ S4096x128.size a := by
  intro a; fin_cases a <;> simp; omega
theorem inbO (j : ℕ) (hj : j < 32) : ∀ a, (![128 * j, 0] : Fin 2 → ℕ) a + S128x2048.size a ≤ S4096x2048.size a := by
  intro a; fin_cases a <;> simp; omega

theorem par_lt (n : ℕ) : n % 2 < 2 := Nat.mod_lt _ (by decide)

/-- Semaphore `n mod 2` of a pair. -/
abbrev semOf (s : DmaSems sig S2) (n : ℕ) : DmaSem sig :=
  ((s.slice (Rect.unit (s := S2) ![n % 2] S1.size (inbS2 _ (par_lt n)))).squeeze S_ squeezes_S1_S_).sem

/-- Slot `n mod 2` of the partner's receive buffer. -/
abbrev slotC (n : ℕ) : Memref sig .tc .vmem S128x2048 .f32 :=
  (bC.slice (Rect.unit (s := S2x128x2048) ![n % 2, 0, 0] S1x128x2048.size (inbC _ (par_lt n))) (fun _ => rfl)).squeeze
    S128x2048 squeezes_S1x128x2048_S128x2048
/-- Slot `n mod 2` of one ring receive buffer. -/
abbrev slotR (b : Memref sig .tc .vmem S2x64x2048 .f32) (n : ℕ) : Memref sig .tc .vmem S64x2048 .f32 :=
  (b.slice (Rect.unit (s := S2x64x2048) ![n % 2, 0, 0] S1x64x2048.size (inbR _ (par_lt n))) (fun _ => rfl)).squeeze
    S64x2048 squeezes_S1x64x2048_S64x2048

/-! ## The row ranges of the output -/

/-- Rows of the partner's block `q - k`, of the own block `q - k`, of half `h` of block `q - t`, of block `q - t - 1`, of
    block `q + 1`, of block `q + 1 - g`, and the whole rows of block `q + 1 - g`. -/
abbrev rP (d : Dev nD) (k : ℕ) (hk : k < 16) : Rect S4096x2048 :=
  Rect.unit (s := S4096x2048) (k0_off1 d (BitVec.ofNat 32 k)) S128x2048.size (k0_off1_inb d ⟨k, hk⟩)
abbrev rB (d : Dev nD) (k : ℕ) (hk : k < 16) : Rect S4096x2048 :=
  Rect.unit (s := S4096x2048) (k0_off2 d (BitVec.ofNat 32 k)) S128x2048.size (k0_off2_inb d ⟨k, hk⟩)
abbrev rS (d : Dev nD) (t : ℕ) (h : Fin 2) (ht : t < 15) : Rect S4096x2048 :=
  Rect.unit (s := S4096x2048) (k0_off3 d (BitVec.ofNat 32 t) (BitVec.ofNat 32 (64 * h.val))) S64x2048.size
    (k0_off3_inb d ⟨t, ht⟩ h)
abbrev rT (d : Dev nD) (t : ℕ) (h : Fin 2) (ht : t < 15) : Rect S4096x2048 :=
  Rect.unit (s := S4096x2048) (k0_off4 d (BitVec.ofNat 32 t) (BitVec.ofNat 32 (64 * h.val))) S64x2048.size
    (k0_off4_inb d ⟨t, ht⟩ h)
abbrev rE (d : Dev nD) (h : Fin 2) : Rect S4096x2048 :=
  Rect.unit (s := S4096x2048) (k0_off5 d (BitVec.ofNat 32 (64 * h.val))) S64x2048.size (k0_off5_inb d h)
abbrev rG (d : Dev nD) (g : ℕ) (h : Fin 2) (hg : g < 15) : Rect S4096x2048 :=
  Rect.unit (s := S4096x2048) (k0_off6 d (BitVec.ofNat 32 g) (BitVec.ofNat 32 (64 * h.val))) S64x2048.size
    (k0_off6_inb d ⟨g, hg⟩ h)
abbrev rQ (d : Dev nD) (g : ℕ) (hg : g < 16) : Rect S4096x2048 :=
  Rect.unit (s := S4096x2048) (k0_off7 d (BitVec.ofNat 32 g)) S128x2048.size (k0_off7_inb d ⟨g, hg⟩)

/-! ## The values stored -/

/-- A chunk of the local product. -/
def prodV (a : Vec F S128x128 .i8) (b : Vec F S128x2048 .i8) : FVec F S128x2048 .f32 :=
  sitofp .f32 (matmulI8 IntMxuNumerics.v7x dot_S128x128_S128x2048_S128x2048_1_0_0_1_n_n
    (shapeCast S128x128 a shapeCasts_S128x128_S128x128) (shapeCast S128x2048 b shapeCasts_S128x2048_S128x2048)
    (constantI S128x2048 32 0#32))

/-- A block plus what the partner sent. -/
def addC (a : Vec F S128x2048 .f32) (b : Vec F S1x128x2048 .f32) : FVec F S128x2048 .f32 :=
  addf (shapeCast S128x2048 a shapeCasts_S128x2048_S128x2048) (shapeCast S128x2048 b shapeCasts_S1x128x2048_S128x2048)

/-- A half block plus what the ring brought. -/
def addR (a : Vec F S64x2048 .f32) (b : Vec F S1x64x2048 .f32) : FVec F S64x2048 .f32 :=
  addf (shapeCast S64x2048 a shapeCasts_S64x2048_S64x2048) (shapeCast S64x2048 b shapeCasts_S1x64x2048_S64x2048)

/-- A half block times the scale. -/
def mulE (v : F .f32) (a : Vec F S64x2048 .f32) : FVec F S64x2048 .f32 :=
  mulf (shapeCast S64x2048 a shapeCasts_S64x2048_S64x2048) (broadcast S64x2048 v)

/-! ## The steps -/

/-- The programs of the kernel. -/
abbrev KProg (F : FTy → Type) [FloatOps F] (α : Type) := Prog (TpuEff nD τ sig (Elt F) Λ₀ .tc) α

/-- Rows `128 j …` of the local product. -/
def gemm (j : ℕ) (hj : j < 32) : KProg F PUnit := do
  let a : Vec F S128x128 .i8 ← Prog.lift (.load bX (Rect.unit (s := S4096x128) ![128 * j, 0] S128x128.size (inbX j hj)).toLoadRect (View.loadsAt_vmem h_S128x128))
  let b : Vec F S128x2048 .i8 ← Prog.lift (.load bW (Rect.unit (s := S128x2048) ![0, 0] S128x2048.size inb_S128x2048_S128x2048_0_0).toLoadRect (View.loadsAt_vmem h_S128x2048))
  let _c : Vec F S128x2048 .f32 ← Prog.lift (.load bO (Rect.unit (s := S4096x2048) ![128 * j, 0] S128x2048.size (inbO j hj)).toLoadRect (View.loadsAt_vmem h_S128x2048))
  Prog.lift (.store bO (Rect.unit (s := S4096x2048) ![128 * j, 0] S128x2048.size (inbO j hj)) (prodV a b) Finset.univ (View.stores_vmem_bits_univ h_S128x2048 rfl) (.inl rfl))

abbrev barS : Sem sig := (SemArray.scalar (sig.barrier 0 rfl) : Sems sig S_).sem

/-- The three neighbours are signalled and waited for. -/
def barrier (d : Dev nD) : KProg F PUnit := do
  semSignalWord (partner d) barS 1#32
  semSignalWord (ringL d) barS 1#32
  semSignalWord (ringR d) barS 1#32
  semWaitWord barS 3#32

/-! ### Views of the output and of the receive slots -/

abbrev vP (d : Dev nD) (k : ℕ) (hk : k < 16) : Memref sig .tc .vmem S128x2048 .f32 := bO.slice (rP d k hk) (fun _ => rfl)
abbrev vQ (d : Dev nD) (g : ℕ) (hg : g < 16) : Memref sig .tc .vmem S128x2048 .f32 := bO.slice (rQ d g hg) (fun _ => rfl)
abbrev vS (d : Dev nD) (t : ℕ) (h : Fin 2) (ht : t < 15) : Memref sig .tc .vmem S64x2048 .f32 := bO.slice (rS d t h ht) (fun _ => rfl)
abbrev vG (d : Dev nD) (g : ℕ) (h : Fin 2) (hg : g < 15) : Memref sig .tc .vmem S64x2048 .f32 := bO.slice (rG d g h hg) (fun _ => rfl)

/-- Every view of whole words: the element is a word. -/
theorem wx {sp : Space} {s : Shape} (m : Memref sig .tc sp s .f32) : m.view.WordExact := View.wordExact_bits rfl

/-! ### The transfers to the partner -/

/-- Start transfer `n` of rows `src` to `dst` on the partner. -/
def sendX (d : Dev nD) (n : ℕ) (src dst : Memref sig .tc .vmem S128x2048 .f32) : KProg F PUnit :=
  Prog.lift (.enqueueDma src (.remote (Dev.tc (partner d)) dst (.dma (semOf cc0_scratch7 n))) (.dma (semOf cc0_scratch8 n)) (wx src) (wx dst) ⟨⟨rfl, Or.inl rfl⟩, trivial⟩)

/-- Wait for the arrival of transfer `n`. -/
def recvX (n : ℕ) (src dst : Memref sig .tc .vmem S128x2048 .f32) : KProg F PUnit :=
  Prog.lift (.waitDma2 (semOf cc0_scratch8 n) src dst (wx src) (wx dst))

/-- Wait until transfer `n` has left. -/
def leftX (n : ℕ) (src dst : Memref sig .tc .vmem S128x2048 .f32) : KProg F PUnit :=
  Prog.lift (.waitDma2 (semOf cc0_scratch7 n) src dst (wx src) (wx dst))

def creditX (w : BitVec 32) : KProg F PUnit := semWaitWord cc0_scratch11.sem w
def freeX (d : Dev nD) : KProg F PUnit := semSignalWord (partner d) cc0_scratch11.sem 1#32

/-- Add what the partner sent to block `q - k`. -/
def accX (d : Dev nD) (k : ℕ) (hk : k < 16) : KProg F PUnit := do
  let a : Vec F S128x2048 .f32 ← Prog.lift (.load bO (rB d k hk).toLoadRect (View.loadsAt_vmem h_S128x2048))
  let b : Vec F S1x128x2048 .f32 ← Prog.lift (.load bC (Rect.unit (s := S2x128x2048) ![k % 2, 0, 0] S1x128x2048.size (inbC _ (par_lt k))).toLoadRect (View.loadsAt_vmem h_S1x128x2048))
  let _c : Vec F S128x2048 .f32 ← Prog.lift (.load bO (rB d k hk).toLoadRect (View.loadsAt_vmem h_S128x2048))
  Prog.lift (.store bO (rB d k hk) (addC a b) Finset.univ (View.stores_vmem_bits_univ h_S128x2048 rfl) (.inl rfl))

/-! ### The transfers around the ring, in half `h` -/

/-- The receive buffer, the two semaphore pairs and the credit semaphore of each half. -/
abbrev chB (h : Fin 2) : Memref sig .tc .vmem S2x64x2048 .f32 := match h with | 0 => bA | 1 => bB
abbrev chS (h : Fin 2) : DmaSems sig S2 := match h with | 0 => cc0_scratch3 | 1 => cc0_scratch5
abbrev chR (h : Fin 2) : DmaSems sig S2 := match h with | 0 => cc0_scratch4 | 1 => cc0_scratch6
abbrev chC (h : Fin 2) : Sems sig S_ := match h with | 0 => cc0_scratch9 | 1 => cc0_scratch10

def sendR (d : Dev nD) (n : ℕ) (h : Fin 2) (src dst : Memref sig .tc .vmem S64x2048 .f32) : KProg F PUnit :=
  Prog.lift (.enqueueDma src (.remote (Dev.tc (ringR d)) dst (.dma (semOf (chS h) n))) (.dma (semOf (chR h) n)) (wx src) (wx dst) ⟨⟨rfl, Or.inl rfl⟩, trivial⟩)

def recvR (n : ℕ) (h : Fin 2) (src dst : Memref sig .tc .vmem S64x2048 .f32) : KProg F PUnit :=
  Prog.lift (.waitDma2 (semOf (chR h) n) src dst (wx src) (wx dst))

def leftR (n : ℕ) (h : Fin 2) (src dst : Memref sig .tc .vmem S64x2048 .f32) : KProg F PUnit :=
  Prog.lift (.waitDma2 (semOf (chS h) n) src dst (wx src) (wx dst))

def creditR (h : Fin 2) (w : BitVec 32) : KProg F PUnit := semWaitWord (chC h).sem w
def freeR (d : Dev nD) (h : Fin 2) : KProg F PUnit := semSignalWord (ringL d) (chC h).sem 1#32

/-- Add what the ring brought to half `h` of block `q - t - 1`. -/
def accR (d : Dev nD) (t : ℕ) (h : Fin 2) (ht : t < 15) : KProg F PUnit := do
  let a : Vec F S64x2048 .f32 ← Prog.lift (.load bO (rT d t h ht).toLoadRect (View.loadsAt_vmem h_S64x2048))
  let b : Vec F S1x64x2048 .f32 ← Prog.lift (.load (chB h) (Rect.unit (s := S2x64x2048) ![t % 2, 0, 0] S1x64x2048.size (inbR _ (par_lt t))).toLoadRect (View.loadsAt_vmem h_S1x64x2048))
  let _c : Vec F S64x2048 .f32 ← Prog.lift (.load bO (rT d t h ht).toLoadRect (View.loadsAt_vmem h_S64x2048))
  Prog.lift (.store bO (rT d t h ht) (addR a b) Finset.univ (View.stores_vmem_bits_univ h_S64x2048 rfl) (.inl rfl))

/-- Multiply half `h` of block `q + 1` by the scale. -/
def scaleE (d : Dev nD) (h : Fin 2) (v : F .f32) : KProg F PUnit := do
  let a : Vec F S64x2048 .f32 ← Prog.lift (.load bO (rE d h).toLoadRect (View.loadsAt_vmem h_S64x2048))
  let _c : Vec F S64x2048 .f32 ← Prog.lift (.load bO (rE d h).toLoadRect (View.loadsAt_vmem h_S64x2048))
  Prog.lift (.store bO (rE d h) (mulE v a) Finset.univ (View.stores_vmem_bits_univ h_S64x2048 rfl) (.inl rfl))

/-! ### The numbered steps -/

/-- End of the transfer `k` of the sum, and of the transfer `16 + g` of the results. -/
def xFin (d : Dev nD) (k : ℕ) (hk : k < 16) : KProg F PUnit := do
  recvX k (vP d k hk) (slotC k)
  accX d k hk
  freeX d
def xFinG (d : Dev nD) (g : ℕ) (hg : g < 16) : KProg F PUnit := do
  recvX g (vQ d g hg) (vQ d g hg)
  freeX d

/-- Start of transfer `k` of the sum, without and with the wait for transfer `k - 2`. -/
def xSend (d : Dev nD) (k : ℕ) (hk : k < 16) : KProg F PUnit := sendX d k (vP d k hk) (slotC k)
def xSend2 (d : Dev nD) (k : ℕ) (hk : k + 2 < 16) : KProg F PUnit := do
  leftX k (slotC k) (vP d k (by omega))
  creditX 1#32
  xSend d (k + 2) hk
/-- Start of the first two transfers of the results, and of a later one. -/
def xSendG (d : Dev nD) (g : ℕ) (hg : g < 16) : KProg F PUnit := sendX d g (vQ d g hg) (vQ d g hg)
def xSendG1 (d : Dev nD) (g : ℕ) (hg : g < 2) : KProg F PUnit := do
  leftX (14 + g) (slotC (14 + g)) (vP d (14 + g) (by omega))
  creditX 1#32
  xSendG d g (by omega)
def xSendG2 (d : Dev nD) (g : ℕ) (hg : g + 2 < 16) : KProg F PUnit := do
  leftX g (vQ d g (by omega)) (vQ d g (by omega))
  creditX 1#32
  xSendG d (g + 2) hg

/-- End of transfer `t` of the ring sum in half `h`, and of transfer `15 + g` of the results. -/
def rFin (d : Dev nD) (t : ℕ) (h : Fin 2) (ht : t < 15) : KProg F PUnit := do
  recvR t h (vS d t h ht) (slotR (chB h) t)
  accR d t h ht
  freeR d h
def rFinG (d : Dev nD) (g : ℕ) (h : Fin 2) (hg : g < 15) : KProg F PUnit := do
  recvR (15 + g) h (vG d g h hg) (vG d g h hg)
  freeR d h

def rSend (d : Dev nD) (t : ℕ) (h : Fin 2) (ht : t < 15) : KProg F PUnit := sendR d t h (vS d t h ht) (slotR (chB h) t)
def rSend2 (d : Dev nD) (t : ℕ) (h : Fin 2) (ht : t + 2 < 15) : KProg F PUnit := do
  leftR t h (slotR (chB h) t) (vS d t h (by omega))
  creditR h 1#32
  rSend d (t + 2) h ht
def rSendG (d : Dev nD) (g : ℕ) (h : Fin 2) (hg : g < 15) : KProg F PUnit := sendR d (15 + g) h (vG d g h hg) (vG d g h hg)
def rSendG1 (d : Dev nD) (g : ℕ) (h : Fin 2) (hg : g < 2) : KProg F PUnit := do
  leftR (13 + g) h (slotR (chB h) (13 + g)) (vS d (13 + g) h (by omega))
  creditR h 1#32
  rSendG d g h (by omega)
def rSendG2 (d : Dev nD) (g : ℕ) (h : Fin 2) (hg : g + 2 < 15) : KProg F PUnit := do
  leftR (15 + g) h (vG d g h (by omega)) (vG d g h (by omega))
  creditR h 1#32
  rSendG d (g + 2) h hg

/-! ### The rounds -/

/-- All 32 chunks of the local product, from chunk `32 - n` on. -/
def gemms : (n : ℕ) → n ≤ 32 → KProg F PUnit
  | 0, _ => pure ⟨⟩
  | n + 1, h => do gemm (31 - n) (by omega); gemms n (by omega)

/-- The start: the barrier and the first transfers. -/
def opening (d : Dev nD) : KProg F PUnit := do
  barrier d
  xSend d 0 (by decide); xSend d 1 (by decide); xFin d 0 (by decide)
  rSend d 0 0 (by decide); rSend d 0 1 (by decide)

def iter0 (d : Dev nD) : KProg F PUnit := do
  rFin d 0 0 (by decide); xSend2 d 0 (by decide); xFin d 1 (by decide); rSend d 1 0 (by decide)
  rFin d 0 1 (by decide); rSend d 1 1 (by decide)

/-- Round `n + 1` of the sum. -/
def iterR (d : Dev nD) (n : ℕ) (hn : n < 13) : KProg F PUnit := do
  rFin d (n + 1) 0 (by omega); xSend2 d (n + 1) (by omega); xFin d (n + 2) (by omega); rSend2 d n 0 (by omega)
  rFin d (n + 1) 1 (by omega); rSend2 d n 1 (by omega)

def itersR (d : Dev nD) : (n : ℕ) → n ≤ 13 → KProg F PUnit
  | 0, _ => pure ⟨⟩
  | n + 1, h => do iterR d (12 - n) (by omega); itersR d n (by omega)

/-- The last round of the sum, in which the finished block is scaled and its first transfers start. -/
def iter14 (d : Dev nD) (v : F .f32) : KProg F PUnit := do
  rFin d 14 0 (by decide); xFin d 15 (by decide); scaleE d 0 v; rSendG1 d 0 0 (by decide)
  rFin d 14 1 (by decide); scaleE d 1 v; rSendG1 d 0 1 (by decide); xSendG1 d 0 (by decide)

/-- The first round of the results. -/
def iter15 (d : Dev nD) : KProg F PUnit := do
  rFinG d 0 0 (by decide); rSendG1 d 1 0 (by decide); rFinG d 0 1 (by decide); rSendG1 d 1 1 (by decide)
  xSendG1 d 1 (by decide); xFinG d 0 (by decide)

/-- Round `n + 1` of the results. -/
def iterG (d : Dev nD) (n : ℕ) (hn : n < 13) : KProg F PUnit := do
  rFinG d (n + 1) 0 (by omega); rSendG2 d n 0 (by omega); rFinG d (n + 1) 1 (by omega); rSendG2 d n 1 (by omega)
  xSendG2 d n (by omega); xFinG d (n + 1) (by omega)

def itersG (d : Dev nD) : (n : ℕ) → n ≤ 13 → KProg F PUnit
  | 0, _ => pure ⟨⟩
  | n + 1, h => do iterG d (12 - n) (by omega); itersG d n (by omega)

def iter29 (d : Dev nD) : KProg F PUnit := do
  rFinG d 14 0 (by decide); rFinG d 14 1 (by decide); xSendG2 d 13 (by decide); xFinG d 14 (by decide)

/-- The last arrival, the credits left over, and the departures not yet waited for. -/
def closing (d : Dev nD) : KProg F PUnit := do
  xFinG d 15 (by decide)
  creditR 0 2#32; creditR 1 2#32; creditX 2#32
  leftR 28 0 (vG d 13 0 (by decide)) (vG d 13 0 (by decide)); leftR 29 0 (vG d 14 0 (by decide)) (vG d 14 0 (by decide))
  leftR 28 1 (vG d 13 1 (by decide)) (vG d 13 1 (by decide)); leftR 29 1 (vG d 14 1 (by decide)) (vG d 14 1 (by decide))
  leftX 14 (vQ d 14 (by decide)) (vQ d 14 (by decide)); leftX 15 (vQ d 15 (by decide)) (vQ d 15 (by decide))

/-- Everything after the local product. -/
def rounds (d : Dev nD) (v : F .f32) : KProg F PUnit := do
  opening d; iter0 d; itersR d 13 (by decide); iter14 d v; iter15 d; itersG d 13 (by decide); iter29 d; closing d

/-- The whole body. -/
def body : KProg F PUnit := do
  let d : Dev nD ← Prog.lift .deviceId
  let a : Elt F .f32 ← smemLoad bSx (Rect.unit (s := S1) ![0] S1.size inb_S1_S1_0) numel1_S1 rfl
  let b : Elt F .f32 ← smemLoad bSw (Rect.unit (s := S1) ![0] S1.size inb_S1_S1_0) numel1_S1 rfl
  gemms 32 (by decide)
  rounds d (Scalar.mulf a b)

end Cert.KernelIdeal.Pf

end
-- ==== Proof.KI.Geo.lean ====
module

public import proofs.«01_k».proof.Proof.KI.Macros
public import Idealize.ShloMosaic.Lib.Pipeline.Launch
public import Idealize.ShloMosaic.Lib.Pipeline.ValueKit
public import Idealize.ShloMosaic.Lib.Release

/-! The devices, and the rows of the output each step touches.

A device has a position `qq` on its ring (0 … 15) and a side `xc` (0 or 1). The 4096 rows of the output are 32 blocks of
128 rows; side `s` owns blocks `16 s … 16 s + 15`. For a device, `pos` counts how many steps back round the ring from its
own position a row's block lies. Every row range of the body is described by `own` (the side), `pos` and the half. -/

@[expose] public section

noncomputable section

namespace Cert.KernelIdeal.Pf

open Idealize.ShloMosaic Idealize.ShloMosaic.TcCoe Idealize.SL.Sem Cert.KernelIdeal.Gen
open Idealize.SL Idealize.SL.RA Idealize.SL.BI
open scoped Idealize.SL.BI
open Idealize.SL.BI.BIBase Idealize.SL.BI.Laws Idealize.SL.ProofMode

variable {F : FTy → Type} [FloatOps F]

/-! ## Devices -/

/-- The side of a device. -/
def xc (d : Dev nD) : ℕ := if d.val % 8 / 2 % 2 = 0 then d.val % 2 else 1 - d.val % 2
/-- The ring position of a device. -/
def qq (d : Dev nD) : ℕ := d.val / 8 * 4 + if d.val / 8 % 2 = 0 then d.val % 8 / 2 else 3 - d.val % 8 / 2

theorem xc_lt : ∀ d : Dev nD, xc d < 2 := by decide +kernel
theorem qq_lt : ∀ d : Dev nD, qq d < 16 := by decide +kernel
theorem xc_partner : ∀ d : Dev nD, xc (partner d) = 1 - xc d := by decide +kernel
theorem qq_partner : ∀ d : Dev nD, qq (partner d) = qq d := by decide +kernel
theorem xc_ringL : ∀ d : Dev nD, xc (ringL d) = xc d := by decide +kernel
theorem xc_ringR : ∀ d : Dev nD, xc (ringR d) = xc d := by decide +kernel
theorem qq_ringL : ∀ d : Dev nD, qq (ringL d) = (qq d + 15) % 16 := by decide +kernel
theorem qq_ringR : ∀ d : Dev nD, qq (ringR d) = (qq d + 1) % 16 := by decide +kernel
theorem partner_partner : ∀ d : Dev nD, partner (partner d) = d := by decide +kernel
theorem ringL_ringR : ∀ d : Dev nD, ringL (ringR d) = d := by decide +kernel
theorem ringR_ringL : ∀ d : Dev nD, ringR (ringL d) = d := by decide +kernel
theorem partner_ne : ∀ d : Dev nD, partner d ≠ d := by decide +kernel
theorem ringL_ne : ∀ d : Dev nD, ringL d ≠ d := by decide +kernel
theorem ringR_ne : ∀ d : Dev nD, ringR d ≠ d := by decide +kernel
theorem ringL_ne_ringR : ∀ d : Dev nD, ringL d ≠ ringR d := by decide +kernel
theorem dev_ext : ∀ c d : Dev nD, xc c = xc d → qq c = qq d → c = d := by decide +kernel

/-! ## Closed forms of the row offsets -/

theorem off1_val : ∀ (d : Dev nD) (k : Fin 16), k0_off1 d (BitVec.ofNat 32 k) 0 = 128 * (16 * (1 - xc d) + (qq d + 16 - k) % 16)
    ∧ k0_off1 d (BitVec.ofNat 32 k) 1 = 0 := by decide +kernel
theorem off2_val : ∀ (d : Dev nD) (k : Fin 16), k0_off2 d (BitVec.ofNat 32 k) 0 = 128 * (16 * xc d + (qq d + 16 - k) % 16)
    ∧ k0_off2 d (BitVec.ofNat 32 k) 1 = 0 := by decide +kernel
theorem off3_val : ∀ (d : Dev nD) (t : Fin 15) (h : Fin 2), k0_off3 d (BitVec.ofNat 32 t) (BitVec.ofNat 32 (64 * h.val)) 0 = 128 * (16 * xc d + (qq d + 16 - t) % 16) + 64 * h
    ∧ k0_off3 d (BitVec.ofNat 32 t) (BitVec.ofNat 32 (64 * h.val)) 1 = 0 := by decide +kernel
theorem off4_val : ∀ (d : Dev nD) (t : Fin 15) (h : Fin 2), k0_off4 d (BitVec.ofNat 32 t) (BitVec.ofNat 32 (64 * h.val)) 0 = 128 * (16 * xc d + (qq d + 15 - t) % 16) + 64 * h
    ∧ k0_off4 d (BitVec.ofNat 32 t) (BitVec.ofNat 32 (64 * h.val)) 1 = 0 := by decide +kernel
theorem off5_val : ∀ (d : Dev nD) (h : Fin 2), k0_off5 d (BitVec.ofNat 32 (64 * h.val)) 0 = 128 * (16 * xc d + (qq d + 1) % 16) + 64 * h
    ∧ k0_off5 d (BitVec.ofNat 32 (64 * h.val)) 1 = 0 := by decide +kernel
theorem off6_val : ∀ (d : Dev nD) (g : Fin 15) (h : Fin 2), k0_off6 d (BitVec.ofNat 32 g) (BitVec.ofNat 32 (64 * h.val)) 0 = 128 * (16 * xc d + (qq d + 17 - g) % 16) + 64 * h
    ∧ k0_off6 d (BitVec.ofNat 32 g) (BitVec.ofNat 32 (64 * h.val)) 1 = 0 := by decide +kernel
theorem off7_val : ∀ (d : Dev nD) (g : Fin 16), k0_off7 d (BitVec.ofNat 32 g) 0 = 128 * (16 * xc d + (qq d + 17 - g) % 16)
    ∧ k0_off7 d (BitVec.ofNat 32 g) 1 = 0 := by decide +kernel

/-! ## Rows -/

/-- An element of the output: its row and column. -/
abbrev OIdx : Type := (S4096x2048 : Shape).Idx

def row (i : OIdx) : ℕ := (i 0).val
def col (i : OIdx) : ℕ := (i 1).val
theorem row_lt (i : OIdx) : row i < 4096 := (i 0).isLt
theorem col_lt (i : OIdx) : col i < 2048 := (i 1).isLt
theorem oidx_ext (i j : OIdx) (h0 : row i = row j) (h1 : col i = col j) : i = j := by
  funext a; fin_cases a
  · exact Fin.ext h0
  · exact Fin.ext h1

/-- Row `n` belongs to the side of device `d`; how far back its block lies from `d`; its half. -/
def own (d : Dev nD) (n : ℕ) : Prop := n / 2048 = xc d
def pos (d : Dev nD) (n : ℕ) : ℕ := (qq d + 16 - n / 128 % 16) % 16
def half (n : ℕ) : ℕ := n / 64 % 2
instance (d : Dev nD) (n : ℕ) : Decidable (own d n) := by unfold own; infer_instance

/-- The elements of the output whose row satisfies `p`. -/
def Rg (p : ℕ → Prop) : Finset OIdx := by classical exact Finset.univ.filter fun i => p (row i)
theorem mem_Rg {p : ℕ → Prop} {i : OIdx} : i ∈ Rg p ↔ p (row i) := by classical simp [Rg]
theorem Rg_congr {p p' : ℕ → Prop} (h : ∀ n, n < 4096 → (p n ↔ p' n)) : Rg p = Rg p' := by
  ext i; rw [mem_Rg, mem_Rg]; exact h _ (row_lt i)

/-- A range of whole rows. -/
theorem rect_rows (off : Fin 2 → ℕ) (size : Fin 2 → ℕ) (inb) (a n : ℕ) (h0 : off 0 = a) (h1 : off 1 = 0)
    (s0 : size 0 = n) (s1 : size 1 = 2048) :
    (Rect.unit (s := S4096x2048) off size inb).set = Rg fun r => a ≤ r ∧ r < a + n := by
  ext i
  rw [Rect.mem_set_unit, mem_Rg]
  have hc := col_lt i
  unfold row; unfold col at hc
  constructor
  · intro h; have := h 0; rw [h0, s0] at this; exact this
  · intro h b
    fin_cases b
    · show off 0 ≤ _ ∧ _ < off 0 + size 0; rw [h0, s0]; exact h
    · show off 1 ≤ _ ∧ _ < off 1 + size 1; rw [h1, s1]; exact ⟨Nat.zero_le _, by show (i 1).val < 0 + 2048; omega⟩

theorem set_rP (d : Dev nD) (k : ℕ) (hk : k < 16) : (rP d k hk).set = Rg fun n => ¬ own d n ∧ pos d n = k := by
  rw [rect_rows _ _ _ _ 128 (off1_val d ⟨k, hk⟩).1 (off1_val d ⟨k, hk⟩).2 rfl rfl]
  refine Rg_congr fun n hn => ?_
  have := xc_lt d; have := qq_lt d
  unfold own pos; simp only; omega
theorem set_rB (d : Dev nD) (k : ℕ) (hk : k < 16) : (rB d k hk).set = Rg fun n => own d n ∧ pos d n = k := by
  rw [rect_rows _ _ _ _ 128 (off2_val d ⟨k, hk⟩).1 (off2_val d ⟨k, hk⟩).2 rfl rfl]
  refine Rg_congr fun n hn => ?_
  have := xc_lt d; have := qq_lt d
  unfold own pos; simp only; omega
theorem set_rS (d : Dev nD) (t : ℕ) (h : Fin 2) (ht : t < 15) : (rS d t h ht).set = Rg fun n => own d n ∧ pos d n = t ∧ half n = h := by
  rw [rect_rows _ _ _ _ 64 (off3_val d ⟨t, ht⟩ h).1 (off3_val d ⟨t, ht⟩ h).2 rfl rfl]
  refine Rg_congr fun n hn => ?_
  have := xc_lt d; have := qq_lt d; have := h.isLt
  unfold own pos half; simp only; omega
theorem set_rT (d : Dev nD) (t : ℕ) (h : Fin 2) (ht : t < 15) : (rT d t h ht).set = Rg fun n => own d n ∧ pos d n = t + 1 ∧ half n = h := by
  rw [rect_rows _ _ _ _ 64 (off4_val d ⟨t, ht⟩ h).1 (off4_val d ⟨t, ht⟩ h).2 rfl rfl]
  refine Rg_congr fun n hn => ?_
  have := xc_lt d; have := qq_lt d; have := h.isLt
  unfold own pos half; simp only; omega
theorem set_rE (d : Dev nD) (h : Fin 2) : (rE d h).set = Rg fun n => own d n ∧ pos d n = 15 ∧ half n = h := by
  rw [rect_rows _ _ _ _ 64 (off5_val d h).1 (off5_val d h).2 rfl rfl]
  refine Rg_congr fun n hn => ?_
  have := xc_lt d; have := qq_lt d; have := h.isLt
  unfold own pos half; omega
theorem set_rG (d : Dev nD) (g : ℕ) (h : Fin 2) (hg : g < 15) : (rG d g h hg).set = Rg fun n => own d n ∧ (pos d n + 1) % 16 = g ∧ half n = h := by
  rw [rect_rows _ _ _ _ 64 (off6_val d ⟨g, hg⟩ h).1 (off6_val d ⟨g, hg⟩ h).2 rfl rfl]
  refine Rg_congr fun n hn => ?_
  have := xc_lt d; have := qq_lt d; have := h.isLt
  unfold own pos half; simp only; omega
theorem set_rQ (d : Dev nD) (g : ℕ) (hg : g < 16) : (rQ d g hg).set = Rg fun n => own d n ∧ (pos d n + 1) % 16 = g := by
  rw [rect_rows _ _ _ _ 128 (off7_val d ⟨g, hg⟩).1 (off7_val d ⟨g, hg⟩).2 rfl rfl]
  refine Rg_congr fun n hn => ?_
  have := xc_lt d; have := qq_lt d
  unfold own pos; simp only; omega

/-- What a neighbour's rows are here. -/
theorem own_ringL (d : Dev nD) (n : ℕ) : own (ringL d) n ↔ own d n := by unfold own; rw [xc_ringL]
theorem own_ringR (d : Dev nD) (n : ℕ) : own (ringR d) n ↔ own d n := by unfold own; rw [xc_ringR]
theorem own_partner (d : Dev nD) (n : ℕ) (hn : n < 4096) : own (partner d) n ↔ ¬ own d n := by
  have := xc_lt d; unfold own; rw [xc_partner]; omega
theorem pos_partner (d : Dev nD) (n : ℕ) : pos (partner d) n = pos d n := by unfold pos; rw [qq_partner]
theorem pos_ringL (d : Dev nD) (n : ℕ) : pos (ringL d) n = (pos d n + 15) % 16 := by
  have := qq_lt d; unfold pos; rw [qq_ringL]; omega
theorem pos_ringR (d : Dev nD) (n : ℕ) : pos (ringR d) n = (pos d n + 1) % 16 := by
  have := qq_lt d; unfold pos; rw [qq_ringR]; omega
theorem pos_lt (d : Dev nD) (n : ℕ) : pos d n < 16 := by unfold pos; omega
theorem half_lt (n : ℕ) : half n < 2 := by unfold half; omega

end Cert.KernelIdeal.Pf

end
-- ==== Proof.KI.Cont.lean ====
module

public import proofs.«01_k».proof.Proof.KI.Geo

/-! What the output holds along the way.

`Y` is a device's local product, `W d t` the partial sum a device sends round the ring in round `t`, and `OUT` the
finished result, the same on every device. The rest of the file says what each store leaves at the rows it writes. -/

@[expose] public section

noncomputable section

namespace Cert.KernelIdeal.Pf

open Idealize.ShloMosaic Idealize.ShloMosaic.TcCoe Idealize.SL.Sem Cert.KernelIdeal.Gen

variable {F : FTy → Type} [FloatOps F]

/-- The inputs of every device: its block of `x`, its block of `w` and the two scales. -/
structure Inp (F : FTy → Type) [FloatOps F] where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

/-- The contents of the output buffer. -/
abbrev OBuf (F : FTy → Type) [FloatOps F] : Type := (cc0_stg4_0 : Ref sig .tc).ty.Contents (Elt F)

/-- The scale read from the one element of a scalar input. -/
abbrev rSc : Rect S1 := Rect.unit (s := S1) ![0] S1.size inb_S1_S1_0
abbrev iSc : rSc.shape.Idx := Shape.Idx.first (by rw [show rSc.shape.numel = 1 from numel1_S1]; exact Nat.one_pos)

abbrev rXj (j : ℕ) (hj : j < 32) : Rect S4096x128 := Rect.unit (s := S4096x128) ![128 * j, 0] S128x128.size (inbX j hj)
abbrev rW0 : Rect S128x2048 := Rect.unit (s := S128x2048) ![0, 0] S128x2048.size inb_S128x2048_S128x2048_0_0
abbrev rOj (j : ℕ) (hj : j < 32) : Rect S4096x2048 := Rect.unit (s := S4096x2048) ![128 * j, 0] S128x2048.size (inbO j hj)

/-- Where an element of a block of 128 rows lies in it. -/
def loc128 (i : OIdx) : S128x2048.Idx := fun a => match a with
  | 0 => (⟨row i % 128, Nat.mod_lt _ (by decide)⟩ : Fin 128)
  | 1 => (⟨col i, col_lt i⟩ : Fin 2048)

theorem blk_lt (i : OIdx) : row i / 128 < 32 := by have := row_lt i; omega

namespace Inp
variable (I : Inp F)

/-- The scale of a device. -/
def sc (d : Dev nD) : F .f32 := Scalar.mulf ((bSx.access rSc).read (Elt F) (I.sx d) iSc) ((bSw.access rSc).read (Elt F) (I.sw d) iSc)

/-- Chunk `j` of the local product of a device. -/
def PV (d : Dev nD) (j : ℕ) (hj : j < 32) : FVec F S128x2048 .f32 :=
  prodV (bX.view.readAt (Elt F) (rXj j hj).toLoadRect (I.x d)) (bW.view.readAt (Elt F) rW0.toLoadRect (I.w d))

/-- The local product of a device. -/
def Y (d : Dev nD) : OBuf F := fun i => I.PV d (row i / 128) (blk_lt i) (loc128 i)

/-- The sum a device sends on in round `t`. -/
def W : ℕ → Dev nD → OBuf F
  | 0, d => fun i => FloatOps.addf (φ := .f32) (I.Y d i) (I.Y (partner d) i)
  | t + 1, d => fun i => if half (row i) = 0
      then FloatOps.addf (φ := .f32) (FloatOps.addf (φ := .f32) (I.Y d i) (W t (ringL d) i)) (I.Y (partner d) i)
      else FloatOps.addf (φ := .f32) (FloatOps.addf (φ := .f32) (I.Y d i) (I.Y (partner d) i)) (W t (ringL d) i)

end Inp

/-- The device on side `s` at ring position `q`. -/
def devOf (s q : ℕ) : Dev nD :=
  ⟨(q / 4 * 8 + (if q / 4 % 2 = 0 then q % 4 else 3 - q % 4) * 2
    + (if (if q / 4 % 2 = 0 then q % 4 else 3 - q % 4) % 2 = 0 then s else 1 - s)) % 32, Nat.mod_lt _ (by decide)⟩
theorem xc_devOf : ∀ s : Fin 2, ∀ q : Fin 16, xc (devOf s q) = s ∧ qq (devOf s q) = q := by decide +kernel

/-- The device that finishes the sum of a row. -/
def orig (i : OIdx) : Dev nD := devOf (row i / 2048) ((row i / 128 + 15) % 16)

theorem orig_eq (d : Dev nD) (i : OIdx) (h : own d (row i)) (hp : pos d (row i) = 15) : orig i = d := by
  have h0 := row_lt i; have := qq_lt d; have hx := xc_lt d
  have e := xc_devOf ⟨row i / 2048, by omega⟩ ⟨(row i / 128 + 15) % 16, by omega⟩
  refine dev_ext _ _ ?_ ?_
  · exact e.1.trans h
  · refine e.2.trans ?_; unfold pos at hp; simp only; omega

/-- The finished result. -/
def Inp.OUT (I : Inp F) : OBuf F := fun i => FloatOps.mulf (φ := .f32) (I.W 15 (orig i) i) (I.sc (orig i))

/-! ## The rows a neighbour's range names -/

theorem emb0 (off size : Fin 2 → ℕ) (inb) (x : (Rect.unit (s := S4096x2048) off size inb).shape.Idx) :
    row ((Rect.unit (s := S4096x2048) off size inb).emb x) = off 0 + (x 0).val := ValueKit.rect_emb_unit_val (s := S4096x2048) off size inb x 0
theorem emb1 (off size : Fin 2 → ℕ) (inb) (x : (Rect.unit (s := S4096x2048) off size inb).shape.Idx) :
    col ((Rect.unit (s := S4096x2048) off size inb).emb x) = off 1 + (x 1).val := ValueKit.rect_emb_unit_val (s := S4096x2048) off size inb x 1

theorem rS_ringL (d : Dev nD) (t : ℕ) (h : Fin 2) (ht : t < 15) (x : S64x2048.Idx) :
    (rS (ringL d) t h ht).emb x = (rT d t h ht).emb x := by
  have := qq_lt d
  refine oidx_ext _ _ ?_ ?_
  · rw [emb0, emb0, (off3_val (ringL d) ⟨t, ht⟩ h).1, (off4_val d ⟨t, ht⟩ h).1, xc_ringL, qq_ringL]
    simp only; omega
  · rw [emb1, emb1, (off3_val (ringL d) ⟨t, ht⟩ h).2, (off4_val d ⟨t, ht⟩ h).2]

theorem rP_partner (d : Dev nD) (k : ℕ) (hk : k < 16) (x : S128x2048.Idx) :
    (rP (partner d) k hk).emb x = (rB d k hk).emb x := by
  have := qq_lt d; have := xc_lt d
  refine oidx_ext _ _ ?_ ?_
  · rw [emb0, emb0, (off1_val (partner d) ⟨k, hk⟩).1, (off2_val d ⟨k, hk⟩).1, xc_partner, qq_partner]
    simp only; omega
  · rw [emb1, emb1, (off1_val (partner d) ⟨k, hk⟩).2, (off2_val d ⟨k, hk⟩).2]

/-! ## What the stores leave -/

theorem set_slice_bO (r : Rect S4096x2048) (hs : ∀ a, r.stride a = 1) : (bO.slice r hs).view.set = r.set := View.set_slice_whole _ _
theorem set_access_bO (r : Rect S4096x2048) : (bO.access r).set = r.set := View.set_slice_whole _ _

theorem rect_emb_of_mem {r : Rect S4096x2048} {i : OIdx} (hi : i ∈ r.set) : ∃ x, r.emb x = i := by
  rw [← set_access_bO] at hi
  obtain ⟨x, -, rfl⟩ := Finset.mem_map.mp hi
  exact ⟨x, rfl⟩

theorem acc_write_emb (r : Rect S4096x2048) (f : OBuf F) (w : r.shape.Idx → Elt F .f32) (x : r.shape.Idx) :
    (bO.access r).write (Elt F) f w Finset.univ (r.emb x) = w x :=
  View.read_slice_write_emb (v := View.whole cc0_stg4_0) r f w (Finset.mem_univ x)

theorem accR_on (d : Dev nD) (t : ℕ) (h : Fin 2) (ht : t < 15) (f : OBuf F) (gs) (w : OBuf F)
    (hg : (slotR (chB h) t).view.read (Elt F) gs = (vS (ringL d) t h ht).view.read (Elt F) w) :
    ∀ i ∈ (rT d t h ht).set,
      (bO.access (rT d t h ht)).write (Elt F) f
        (addR (bO.view.readAt (Elt F) (rT d t h ht).toLoadRect f)
          ((chB h).view.readAt (Elt F) (Rect.unit (s := S2x64x2048) ![t % 2, 0, 0] S1x64x2048.size (inbR _ (par_lt t))).toLoadRect gs)) Finset.univ i
      = FloatOps.addf (φ := .f32) (f i) (w i) := by
  intro i hi
  obtain ⟨x, rfl⟩ := rect_emb_of_mem hi
  rw [acc_write_emb]
  have e : shapeCast S64x2048 ((chB h).view.readAt (Elt F) (Rect.unit (s := S2x64x2048) ![t % 2, 0, 0] S1x64x2048.size (inbR _ (par_lt t))).toLoadRect gs) shapeCasts_S1x64x2048_S64x2048 x
      = w ((rS (ringL d) t h ht).emb x) := congrFun hg x
  rw [rS_ringL] at e
  show FloatOps.addf (φ := .f32) (shapeCast S64x2048 _ _ x) (shapeCast S64x2048 _ _ x) = _
  rw [e, shapeCast_self]
  rfl

theorem accX_on (d : Dev nD) (k : ℕ) (hk : k < 16) (f : OBuf F) (gs) (w : OBuf F)
    (hg : (slotC k).view.read (Elt F) gs = (vP (partner d) k hk).view.read (Elt F) w) :
    ∀ i ∈ (rB d k hk).set,
      (bO.access (rB d k hk)).write (Elt F) f
        (addC (bO.view.readAt (Elt F) (rB d k hk).toLoadRect f)
          (bC.view.readAt (Elt F) (Rect.unit (s := S2x128x2048) ![k % 2, 0, 0] S1x128x2048.size (inbC _ (par_lt k))).toLoadRect gs)) Finset.univ i
      = FloatOps.addf (φ := .f32) (f i) (w i) := by
  intro i hi
  obtain ⟨x, rfl⟩ := rect_emb_of_mem hi
  rw [acc_write_emb]
  have e : shapeCast S128x2048 (bC.view.readAt (Elt F) (Rect.unit (s := S2x128x2048) ![k % 2, 0, 0] S1x128x2048.size (inbC _ (par_lt k))).toLoadRect gs) shapeCasts_S1x128x2048_S128x2048 x
      = w ((rP (partner d) k hk).emb x) := congrFun hg x
  rw [rP_partner] at e
  show FloatOps.addf (φ := .f32) (shapeCast S128x2048 _ _ x) (shapeCast S128x2048 _ _ x) = _
  rw [e, shapeCast_self]
  rfl

theorem scale_on (d : Dev nD) (h : Fin 2) (v : F .f32) (f : OBuf F) :
    ∀ i ∈ (rE d h).set,
      (bO.access (rE d h)).write (Elt F) f (mulE v (bO.view.readAt (Elt F) (rE d h).toLoadRect f)) Finset.univ i
      = FloatOps.mulf (φ := .f32) (f i) v := by
  intro i hi
  obtain ⟨x, rfl⟩ := rect_emb_of_mem hi
  rw [acc_write_emb]
  show FloatOps.mulf (φ := .f32) (shapeCast S64x2048 _ _ x) _ = _
  rw [shapeCast_self]
  rfl

/-- A block copied over the same rows. -/
theorem copy_on (r : Rect S4096x2048) (hs : ∀ a, r.stride a = 1) (fd fs : OBuf F) :
    ∀ i ∈ (bO.slice r hs).view.set,
      (bO.slice r hs).view.write (Elt F) fd ((bO.slice r hs).view.read (Elt F) fs) Finset.univ i = fs i := by
  intro i hi
  obtain ⟨x, -, rfl⟩ := Finset.mem_map.mp hi
  exact View.read_slice_write_emb (v := View.whole cc0_stg4_0) r fd _ (Finset.mem_univ x)

theorem set_rOj (j : ℕ) (hj : j < 32) : (rOj j hj).set = Rg fun n => n / 128 = j := by
  rw [rect_rows _ _ _ (128 * j) 128 rfl rfl rfl rfl]
  refine Rg_congr fun n hn => ?_
  omega

theorem gemm_on (I : Inp F) (d : Dev nD) (j : ℕ) (hj : j < 32) (f : OBuf F) :
    ∀ i ∈ (rOj j hj).set, (bO.access (rOj j hj)).write (Elt F) f (I.PV d j hj) Finset.univ i = I.Y d i := by
  intro i hi
  obtain ⟨x, rfl⟩ := rect_emb_of_mem hi
  rw [acc_write_emb]
  have hx : (x 0).val < 128 := (x 0).isLt
  have e0 := emb0 _ _ (inbO j hj) x
  have e1 := emb1 _ _ (inbO j hj) x
  have e0' : row ((rOj j hj).emb x) = 128 * j + (x 0).val := e0
  have e1' : col ((rOj j hj).emb x) = (x 1).val := e1.trans (Nat.zero_add _)
  have hb : row ((rOj j hj).emb x) / 128 = j := by omega
  have hl : loc128 ((rOj j hj).emb x) = x := by
    funext a; fin_cases a
    · refine Fin.ext ?_; show row _ % 128 = (x 0).val; omega
    · exact Fin.ext e1'
  show _ = I.PV d (row ((rOj j hj).emb x) / 128) _ (loc128 ((rOj j hj).emb x))
  rw [hl]
  congr 1
  simp only [hb]

end Cert.KernelIdeal.Pf

end
-- ==== Proof.KI.Sched.lean ====
module

public import proofs.«01_k».proof.Proof.KI.Cont
public import proofs.«01_k».proof.Proof.Gen.KernelIdeal.Launch
public import Idealize.ShloMosaic.Lib.Pipeline.Kit
public import Idealize.ShloMosaic.Lib.Tactic

/-! The protocol of the devices.

Every device has sixteen semaphores: the barrier, two for departures and two for arrivals of each of the three channels
(to the partner, and round the ring in each half), and one credit counter per channel. The transfers of a channel use its
two semaphores in turn, so transfer `n` is round `n / 2` of semaphore `n mod 2`. A credit counter has a single round, in
which the receiver's `j`-th unit brings the news of everything it has given back so far. The slots given back are kept by
release keys: the reader of a slot releases its key, the next writer takes the slot. -/

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The resource algebra -/

/-- A release key: a device, a channel (the two ring halves, the partner) and a transfer of it. -/
abbrev Key : Type := Dev nD × Fin 3 × ℕ
abbrev UB : Type := URounds (GSem nD τ sig) ℕ
abbrev UK : Type := USlots Key
instance instURA_UK : URA UK := Prod.instURA
instance instURA_UBK : URA (UB × UK) := Prod.instURA
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EQ : Emb (UB × UK) (MT nD τ sig ℕ (Elt F) ℕ UU ℕ) := embR
abbrev ER : Emb UB (MT nD τ sig ℕ (Elt F) ℕ UU ℕ) := Emb.inl.trans EQ
abbrev EK : Emb UK (MT nD τ sig ℕ (Elt F) ℕ UU ℕ) := Emb.inr.trans EQ

/-! ## The semaphores -/

def csemN : ℕ → SemLoc sig
  | 0 => .reg barS
  | 1 => .dma (semOf cc0_scratch7 0) | 2 => .dma (semOf cc0_scratch7 1)
  | 3 => .dma (semOf cc0_scratch8 0) | 4 => .dma (semOf cc0_scratch8 1)
  | 5 => .dma (semOf cc0_scratch3 0) | 6 => .dma (semOf cc0_scratch3 1)
  | 7 => .dma (semOf cc0_scratch5 0) | 8 => .dma (semOf cc0_scratch5 1)
  | 9 => .dma (semOf cc0_scratch4 0) | 10 => .dma (semOf cc0_scratch4 1)
  | 11 => .dma (semOf cc0_scratch6 0) | 12 => .dma (semOf cc0_scratch6 1)
  | 13 => .reg cc0_scratch11.sem
  | 14 => .reg cc0_scratch9.sem
  | _ => .reg cc0_scratch10.sem

abbrev csem (k : Fin 16) : SemLoc sig := csemN k.val
abbrev kcell (ck : Dev nD × Fin 16) : GSem nD τ sig := ((ck.1 : Thread nD τ), csem ck.2)

/-- Which of the sixteen a semaphore is (16 if none). -/
def kd (s : SemLoc sig) : ℕ := ((List.finRange 16).find? fun k => decide (csem k = s)).elim 16 Fin.val

theorem csem_inj : ∀ k k' : Fin 16, csem k = csem k' → k = k' := by decide +kernel
theorem kd_csem : ∀ k : Fin 16, kd (csem k) = k.val := by decide +kernel

def kXS (n : ℕ) : Fin 16 := ⟨1 + n % 2, by omega⟩
def kXR (n : ℕ) : Fin 16 := ⟨3 + n % 2, by omega⟩
def kRS (h : Fin 2) (n : ℕ) : Fin 16 := ⟨5 + 2 * h.val + n % 2, by omega⟩
def kRR (h : Fin 2) (n : ℕ) : Fin 16 := ⟨9 + 2 * h.val + n % 2, by omega⟩
def kRC (h : Fin 2) : Fin 16 := ⟨14 + h.val, by omega⟩

theorem mod2_cases {P : ℕ → Prop} (n : ℕ) (h0 : P 0) (h1 : P 1) : P (n % 2) := by
  rcases Nat.mod_two_eq_zero_or_one n with h | h <;> rw [h] <;> assumption

theorem semOf_mod (s : DmaSems sig S2) (n : ℕ) : semOf s n = semOf s (n % 2) := by
  have H : ∀ p p' (hp : p < 2) (hp' : p' < 2), p = p' →
      ((s.slice (Rect.unit (s := S2) ![p] S1.size (inbS2 _ hp))).squeeze S_ squeezes_S1_S_).sem
        = ((s.slice (Rect.unit (s := S2) ![p'] S1.size (inbS2 _ hp'))).squeeze S_ squeezes_S1_S_).sem := by
    rintro p p' hp hp' rfl; rfl
  exact H _ _ (par_lt n) (par_lt (n % 2)) (Nat.mod_mod _ _).symm

theorem csem_XS (n : ℕ) : csem (kXS n) = .dma (semOf cc0_scratch7 n) := by
  rw [semOf_mod]; unfold csem kXS; exact mod2_cases (P := fun p => csemN (1 + p) = .dma (semOf cc0_scratch7 p)) n rfl rfl
theorem csem_XR (n : ℕ) : csem (kXR n) = .dma (semOf cc0_scratch8 n) := by
  rw [semOf_mod]; unfold csem kXR; exact mod2_cases (P := fun p => csemN (3 + p) = .dma (semOf cc0_scratch8 p)) n rfl rfl
theorem csem_RS (h : Fin 2) (n : ℕ) : csem (kRS h n) = .dma (semOf (chS h) n) := by
  rw [semOf_mod]; unfold csem kRS
  exact mod2_cases (P := fun p => csemN (5 + 2 * h.val + p) = .dma (semOf (chS h) p)) n (by fin_cases h <;> rfl) (by fin_cases h <;> rfl)
theorem csem_RR (h : Fin 2) (n : ℕ) : csem (kRR h n) = .dma (semOf (chR h) n) := by
  rw [semOf_mod]; unfold csem kRR
  exact mod2_cases (P := fun p => csemN (9 + 2 * h.val + p) = .dma (semOf (chR h) p)) n (by fin_cases h <;> rfl) (by fin_cases h <;> rfl)
theorem csem_RC (h : Fin 2) : csem (kRC h) = .reg (chC h).sem := by fin_cases h <;> rfl
theorem csem_XC : csem 13 = .reg cc0_scratch11.sem := rfl
theorem csem_bar : csem 0 = .reg barS := rfl

/-- The cells. -/
abbrev cBar (c : Dev nD) : GSem nD τ sig := kcell (c, 0)
abbrev cXS (c : Dev nD) (n : ℕ) : GSem nD τ sig := kcell (c, kXS n)
abbrev cXR (c : Dev nD) (n : ℕ) : GSem nD τ sig := kcell (c, kXR n)
abbrev cRS (c : Dev nD) (h : Fin 2) (n : ℕ) : GSem nD τ sig := kcell (c, kRS h n)
abbrev cRR (c : Dev nD) (h : Fin 2) (n : ℕ) : GSem nD τ sig := kcell (c, kRR h n)
abbrev cXC (c : Dev nD) : GSem nD τ sig := kcell (c, 13)
abbrev cRC (c : Dev nD) (h : Fin 2) : GSem nD τ sig := kcell (c, kRC h)

theorem kXS_two (n : ℕ) : kXS (n + 2) = kXS n := Fin.ext (by unfold kXS; simp only; omega)
theorem kXR_two (n : ℕ) : kXR (n + 2) = kXR n := Fin.ext (by unfold kXR; simp only; omega)
theorem kRS_two (h : Fin 2) (n : ℕ) : kRS h (n + 2) = kRS h n := Fin.ext (by unfold kRS; simp only; omega)
theorem kRR_two (h : Fin 2) (n : ℕ) : kRR h (n + 2) = kRR h n := Fin.ext (by unfold kRR; simp only; omega)

/-- The amounts of a transfer to the partner and of a transfer round the ring. -/
abbrev NX : ℕ := (slotC 0).view.dmaCredit
abbrev NR : ℕ := (slotR bA 0).view.dmaCredit
theorem NX_pos : 0 < NX := View.dmaCredit_pos _ (by decide)
theorem NR_pos : 0 < NR := View.dmaCredit_pos _ (by decide)

/-! ## Ownership -/

/-- The rows `p` of the output of device `c`, holding `f`. -/
def O (c : Dev nD) (p : ℕ → Prop) (q : PosShare TreeShare) (f : OBuf F) : sProp 𝕄 :=
  ((c : Thread nD τ).loc cc0_stg4_0) ↦[Rg p]{q} f

/-- A receive slot, at any contents. -/
def SlC (c : Dev nD) (n : ℕ) : sProp 𝕄 := slot ((slotC n).view.loc (c : Thread nD τ)) (slotC n).view.set
def SlR (c : Dev nD) (h : Fin 2) (n : ℕ) : sProp 𝕄 := slot ((slotR (chB h) n).view.loc (c : Thread nD τ)) (slotR (chB h) n).view.set

theorem slotC_congr (n n' : ℕ) (h : n % 2 = n' % 2) : slotC n = slotC n' := by
  have H : ∀ p p' (hp : p < 2) (hp' : p' < 2), p = p' →
      (bC.slice (Rect.unit (s := S2x128x2048) ![p, 0, 0] S1x128x2048.size (inbC _ hp)) (fun _ => rfl)).squeeze
          S128x2048 squeezes_S1x128x2048_S128x2048
        = (bC.slice (Rect.unit (s := S2x128x2048) ![p', 0, 0] S1x128x2048.size (inbC _ hp')) (fun _ => rfl)).squeeze
          S128x2048 squeezes_S1x128x2048_S128x2048 := by
    rintro p p' hp hp' rfl; rfl
  exact H _ _ (par_lt n) (par_lt n') h
theorem slotR_congr (b : Memref sig .tc .vmem S2x64x2048 .f32) (n n' : ℕ) (h : n % 2 = n' % 2) : slotR b n = slotR b n' := by
  have H : ∀ p p' (hp : p < 2) (hp' : p' < 2), p = p' →
      (b.slice (Rect.unit (s := S2x64x2048) ![p, 0, 0] S1x64x2048.size (inbR _ hp)) (fun _ => rfl)).squeeze
          S64x2048 squeezes_S1x64x2048_S64x2048
        = (b.slice (Rect.unit (s := S2x64x2048) ![p', 0, 0] S1x64x2048.size (inbR _ hp')) (fun _ => rfl)).squeeze
          S64x2048 squeezes_S1x64x2048_S64x2048 := by
    rintro p p' hp hp' rfl; rfl
  exact H _ _ (par_lt n) (par_lt n') h
theorem slotC_two (n : ℕ) : slotC (n + 2) = slotC n := slotC_congr _ _ (Nat.add_mod_right n 2)
theorem slotR_two (b : Memref sig .tc .vmem S2x64x2048 .f32) (n : ℕ) : slotR b (n + 2) = slotR b n := slotR_congr _ _ _ (Nat.add_mod_right n 2)
theorem SlC_two (c : Dev nD) (n : ℕ) : (SlC c (n + 2) : sProp 𝕄) = SlC c n := by unfold SlC; rw [slotC_two]
theorem SlR_two (c : Dev nD) (h : Fin 2) (n : ℕ) : (SlR c h (n + 2) : sProp 𝕄) = SlR c h n := by unfold SlR; rw [slotR_two]

/-- Rows of the own side in step `k`, in half `h`; of the other side; by transfer of the results. -/
abbrev pOwn (c : Dev nD) (k : ℕ) (h : Fin 2) (n : ℕ) : Prop := own c n ∧ pos c n = k ∧ half n = h
abbrev pRes (c : Dev nD) (g : ℕ) (h : Fin 2) (n : ℕ) : Prop := own c n ∧ (pos c n + 1) % 16 = g ∧ half n = h

/-! ## The release keys -/

def kyX (c : Dev nD) (n : ℕ) : Key := (c, 2, n)
def kyR (c : Dev nD) (h : Fin 2) (n : ℕ) : Key := (c, h.castSucc, n)

/-- What a key holds: a slot of the partner's or of a ring buffer, or the rows a ring transfer of the results lands in. -/
def keySlot (k : Key) : sProp 𝕄 :=
  if k.2.1 = 2 then SlC k.1 k.2.2
  else if k.2.2 < 13 then SlR k.1 (if k.2.1 = 0 then 0 else 1) k.2.2
  else slot ((k.1 : Thread nD τ).loc cc0_stg4_0) (Rg (pOwn k.1 (k.2.2 - 13) (if k.2.1 = 0 then 0 else 1)))

theorem keySlot_X (c : Dev nD) (n : ℕ) : (keySlot (kyX c n) : sProp 𝕄) = SlC c n := if_pos rfl
theorem castSucc_ne (h : Fin 2) : ¬ (h.castSucc = (2 : Fin 3)) := by revert h; decide
theorem kyR_if (h : Fin 2) : (if h.castSucc = (0 : Fin 3) then (0 : Fin 2) else 1) = h := by fin_cases h <;> rfl
theorem keySlot_R (c : Dev nD) (h : Fin 2) (n : ℕ) (hn : n < 13) : (keySlot (kyR c h n) : sProp 𝕄) = SlR c h n := by
  unfold keySlot kyR
  rw [if_neg (castSucc_ne h), if_pos hn, kyR_if]
theorem keySlot_O (c : Dev nD) (h : Fin 2) (n : ℕ) :
    (keySlot (kyR c h (n + 13)) : sProp 𝕄) = slot ((c : Thread nD τ).loc cc0_stg4_0) (Rg (pOwn c n h)) := by
  unfold keySlot kyR
  rw [if_neg (castSucc_ne h), if_neg (by simp), kyR_if]; rfl

instance keySlot_storable (k : Key) : BI.Storable (upEmb : UEmb _ 𝕄) (keySlot (F := F) k) := by
  unfold keySlot SlC SlR; (repeat' split) <;> infer_instance

/-! ## News of what a receiver has given back -/

/-- Transfer `i` to device `c` from its partner has been taken in, and its slot released. -/
def factX (c : Dev nD) (i : ℕ) : sProp 𝕄 := iprop(reached ER (cXR c i) (i / 2 + 1) ∗ if i < 14 then released EK (kyX c i) 1 else emp)
def factR (c : Dev nD) (h : Fin 2) (i : ℕ) : sProp 𝕄 := iprop(reached ER (cRR c h i) (i / 2 + 1) ∗ if i < 28 then released EK (kyR c h i) 1 else emp)

instance factX_persistent (c : Dev nD) (i : ℕ) : BI.Persistent (factX (F := F) c i) := by unfold factX; split <;> infer_instance
instance factR_persistent (c : Dev nD) (h : Fin 2) (i : ℕ) : BI.Persistent (factR (F := F) c h i) := by unfold factR; split <;> infer_instance
instance factX_storable (c : Dev nD) (i : ℕ) : BI.Storable (upEmb : UEmb _ 𝕄) (factX (F := F) c i) := by unfold factX; split <;> infer_instance
instance factR_storable (c : Dev nD) (h : Fin 2) (i : ℕ) : BI.Storable (upEmb : UEmb _ 𝕄) (factR (F := F) c h i) := by unfold factR; split <;> infer_instance

def evX (c : Dev nD) (n : ℕ) : sProp 𝕄 := bigSep (Finset.range n) (factX c)
def evR (c : Dev nD) (h : Fin 2) (n : ℕ) : sProp 𝕄 := bigSep (Finset.range n) (factR c h)
instance evX_persistent (c : Dev nD) (i : ℕ) : BI.Persistent (evX (F := F) c i) := by unfold evX; infer_instance
instance evR_persistent (c : Dev nD) (h : Fin 2) (i : ℕ) : BI.Persistent (evR (F := F) c h i) := by unfold evR; infer_instance
instance evX_storable (c : Dev nD) (i : ℕ) : BI.Storable (upEmb : UEmb _ 𝕄) (evX (F := F) c i) := by unfold evX; infer_instance
instance evR_storable (c : Dev nD) (h : Fin 2) (i : ℕ) : BI.Storable (upEmb : UEmb _ 𝕄) (evR (F := F) c h i) := by unfold evR; infer_instance

/-! ## What arrives with each duty -/

variable (I : Inp F)

def payXR (c : Dev nD) (n : ℕ) : sProp 𝕄 :=
  if hn : n < 16 then
    iprop((∃ g, ((slotC n).view.loc (c : Thread nD τ) ↦[(slotC n).view.set]{fullShare} g)
        ∗ ⌜(slotC n).view.read (Elt F) g = (vP (partner c) n hn).view.read (Elt F) (I.Y (partner c))⌝)
      ∗ O (partner c) (fun r => own c r ∧ pos c r = n) fullShare (I.Y (partner c)))
  else O c (fun r => ¬ own c r ∧ (pos c r + 1) % 16 = n - 16) fullShare I.OUT
def payXS (c : Dev nD) (n : ℕ) : sProp 𝕄 :=
  if n < 16 then iprop(emp) else O c (fun r => own c r ∧ (pos c r + 1) % 16 = n - 16) fullShare.right I.OUT
def payRR (c : Dev nD) (h : Fin 2) (n : ℕ) : sProp 𝕄 :=
  if hn : n < 15 then
    iprop(∃ g, ((slotR (chB h) n).view.loc (c : Thread nD τ) ↦[(slotR (chB h) n).view.set]{fullShare} g)
        ∗ ⌜(slotR (chB h) n).view.read (Elt F) g = (vS (ringL c) n h hn).view.read (Elt F) (I.W n (ringL c))⌝)
  else O c (pOwn c (n - 15) h) fullShare I.OUT
def payRS (c : Dev nD) (h : Fin 2) (n : ℕ) : sProp 𝕄 :=
  if n < 15 then O c (pOwn c n h) fullShare (I.W n c) else O c (pRes c (n - 15) h) fullShare.left I.OUT
def payBar (c : Dev nD) (d : ℕ) : sProp 𝕄 :=
  if d = 0 then iprop(SlC (partner c) 0 ∗ SlC (partner c) 1)
  else if d = 1 then iprop((SlR (ringR c) 0 0 ∗ SlR (ringR c) 0 1) ∗ (SlR (ringR c) 1 0 ∗ SlR (ringR c) 1 1))
  else iprop(emp)
def payXC (c : Dev nD) (d : ℕ) : sProp 𝕄 := evX (partner c) (d + 1)
def payRC (c : Dev nD) (h : Fin 2) (d : ℕ) : sProp 𝕄 := evR (ringR c) h (d + 1)

instance O_storable (c : Dev nD) (p q f) : BI.Storable (upEmb : UEmb _ 𝕄) (O (F := F) c p q f) := by unfold O; infer_instance
instance payXR_storable (c : Dev nD) (n : ℕ) : BI.Storable (upEmb : UEmb _ 𝕄) (payXR I c n) := by unfold payXR; split <;> infer_instance
instance payXS_storable (c : Dev nD) (n : ℕ) : BI.Storable (upEmb : UEmb _ 𝕄) (payXS I c n) := by unfold payXS; split <;> infer_instance
instance payRR_storable (c : Dev nD) (h) (n : ℕ) : BI.Storable (upEmb : UEmb _ 𝕄) (payRR I c h n) := by unfold payRR; split <;> infer_instance
instance payRS_storable (c : Dev nD) (h) (n : ℕ) : BI.Storable (upEmb : UEmb _ 𝕄) (payRS I c h n) := by unfold payRS; split <;> infer_instance
instance payBar_storable (c : Dev nD) (d : ℕ) : BI.Storable (upEmb : UEmb _ 𝕄) (payBar (F := F) c d) := by
  unfold payBar SlC SlR; (repeat' split) <;> infer_instance

def payK (k : ℕ) (c : Dev nD) (r d : ℕ) : sProp 𝕄 :=
  if k = 0 then payBar c d
  else if k < 3 then payXS I c (2 * r + (k - 1))
  else if k < 5 then payXR I c (2 * r + (k - 3))
  else if k < 9 then payRS I c (if k < 7 then 0 else 1) (2 * r + (k - 5) % 2)
  else if k < 13 then payRR I c (if k < 11 then 0 else 1) (2 * r + (k - 9) % 2)
  else if k = 13 then payXC c d
  else payRC c (if k = 14 then 0 else 1) d

instance payK_storable (k : ℕ) (c : Dev nD) (r d : ℕ) : BI.Storable (upEmb : UEmb _ 𝕄) (payK I k c r d) := by
  unfold payK payXC payRC; (repeat' split) <;> infer_instance

def dutK (k r : ℕ) : Finset ℕ :=
  if k = 0 then (if r = 0 then Finset.range 3 else ∅)
  else if k < 5 then (if r < 16 then {0} else ∅)
  else if k < 13 then (if r < 15 then {0} else ∅)
  else if k = 13 then (if r = 0 then Finset.range 32 else ∅)
  else if k < 16 then (if r = 0 then Finset.range 30 else ∅)
  else ∅
def amtK (k : ℕ) : ℕ := if k = 0 then 1 else if k < 5 then NX else if k < 13 then NR else 1
theorem amtK_pos (k : ℕ) : 0 < amtK k := by
  unfold amtK; split; · exact Nat.one_pos
  split; · exact NX_pos
  split; · exact NR_pos
  exact Nat.one_pos

def sched : Rounds.Schedule (GSem nD τ sig) ℕ 𝕄 where
  duties g r := if g.1.2 = .tc then dutK (kd g.2) r else ∅
  unitless _ := False
  amount g _ _ := amtK (kd g.2)
  payload g r d := payK I (kd g.2) g.1.1 r d
  amount_pos g _ _ _ := amtK_pos _

instance sched_storable (g : GSem nD τ sig) (r d : ℕ) : BI.Storable (upEmb : UEmb _ 𝕄) ((sched I).payload g r d) := by
  show BI.Storable upEmb (payK I (kd g.2) g.1.1 r d); infer_instance

theorem sd (c : Dev nD) (k : Fin 16) (r : ℕ) : (sched I).duties (kcell (c, k)) r = dutK k.val r := by
  show (if (kcell (c, k)).1.2 = .tc then dutK (kd (csem k)) r else ∅) = _
  rw [if_pos rfl, kd_csem]
theorem sa (c : Dev nD) (k : Fin 16) (r d : ℕ) : (sched I).amount (kcell (c, k)) r d = amtK k.val := by
  show amtK (kd (csem k)) = _; rw [kd_csem]
theorem sp (c : Dev nD) (k : Fin 16) (r d : ℕ) : (sched I).payload (kcell (c, k)) r d = payK I k.val c r d := by
  show payK I (kd (csem k)) _ _ _ = _; rw [kd_csem]

theorem expect_eq (c : Dev nD) (k : Fin 16) (r : ℕ) : (sched I).expect (kcell (c, k)) r = (dutK k.val r).card * amtK k.val := by
  unfold Schedule.expect Schedule.amountOf
  rw [sd, Finset.sum_congr rfl fun d _ => sa I c k r d, Finset.sum_const, smul_eq_mul]

theorem div_mod2 (n : ℕ) : 2 * (n / 2) + n % 2 = n := Nat.div_add_mod n 2

/-! ### The partner's channel -/
theorem dut_XS (c : Dev nD) (n : ℕ) (hn : n < 32) : (sched I).duties (cXS c n) (n / 2) = {0} := by
  rw [sd I c (kXS n)]; unfold dutK kXS; simp only
  rw [if_neg (by omega), if_pos (by omega), if_pos (by omega)]
theorem dut_XR (c : Dev nD) (n : ℕ) (hn : n < 32) : (sched I).duties (cXR c n) (n / 2) = {0} := by
  rw [sd I c (kXR n)]; unfold dutK kXR; simp only
  rw [if_neg (by omega), if_pos (by omega), if_pos (by omega)]
theorem amt_XS (c : Dev nD) (n r d : ℕ) : (sched I).amount (cXS c n) r d = NX := by
  rw [sa I c (kXS n)]; unfold amtK kXS; simp only
  rw [if_neg (by omega), if_pos (by omega)]
theorem amt_XR (c : Dev nD) (n r d : ℕ) : (sched I).amount (cXR c n) r d = NX := by
  rw [sa I c (kXR n)]; unfold amtK kXR; simp only
  rw [if_neg (by omega), if_pos (by omega)]
theorem pay_XS (c : Dev nD) (n d : ℕ) : (sched I).payload (cXS c n) (n / 2) d = payXS I c n := by
  rw [sp I c (kXS n)]; unfold payK kXS; simp only
  rw [if_neg (by omega), if_pos (by omega), show 2 * (n / 2) + (1 + n % 2 - 1) = n by omega]
theorem pay_XR (c : Dev nD) (n d : ℕ) : (sched I).payload (cXR c n) (n / 2) d = payXR I c n := by
  rw [sp I c (kXR n)]; unfold payK kXR; simp only
  rw [if_neg (by omega), if_neg (by omega), if_pos (by omega), show 2 * (n / 2) + (3 + n % 2 - 3) = n by omega]
theorem exp_XS (c : Dev nD) (n : ℕ) (hn : n < 32) : (sched I).expect (cXS c n) (n / 2) = NX := by
  unfold Schedule.expect Schedule.amountOf; rw [dut_XS I c n hn, Finset.sum_singleton, amt_XS]
theorem exp_XR (c : Dev nD) (n : ℕ) (hn : n < 32) : (sched I).expect (cXR c n) (n / 2) = NX := by
  unfold Schedule.expect Schedule.amountOf; rw [dut_XR I c n hn, Finset.sum_singleton, amt_XR]

/-! ### The ring's channels -/
theorem dut_RS (c : Dev nD) (h : Fin 2) (n : ℕ) (hn : n < 30) : (sched I).duties (cRS c h n) (n / 2) = {0} := by
  rw [sd I c (kRS h n)]; unfold dutK kRS; simp only
  rw [if_neg (by omega), if_neg (by omega), if_pos (by omega), if_pos (by omega)]
theorem dut_RR (c : Dev nD) (h : Fin 2) (n : ℕ) (hn : n < 30) : (sched I).duties (cRR c h n) (n / 2) = {0} := by
  rw [sd I c (kRR h n)]; unfold dutK kRR; simp only
  rw [if_neg (by omega), if_neg (by omega), if_pos (by omega), if_pos (by omega)]
theorem amt_RS (c : Dev nD) (h : Fin 2) (n r d : ℕ) : (sched I).amount (cRS c h n) r d = NR := by
  rw [sa I c (kRS h n)]; unfold amtK kRS; simp only
  rw [if_neg (by omega), if_neg (by omega), if_pos (by omega)]
theorem amt_RR (c : Dev nD) (h : Fin 2) (n r d : ℕ) : (sched I).amount (cRR c h n) r d = NR := by
  rw [sa I c (kRR h n)]; unfold amtK kRR; simp only
  rw [if_neg (by omega), if_neg (by omega), if_pos (by omega)]
theorem pay_RS (c : Dev nD) (h : Fin 2) (n d : ℕ) : (sched I).payload (cRS c h n) (n / 2) d = payRS I c h n := by
  rw [sp I c (kRS h n)]; unfold payK kRS; simp only
  have hh : (if 5 + 2 * h.val + n % 2 < 7 then (0 : Fin 2) else 1) = h := by
    fin_cases h
    · exact if_pos (by simp only; omega)
    · exact if_neg (by simp only; omega)
  rw [if_neg (by omega), if_neg (by omega), if_neg (by omega), if_pos (by omega), hh,
    show 2 * (n / 2) + (5 + 2 * h.val + n % 2 - 5) % 2 = n by omega]
theorem pay_RR (c : Dev nD) (h : Fin 2) (n d : ℕ) : (sched I).payload (cRR c h n) (n / 2) d = payRR I c h n := by
  rw [sp I c (kRR h n)]; unfold payK kRR; simp only
  have hh : (if 9 + 2 * h.val + n % 2 < 11 then (0 : Fin 2) else 1) = h := by
    fin_cases h
    · exact if_pos (by simp only; omega)
    · exact if_neg (by simp only; omega)
  rw [if_neg (by omega), if_neg (by omega), if_neg (by omega), if_neg (by omega), if_pos (by omega), hh,
    show 2 * (n / 2) + (9 + 2 * h.val + n % 2 - 9) % 2 = n by omega]
theorem exp_RS (c : Dev nD) (h : Fin 2) (n : ℕ) (hn : n < 30) : (sched I).expect (cRS c h n) (n / 2) = NR := by
  unfold Schedule.expect Schedule.amountOf; rw [dut_RS I c h n hn, Finset.sum_singleton, amt_RS]
theorem exp_RR (c : Dev nD) (h : Fin 2) (n : ℕ) (hn : n < 30) : (sched I).expect (cRR c h n) (n / 2) = NR := by
  unfold Schedule.expect Schedule.amountOf; rw [dut_RR I c h n hn, Finset.sum_singleton, amt_RR]

/-! ### The barrier and the credits -/
theorem dut_bar (c : Dev nD) : (sched I).duties (cBar c) 0 = Finset.range 3 := by rw [sd I c (0)]; rfl
theorem dut_XC (c : Dev nD) : (sched I).duties (cXC c) 0 = Finset.range 32 := by rw [sd I c (13)]; rfl
theorem dut_RC (c : Dev nD) (h : Fin 2) : (sched I).duties (cRC c h) 0 = Finset.range 30 := by
  rw [sd I c (kRC h)]; fin_cases h <;> rfl
theorem amt_bar (c : Dev nD) (r d : ℕ) : (sched I).amount (cBar c) r d = 1 := by rw [sa I c (0)]; rfl
theorem amt_XC (c : Dev nD) (r d : ℕ) : (sched I).amount (cXC c) r d = 1 := by rw [sa I c (13)]; rfl
theorem amt_RC (c : Dev nD) (h : Fin 2) (r d : ℕ) : (sched I).amount (cRC c h) r d = 1 := by rw [sa I c (kRC h)]; fin_cases h <;> rfl
theorem pay_bar (c : Dev nD) (d : ℕ) : (sched I).payload (cBar c) 0 d = payBar (F := F) c d := by rw [sp I c (0)]; rfl
theorem pay_XC (c : Dev nD) (r d : ℕ) : (sched I).payload (cXC c) r d = payXC (F := F) c d := by rw [sp I c (13)]; rfl
theorem pay_RC (c : Dev nD) (h : Fin 2) (r d : ℕ) : (sched I).payload (cRC c h) r d = payRC (F := F) c h d := by rw [sp I c (kRC h)]; fin_cases h <;> rfl
theorem exp_bar (c : Dev nD) : (sched I).expect (cBar c) 0 = 3 := by rw [expect_eq I c (0)]; rfl
theorem exp_XC (c : Dev nD) : (sched I).expect (cXC c) 0 = 32 := by rw [expect_eq I c (13)]; rfl
theorem exp_RC (c : Dev nD) (h : Fin 2) : (sched I).expect (cRC c h) 0 = 30 := by rw [expect_eq I c (kRC h)]; fin_cases h <;> rfl

/-- No cell has duties from round 16 on; the barrier and the credits have a single round; the ring's have fifteen. -/
theorem dut_late (c : Dev nD) (k : Fin 16) (r R : ℕ) (hr : R ≤ r) (hR : 16 ≤ R ∨ (15 ≤ R ∧ 5 ≤ k.val) ∨ (1 ≤ R ∧ (k.val = 0 ∨ 13 ≤ k.val))) :
    (sched I).duties (kcell (c, k)) r = ∅ := by
  rw [sd I c (k)]; unfold dutK
  repeat' split
  all_goals first | rfl | omega

end Cert.KernelIdeal.Pf

end
-- ==== Proof.KI.State.lean ====
module

public import proofs.«01_k».proof.Proof.KI.Sched

/-! What a device holds between two steps.

`Ow` is what it still has to pay the others, counted per channel; `ChX` and `ChR` are its tokens, positions and news on
the channel to the partner and on the ring channel of each half, counted in transfers started (`a`), departures waited for
(`l`), arrivals waited for (`r`), credits waited for (`q`) and credits given (`f`). -/

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- The weakest precondition of a program of device `c`. -/
abbrev WP (c : Dev nD) {α : Type} (p : KProg F α) (Q : α → sProp 𝕄) : sProp 𝕄 :=
  wp frame (wpE (defs₀ (F := F)) 𝒱₀ (c : Thread nD τ) none) Set.univ p Q

/-! ## What is owed -/

/-- The levels: the index of a wait. -/
def L (g : GSem nD τ sig) : Finset ℕ := if g.1.2 = .tc then Finset.range 64 else ∅
def lv (g : GSem nD τ sig) (i : ℕ) : ℕ := i

def tX (c : Dev nD) (n : ℕ) : CellTallies nD τ sig ℕ := tallyAt (cXR (partner c) n) (n + 2) NX
def tF (c : Dev nD) (n : ℕ) : CellTallies nD τ sig ℕ := tallyAt (cXC (partner c)) (n + 3) 1
def tS (c : Dev nD) (h : Fin 2) (n : ℕ) : CellTallies nD τ sig ℕ := tallyAt (cRR (ringR c) h n) (n + 3) NR
def tE (c : Dev nD) (h : Fin 2) (n : ℕ) : CellTallies nD τ sig ℕ := tallyAt (cRC (ringL c) h) (n + 4) 1

/-- What is owed with `a` transfers to the partner and `f` credits to it done, and `s h`, `e h` round the ring. -/
def owed (c : Dev nD) (a f : ℕ) (s e : Fin 2 → ℕ) : CellTallies nD τ sig ℕ :=
  ∑ n ∈ Finset.Ico a 32, tX c n + ∑ n ∈ Finset.Ico f 32, tF c n
    + (∑ n ∈ Finset.Ico (s 0) 30, tS c 0 n + ∑ n ∈ Finset.Ico (s 1) 30, tS c 1 n)
    + (∑ n ∈ Finset.Ico (e 0) 30, tE c 0 n + ∑ n ∈ Finset.Ico (e 1) 30, tE c 1 n)

/-- One more in half `h`. -/
abbrev up (s : Fin 2 → ℕ) (h : Fin 2) : Fin 2 → ℕ := Function.update s h (s h + 1)

theorem sum_Ico (f : ℕ → CellTallies nD τ sig ℕ) (n N : ℕ) (h : n < N) :
    ∑ i ∈ Finset.Ico n N, f i = ∑ i ∈ Finset.Ico (n + 1) N, f i + f n := by
  rw [Finset.sum_eq_sum_Ico_succ_bot h, add_comm]

theorem owed_X (c : Dev nD) (a f : ℕ) (s e) (h : a < 32) : owed c a f s e = owed c (a + 1) f s e + tX c a := by
  unfold owed; rw [sum_Ico _ _ _ h]; abel
theorem owed_F (c : Dev nD) (a f : ℕ) (s e) (h : f < 32) : owed c a f s e = owed c a (f + 1) s e + tF c f := by
  unfold owed; rw [sum_Ico _ _ _ h]; abel
theorem owed_S (c : Dev nD) (a f : ℕ) (s e) (h : Fin 2) (hs : s h < 30) : owed c a f s e = owed c a f (up s h) e + tS c h (s h) := by
  unfold owed
  fin_cases h
  · simp only [up, Function.update, Fin.zero_eta, ↓reduceDIte, Fin.isValue, one_ne_zero, eq_rec_constant, Fin.mk_zero] at *
    rw [sum_Ico _ _ _ hs]; abel
  · simp only [up, Function.update, Fin.isValue, zero_ne_one, ↓reduceDIte, eq_rec_constant, Fin.mk_one] at *
    rw [sum_Ico _ _ _ hs]; abel
theorem owed_E (c : Dev nD) (a f : ℕ) (s e) (h : Fin 2) (hs : e h < 30) : owed c a f s e = owed c a f s (up e h) + tE c h (e h) := by
  unfold owed
  fin_cases h
  · simp only [up, Function.update, Fin.zero_eta, ↓reduceDIte, Fin.isValue, one_ne_zero, eq_rec_constant, Fin.mk_zero] at *
    rw [sum_Ico _ _ _ hs]; abel
  · simp only [up, Function.update, Fin.isValue, zero_ne_one, ↓reduceDIte, eq_rec_constant, Fin.mk_one] at *
    rw [sum_Ico _ _ _ hs]; abel

/-- Everything owed has a level above `b`. -/
def Above (b a f : ℕ) (s e : Fin 2 → ℕ) : Prop :=
  (a < 32 → b < a + 2) ∧ (f < 32 → b < f + 3) ∧ (∀ h, s h < 30 → b < s h + 3) ∧ (∀ h, e h < 30 → b < e h + 4)

theorem sum_pos (f : ℕ → CellTallies nD τ sig ℕ) (n N : ℕ) (g : GSem nD τ sig) (i : ℕ)
    (h : 0 < (∑ k ∈ Finset.Ico n N, f k) g i) : ∃ k, n ≤ k ∧ k < N ∧ 0 < f k g i := by
  have e : (∑ k ∈ Finset.Ico n N, f k) g i = ∑ k ∈ Finset.Ico n N, f k g i := by
    rw [Finset.sum_apply, Finsupp.finset_sum_apply]
  rw [e] at h
  obtain ⟨k, hk, hp⟩ := Finset.exists_ne_zero_of_sum_ne_zero (Nat.pos_iff_ne_zero.mp h)
  exact ⟨k, (Finset.mem_Ico.mp hk).1, (Finset.mem_Ico.mp hk).2, Nat.pos_of_ne_zero hp⟩

theorem tally_pos {g₀ : GSem nD τ sig} {i₀ n : ℕ} {g : GSem nD τ sig} {i : ℕ} (h : 0 < tallyAt g₀ i₀ n g i) : g = g₀ ∧ i = i₀ := by
  rw [tallyAt_apply] at h
  by_contra hc
  rw [if_neg hc] at h
  exact Nat.lt_irrefl 0 h

/-- Where a positive entry of what is owed lies. -/
theorem owed_pos {c : Dev nD} {b a f : ℕ} {s e : Fin 2 → ℕ} (hA : Above b a f s e) {g : GSem nD τ sig} {i : ℕ}
    (h : 0 < owed c a f s e g i) : g.1.2 = .tc ∧ b < i ∧ i < 64 := by
  obtain ⟨h1, h2, h3, h4⟩ := hA
  have hz : owed c a f s e g i = (∑ n ∈ Finset.Ico a 32, tX c n) g i + (∑ n ∈ Finset.Ico f 32, tF c n) g i
      + ((∑ n ∈ Finset.Ico (s 0) 30, tS c 0 n) g i + (∑ n ∈ Finset.Ico (s 1) 30, tS c 1 n) g i)
      + ((∑ n ∈ Finset.Ico (e 0) 30, tE c 0 n) g i + (∑ n ∈ Finset.Ico (e 1) 30, tE c 1 n) g i) := rfl
  rw [hz] at h
  have key : ∀ (t : ℕ → CellTallies nD τ sig ℕ) (n N d : ℕ) (cell : ℕ → GSem nD τ sig) (am : ℕ),
      (∀ k, t k = tallyAt (cell k) (k + d) am) → (∀ k, (cell k).1.2 = .tc) → (n < N → b < n + d) → N + d ≤ 64 →
      0 < (∑ k ∈ Finset.Ico n N, t k) g i → g.1.2 = .tc ∧ b < i ∧ i < 64 := by
    intro t n N d cell am ht hc hb hN hp
    obtain ⟨k, hk1, hk2, hk3⟩ := sum_pos _ _ _ _ _ hp
    rw [ht] at hk3
    obtain ⟨rfl, rfl⟩ := tally_pos hk3
    have := hb (by omega)
    exact ⟨hc k, by omega, by omega⟩
  by_cases c1 : 0 < (∑ n ∈ Finset.Ico a 32, tX c n) g i
  · exact key _ _ _ _ _ _ (fun _ => rfl) (fun _ => rfl) h1 (by omega) c1
  by_cases c2 : 0 < (∑ n ∈ Finset.Ico f 32, tF c n) g i
  · exact key _ _ _ _ (fun _ => cXC (partner c)) _ (fun _ => rfl) (fun _ => rfl) h2 (by omega) c2
  by_cases c3 : 0 < (∑ n ∈ Finset.Ico (s 0) 30, tS c 0 n) g i
  · exact key _ _ _ _ _ _ (fun _ => rfl) (fun _ => rfl) (h3 0) (by omega) c3
  by_cases c4 : 0 < (∑ n ∈ Finset.Ico (s 1) 30, tS c 1 n) g i
  · exact key _ _ _ _ _ _ (fun _ => rfl) (fun _ => rfl) (h3 1) (by omega) c4
  by_cases c5 : 0 < (∑ n ∈ Finset.Ico (e 0) 30, tE c 0 n) g i
  · exact key _ _ _ _ (fun _ => cRC (ringL c) 0) _ (fun _ => rfl) (fun _ => rfl) (h4 0) (by omega) c5
  by_cases c6 : 0 < (∑ n ∈ Finset.Ico (e 1) 30, tE c 1 n) g i
  · exact key _ _ _ _ (fun _ => cRC (ringL c) 1) _ (fun _ => rfl) (fun _ => rfl) (h4 1) (by omega) c6
  omega

/-- The waits at indices up to `b` are below everything owed. -/
theorem mayOwe (c : Dev nD) (b a f : ℕ) (s e : Fin 2 → ℕ) (hA : Above b a f s e) (hb : b < 64)
    (N : Waits sig ℕ) (hN : ∀ p ∈ N, p.2 ≤ b) :
    (levAts L lv : sProp 𝕄) ⊢ MayOwe (c : Thread nD τ) N (owed c a f s e) :=
  MayOwe.of_cut (L := L) (lev := lv) b
    (fun p hp => by have := hN p hp; unfold L; rw [if_pos rfl]; exact Finset.mem_range.mpr (by omega))
    (fun g i hg => by
      have := owed_pos hA hg; unfold L; rw [if_pos this.1]; exact Finset.mem_range.mpr this.2.2)
    (fun p hp => hN p hp)
    (fun g i hg => (owed_pos hA hg).2.1)

/-- What the device still owes, at any waits recorded. -/
def Ow (c : Dev nD) (a f : ℕ) (s e : Fin 2 → ℕ) : sProp 𝕄 := iprop(∃ W, owes (c : Thread nD τ) (owed c a f s e) W)

/-! ## Tokens and positions -/

theorem bigSep_Ico (Φ : ℕ → sProp 𝕄) (n N : ℕ) (h : n < N) :
    bigSep (Finset.Ico n N) Φ = iprop(Φ n ∗ bigSep (Finset.Ico (n + 1) N) Φ) := by
  rw [← Finset.insert_Ico_add_one_left_eq_Ico h, bigSep_insert (by simp)]; rfl

theorem bigSep_Ico_empty (Φ : ℕ → sProp 𝕄) (n N : ℕ) (h : N ≤ n) : bigSep (Finset.Ico n N) Φ = iprop(emp) := by
  rw [Finset.Ico_eq_empty_of_le h, bigSep_empty]; rfl

theorem bigSep_Ico_top (Φ : ℕ → sProp 𝕄) (n N : ℕ) (h : n ≤ N) :
    bigSep (Finset.Ico n (N + 1)) Φ = iprop(Φ N ∗ bigSep (Finset.Ico n N) Φ) := by
  rw [← Finset.insert_Ico_right_eq_Ico_add_one h, bigSep_insert (by simp)]; rfl

theorem bigSep_range_succ (Φ : ℕ → sProp 𝕄) (n : ℕ) : bigSep (Finset.range (n + 1)) Φ = iprop(Φ n ∗ bigSep (Finset.range n) Φ) := by
  rw [Finset.range_add_one, bigSep_insert Finset.notMem_range_self]; rfl

def tokX (c : Dev nD) (n : ℕ) : sProp 𝕄 :=
  bigSep (Finset.Ico n 32) fun m => iprop(dutyTok ER (cXS c m) (m / 2) 0 ∗ dutyTok ER (cXR (partner c) m) (m / 2) 0)
def wrX (c : Dev nD) (n : ℕ) : sProp 𝕄 := bigSep (Finset.Ico n 16) fun m => if 2 ≤ m then writeTok EK (kyX (partner c) (m - 2)) 1 else iprop(emp)
def frX (c : Dev nD) (n : ℕ) : sProp 𝕄 := bigSep (Finset.Ico n 32) fun m => dutyTok ER (cXC (partner c)) 0 m
def rdX (c : Dev nD) (n : ℕ) : sProp 𝕄 := bigSep (Finset.Ico n 14) fun m => readerAt EK (kyX c m) 0
def crX (c : Dev nD) (n : ℕ) : sProp 𝕄 := bigSep (Finset.Ico n 32) fun m => cred (tallyAt (cXR c m) (m + 2) NX)
def qrX (c : Dev nD) (n : ℕ) : sProp 𝕄 := bigSep (Finset.Ico n 32) fun m => cred (tallyAt (cXC c) (m + 3) 1)

def tokR (c : Dev nD) (h : Fin 2) (n : ℕ) : sProp 𝕄 :=
  bigSep (Finset.Ico n 30) fun m => iprop(dutyTok ER (cRS c h m) (m / 2) 0 ∗ dutyTok ER (cRR (ringR c) h m) (m / 2) 0)
def wrR (c : Dev nD) (h : Fin 2) (n : ℕ) : sProp 𝕄 := bigSep (Finset.Ico n 30) fun m => if 2 ≤ m then writeTok EK (kyR (ringR c) h (m - 2)) 1 else iprop(emp)
def frR (c : Dev nD) (h : Fin 2) (n : ℕ) : sProp 𝕄 := bigSep (Finset.Ico n 30) fun m => dutyTok ER (cRC (ringL c) h) 0 m
def rdR (c : Dev nD) (h : Fin 2) (n : ℕ) : sProp 𝕄 := bigSep (Finset.Ico n 13) fun m => readerAt EK (kyR c h m) 0
def rdO (c : Dev nD) (h : Fin 2) (n : ℕ) : sProp 𝕄 := bigSep (Finset.Ico n 15) fun m => readerAt EK (kyR c h (m + 13)) 0
def crR (c : Dev nD) (h : Fin 2) (n : ℕ) : sProp 𝕄 := bigSep (Finset.Ico n 30) fun m => cred (tallyAt (cRR c h m) (m + 3) NR)
def qrR (c : Dev nD) (h : Fin 2) (n : ℕ) : sProp 𝕄 := bigSep (Finset.Ico n 30) fun m => cred (tallyAt (cRC c h) (m + 4) 1)

/-- At the start of a round of a cell, which it has reached. -/
def at0 (g : GSem nD τ sig) (r : ℕ) : sProp 𝕄 := iprop(atPos ER g r ∅ 0 ∗ reached ER g r)

def pXS (c : Dev nD) (n : ℕ) : sProp 𝕄 := iprop(at0 (cXS c n) (n / 2) ∗ at0 (cXS c (n + 1)) ((n + 1) / 2))
def pXR (c : Dev nD) (n : ℕ) : sProp 𝕄 := iprop(at0 (cXR c n) (n / 2) ∗ at0 (cXR c (n + 1)) ((n + 1) / 2))
def pRS (c : Dev nD) (h : Fin 2) (n : ℕ) : sProp 𝕄 := iprop(at0 (cRS c h n) (n / 2) ∗ at0 (cRS c h (n + 1)) ((n + 1) / 2))
def pRR (c : Dev nD) (h : Fin 2) (n : ℕ) : sProp 𝕄 := iprop(at0 (cRR c h n) (n / 2) ∗ at0 (cRR c h (n + 1)) ((n + 1) / 2))

/-- The credits waited for so far, with the news they brought. -/
def pXC (c : Dev nD) (n : ℕ) : sProp 𝕄 :=
  iprop(∃ S : Finset ℕ, ⌜S ⊆ Finset.range 32 ∧ n ≤ S.card⌝ ∗ atPos ER (cXC c) 0 S n ∗ bigSep S fun j => payXC c j)
def pRC (c : Dev nD) (h : Fin 2) (n : ℕ) : sProp 𝕄 :=
  iprop(∃ S : Finset ℕ, ⌜S ⊆ Finset.range 30 ∧ n ≤ S.card⌝ ∗ atPos ER (cRC c h) 0 S n ∗ bigSep S fun j => payRC c h j)

theorem range_split (Φ : ℕ → sProp 𝕄) (n N : ℕ) (h : n ≤ N) :
    bigSep (Finset.range N) Φ ⊢ bigSep (Finset.range n) Φ := by
  obtain ⟨k, rfl⟩ := Nat.exists_eq_add_of_le h
  induction k with
  | zero => exact BI.Entails.refl _
  | succ k ih =>
    rw [← Nat.add_assoc, bigSep_range_succ]
    iintro ⟨-, H⟩
    iapply (ih (by omega)) $$ H

theorem evX_mono (c : Dev nD) (n N : ℕ) (h : n ≤ N) : (evX c N : sProp 𝕄) ⊢ evX c n := range_split _ n N h
theorem evR_mono (c : Dev nD) (h' : Fin 2) (n N : ℕ) (h : n ≤ N) : (evR c h' N : sProp 𝕄) ⊢ evR c h' n := range_split _ n N h

theorem card_max (S : Finset ℕ) (n : ℕ) (hn : n + 1 ≤ S.card) : ∃ j ∈ S, n ≤ j := by
  by_contra hc
  push Not at hc
  have hs : S ⊆ Finset.range n := fun j hj => Finset.mem_range.mpr (hc j hj)
  have := Finset.card_le_card hs
  rw [Finset.card_range] at this
  omega

theorem bigSep_out (Φ : ℕ → sProp 𝕄) (S : Finset ℕ) (j : ℕ) (hj : j ∈ S) : bigSep S Φ = iprop(Φ j ∗ bigSep (S.erase j) Φ) := by
  rw [bigSep_erase hj]; rfl

/-- Among `n` credits one brings the news of all `n`. -/
theorem news_X (c : Dev nD) (S : Finset ℕ) (n : ℕ) (hn : n ≤ S.card) :
    bigSep S (fun j => payXC c j) ⊢ (evX (partner c) n : sProp 𝕄) := by
  rcases n with _ | n
  · unfold evX; rw [Finset.range_zero, bigSep_empty]; iintro -; iempintro
  obtain ⟨j, hj, hnj⟩ := card_max S n hn
  rw [bigSep_out _ _ j hj]; unfold payXC
  iintro ⟨H, -⟩
  iapply (evX_mono (partner c) (n + 1) (j + 1) (by omega)) $$ H
theorem news_R (c : Dev nD) (h : Fin 2) (S : Finset ℕ) (n : ℕ) (hn : n ≤ S.card) :
    bigSep S (fun j => payRC c h j) ⊢ (evR (ringR c) h n : sProp 𝕄) := by
  rcases n with _ | n
  · unfold evR; rw [Finset.range_zero, bigSep_empty]; iintro -; iempintro
  obtain ⟨j, hj, hnj⟩ := card_max S n hn
  rw [bigSep_out _ _ j hj]; unfold payRC
  iintro ⟨H, -⟩
  iapply (evR_mono (ringR c) h (n + 1) (j + 1) (by omega)) $$ H

/-! ## What all devices share -/

def allKeys : Finset Key := Finset.univ ×ˢ (Finset.univ ×ˢ Finset.range 28)

/-- The invariants of every cell and every key, and the levels. -/
def Ctx (I : Inp F) (K : Dev nD × Fin 16 → ℕ) (Kk : Key → ℕ) : sProp 𝕄 :=
  iprop(bigSep Finset.univ (fun ck => cellInv ER (sched I) (K ck) (kcell ck))
    ∗ bigSep allKeys (fun k => slotInv EK (Kk k) k (keySlot k)) ∗ levAts L lv
    ∗ bigSep Finset.univ (fun ck : Dev nD × Fin 16 => reached ER (kcell ck) 0))

instance Ctx_persistent (I : Inp F) (K Kk) : BI.Persistent (Ctx I K Kk) := by unfold Ctx; infer_instance

variable (I : Inp F) (K : Dev nD × Fin 16 → ℕ) (Kk : Key → ℕ)

theorem Ctx_cell (c : Dev nD) (k : Fin 16) : Ctx I K Kk ⊢ cellInv ER (sched I) (K (c, k)) (kcell (c, k)) := by
  unfold Ctx
  iintro ⟨#H, -⟩
  have e : bigSep Finset.univ (fun ck => cellInv ER (sched I) (K ck) (kcell ck))
      = iprop(cellInv ER (sched I) (K (c, k)) (kcell (c, k)) ∗ bigSep (Finset.univ.erase (c, k)) (fun ck => cellInv ER (sched I) (K ck) (kcell ck))) := by
    rw [bigSep_erase (Finset.mem_univ (c, k))]; rfl
  ihave H' := (Entails.of_eq e) $$ H
  icases H' with ⟨#Hc, -⟩
  iexact Hc

theorem Ctx_key (k : Key) (hk : k.2.2 < 28) : Ctx I K Kk ⊢ slotInv EK (Kk k) k (keySlot k) := by
  unfold Ctx
  have hm : k ∈ allKeys := by
    unfold allKeys
    exact Finset.mem_product.mpr ⟨Finset.mem_univ _, Finset.mem_product.mpr ⟨Finset.mem_univ _, Finset.mem_range.mpr hk⟩⟩
  iintro ⟨-, #H, -⟩
  have e : bigSep allKeys (fun k => slotInv EK (Kk k) k (keySlot (F := F) k))
      = iprop(slotInv EK (Kk k) k (keySlot (F := F) k) ∗ bigSep (allKeys.erase k) (fun k => slotInv EK (Kk k) k (keySlot (F := F) k))) := by
    rw [bigSep_erase hm]; rfl
  ihave H' := (Entails.of_eq e) $$ H
  icases H' with ⟨#Hc, -⟩
  iexact Hc

theorem Ctx_lev : Ctx I K Kk ⊢ levAts L lv := by
  unfold Ctx; iintro ⟨-, -, #H, -⟩; iexact H

theorem Ctx_reached (c : Dev nD) (k : Fin 16) : Ctx I K Kk ⊢ reached ER (kcell (c, k)) 0 := by
  unfold Ctx
  iintro ⟨-, -, -, #H⟩
  have e : bigSep Finset.univ (fun ck : Dev nD × Fin 16 => (reached ER (kcell ck) 0 : sProp 𝕄))
      = iprop(reached ER (kcell (c, k)) 0 ∗ bigSep (Finset.univ.erase (c, k)) (fun ck : Dev nD × Fin 16 => reached ER (kcell ck) 0)) := by
    rw [bigSep_erase (Finset.mem_univ (c, k))]; rfl
  ihave H' := (Entails.of_eq e) $$ H
  icases H' with ⟨#Hc, -⟩
  iexact Hc

end Cert.KernelIdeal.Pf

end
-- ==== Proof.KI.Chan.lean ====
module

public import proofs.«01_k».proof.Proof.KI.State

/-! The rules for one transfer, one wait and one signal, and what a device holds of each channel. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

theorem kcell_eq (c : Dev nD) (k : Fin 16) (sl : SemLoc sig) (h : csem k = sl) : kcell (c, k) = ((c : Thread nD τ), sl) := by
  show ((c : Thread nD τ), csem k) = _; rw [h]

theorem O_rP (c c' : Dev nD) (n : ℕ) (hn : n < 16) (q) (f : OBuf F) :
    (O c' (fun r => ¬ own c r ∧ pos c r = n) q f : sProp 𝕄)
      = ((vP c n hn).view.loc (c' : Thread nD τ) ↦[(vP c n hn).view.set]{q} f) := by
  rw [set_slice_bO, set_rP]; rfl
theorem O_rQ (c c' : Dev nD) (n : ℕ) (hn : n < 16) (q) (f : OBuf F) :
    (O c' (fun r => own c r ∧ (pos c r + 1) % 16 = n) q f : sProp 𝕄)
      = ((vQ c n hn).view.loc (c' : Thread nD τ) ↦[(vQ c n hn).view.set]{q} f) := by
  rw [set_slice_bO, set_rQ]; rfl
theorem O_rS (c c' : Dev nD) (n : ℕ) (h : Fin 2) (hn : n < 15) (q) (f : OBuf F) :
    (O c' (pOwn c n h) q f : sProp 𝕄)
      = ((vS c n h hn).view.loc (c' : Thread nD τ) ↦[(vS c n h hn).view.set]{q} f) := by
  rw [set_slice_bO, set_rS]; rfl
theorem O_rG (c c' : Dev nD) (n : ℕ) (h : Fin 2) (hn : n < 15) (q) (f : OBuf F) :
    (O c' (pRes c n h) q f : sProp 𝕄)
      = ((vG c n h hn).view.loc (c' : Thread nD τ) ↦[(vG c n h hn).view.set]{q} f) := by
  rw [set_slice_bO, set_rG]; rfl
theorem O_iff (c : Dev nD) {p p' : ℕ → Prop} (h : ∀ n, n < 4096 → (p n ↔ p' n)) (q) (f : OBuf F) :
    (O c p q f : sProp 𝕄) = O c p' q f := by
  unfold O; rw [Rg_congr h]
/-- Only the contents of the rows matter. -/
theorem O_val (c : Dev nD) (p : ℕ → Prop) (q) (f f' : OBuf F) (h : ∀ i ∈ Rg p, f i = f' i) :
    (O c p q f : sProp 𝕄) = O c p q f' := by
  unfold O; exact pointsTo_congr h

/-! ## One wait, one signal, one transfer -/

/-- The only duty of a round. -/
theorem rest_one (g : GSem nD τ sig) (r : ℕ) (hd : (sched I).duties g r = {0}) :
    bigSep ((sched I).duties g r \ ∅) (fun d => (sched I).payload g r d) = (sched I).payload g r 0 := by
  rw [hd, Finset.sdiff_empty, bigSep_singleton]

/-- A wait for the only duty of a round. -/
theorem wait_one (c : Dev nD) (sem : DmaSem sig) (k : Fin 16) (hk : csem k = .dma sem) {s : Shape} {et : EltTy}
    (src dst : Memref sig .tc .vmem s et) (h1 : src.view.WordExact) (h2 : dst.view.WordExact) (ι r N : ℕ) (hN : dst.view.dmaCredit = N)
    (hd : (sched I).duties (kcell (c, k)) r = {0}) (he : (sched I).expect (kcell (c, k)) r = N)
    (a f : ℕ) (s' e' : Fin 2 → ℕ) (hA : Above ι a f s' e') (hι : ι < 64) {α : Type} (p : PUnit → KProg F α) (Q : α → sProp 𝕄) :
    iprop(Ctx I K Kk ∗ Ow c a f s' e' ∗ cred (tallyAt (kcell (c, k)) ι N) ∗ at0 (kcell (c, k)) r)
      ⊢ iprop(((Ow c a f s' e' ∗ at0 (kcell (c, k)) (r + 1) ∗ (sched I).payload (kcell (c, k)) r 0) -∗ WP c (p ⟨⟩) Q)
          -∗ WP c (.op (.waitDma2 sem src dst h1 h2) p) Q) := by
  subst hN
  have hr := rest_one I (kcell (c, k)) r hd
  unfold at0 Ow
  iintro ⟨#HC, ⟨%W, HO⟩, Hc, ⟨Hat, -⟩⟩ Hk
  ihave #Hi := (Ctx_cell I K Kk c k) $$ HC
  have hlev : Ctx I K Kk ⊢ (levAts L lv : sProp 𝕄) := Ctx_lev I K Kk
  ihave #Hl := hlev $$ HC
  rw [kcell_eq c k _ hk] at hr he ⊢
  iapply (Rounds.wp_wait_rest_token 𝒱₀ ER (sched I) (c : Thread nD τ) none (κ := K (c, k))
      (wpE_waitDma2_eq 𝒱₀ (c : Thread nD τ) none Set.univ) (Set.mem_univ _) ι (O := owed c a f s' e') (W := W) (R := r) (m := 0) (T := ∅)
      (by rw [Nat.zero_add, he])) $$ [Hc HO Hat]
  · isplitr; · iexact Hi
    isplitl [Hc]; · iexact Hc
    isplitl [HO]; · iexact HO
    isplitr
    · iapply (mayOwe (F := F) c ι a f s' e' hA hι {(SemLoc.dma sem, ι)} (fun p hp => by rw [Finset.mem_singleton.mp hp])) $$ Hl
    iexact Hat
  iintro ⟨HO, Hat, #Hre, Hpay⟩
  ihave Hp := (Entails.of_eq hr) $$ Hpay
  iapply Hk
  isplitl [HO]; · iexists _; iexact HO
  isplitl [Hat]
  · isplitl [Hat]; · iexact Hat
    iexact Hre
  iexact Hp

/-- A signal that does a duty of a single-round cell. -/
theorem signal_one (c c' : Dev nD) (sem : Sem sig) (k : Fin 16) (hk : csem k = .reg sem) (d ι : ℕ)
    (hd : d ∈ (sched I).duties (kcell (c', k)) 0) (ha : (sched I).amount (kcell (c', k)) 0 d = 1)
    (O₀ O₁ : CellTallies nD τ sig ℕ) (hO : O₀ = O₁ + tallyAt (kcell (c', k)) ι 1) {α : Type} (p : PUnit → KProg F α) (Q : α → sProp 𝕄) :
    iprop(Ctx I K Kk ∗ (∃ W, owes (c : Thread nD τ) O₀ W) ∗ dutyTok ER (kcell (c', k)) 0 d ∗ (sched I).payload (kcell (c', k)) 0 d)
      ⊢ iprop(((∃ W, owes (c : Thread nD τ) O₁ W) -∗ WP c (p ⟨⟩) Q)
          -∗ WP c (.op (.semSignal (Dev.tc c') sem 1) p) Q) := by
  iintro ⟨#HC, ⟨%W, HO⟩, Ht, Hp⟩ Hk
  ihave #Hi := (Ctx_cell I K Kk c' k) $$ HC
  ihave #Hr := (Ctx_reached I K Kk c' k) $$ HC
  rw [kcell_eq c' k _ hk] at hd ha hO ⊢
  iapply (Rounds.wp_signal 𝒱₀ ER (sched I) (c : Thread nD τ) none (dst := (c' : Thread nD τ)) (κ := K (c', k)) (d := d) (r := 0)
      hd ha ι O₁ hO (W := W)) $$ [HO Ht Hp]
  · isplitr; · iexact Hi
    isplitl [HO]; · iexact HO
    isplitl [Ht]; · iexact Ht
    isplitl [Hp]; · iexact Hp
    iexact Hr
  iintro HO
  iapply Hk
  iexists W; iexact HO

/-- A transfer whose source comes back when it has left. -/
theorem send_one (c c' : Dev nD) (sS sR : DmaSem sig) (k₁ k₂ : Fin 16) (hk₁ : csem k₁ = .dma sS) (hk₂ : csem k₂ = .dma sR) {s : Shape} {et : EltTy}
    (src dst : Memref sig .tc .vmem s et) (h1 : src.view.WordExact) (h2 : dst.view.WordExact) (h3) (ι r N : ℕ) (hN : dst.view.dmaCredit = N)
    (hd₁ : (sched I).duties (kcell (c, k₁)) r = {0}) (hd₂ : (sched I).duties (kcell (c', k₂)) r = {0})
    (ha₁ : (sched I).amount (kcell (c, k₁)) r 0 = N) (ha₂ : (sched I).amount (kcell (c', k₂)) r 0 = N)
    (O₀ O₁ : CellTallies nD τ sig ℕ) (hO : O₀ = O₁ + tallyAt (kcell (c', k₂)) ι N) (q : PosShare TreeShare)
    (fs : Buf (Elt F) (src.view.loc (c : Thread nD τ))) (fd : Buf (Elt F) (dst.view.loc (c' : Thread nD τ)))
    (hp₁ : (src.view.loc (c : Thread nD τ) ↦[src.view.set]{q} fs) ⊢ (sched I).payload (kcell (c, k₁)) r 0)
    (hp₂ : (dst.view.loc (c' : Thread nD τ) ↦[dst.view.set]{fullShare} (dst.view.write (Elt F) fd (src.view.read (Elt F) fs) Finset.univ))
      ⊢ (sched I).payload (kcell (c', k₂)) r 0) {α : Type} (p : PUnit → KProg F α) (Q : α → sProp 𝕄) :
    iprop(Ctx I K Kk ∗ (∃ W, owes (c : Thread nD τ) O₀ W) ∗ dutyTok ER (kcell (c, k₁)) r 0 ∗ dutyTok ER (kcell (c', k₂)) r 0
        ∗ reached ER (kcell (c, k₁)) r ∗ reached ER (kcell (c', k₂)) r
        ∗ (src.view.loc (c : Thread nD τ) ↦[src.view.set]{q} fs) ∗ (dst.view.loc (c' : Thread nD τ) ↦[dst.view.set]{fullShare} fd))
      ⊢ iprop((((∃ W, owes (c : Thread nD τ) O₁ W) ∗ cred (tallyAt (kcell (c, k₁)) 0 N)) -∗ WP c (p ⟨⟩) Q)
          -∗ WP c (.op (.enqueueDma src (.remote (Dev.tc c') dst (.dma sS)) (.dma sR) h1 h2 h3) p) Q) := by
  subst hN
  iintro ⟨#HC, ⟨%W, HO⟩, Ht1, Ht2, #Hr1, #Hr2, Hs, Hd⟩ Hk
  ihave #H1 := (Ctx_cell I K Kk c k₁) $$ HC
  ihave #H2 := (Ctx_cell I K Kk c' k₂) $$ HC
  rw [kcell_eq c k₁ _ hk₁] at hd₁ ha₁ hp₁ ⊢
  rw [kcell_eq c' k₂ _ hk₂] at hd₂ ha₂ hp₂ hO ⊢
  iapply (Rounds.wp_send_pointsTo 𝒱₀ ER (sched I) (c : Thread nD τ) none (c' := (c' : Thread nD τ)) (src := src) (dst := dst)
      (q := q) (fs := fs) (fd := fd) (r₁ := r) (r₂ := r) (d₁ := 0) (d₂ := 0) (κ₁ := K (c, k₁)) (κ₂ := K (c', k₂))
      (by rw [hd₁]; exact Finset.mem_singleton_self _) (by rw [hd₂]; exact Finset.mem_singleton_self _)
      ι 0 _ rfl ha₁ ha₂ O₁ hO (W := W) hp₁ hp₂)
    $$ [HO Ht1 Ht2 Hs Hd]
  · isplitr; · iexact H1
    isplitr; · iexact H2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- A transfer whose source goes along with what lands. -/
theorem send_land (c c' : Dev nD) (sS sR : DmaSem sig) (k₁ k₂ : Fin 16) (hk₁ : csem k₁ = .dma sS) (hk₂ : csem k₂ = .dma sR) {s : Shape} {et : EltTy}
    (src dst : Memref sig .tc .vmem s et) (h1 : src.view.WordExact) (h2 : dst.view.WordExact) (h3) (ι r N : ℕ) (hN : dst.view.dmaCredit = N)
    (hd₁ : (sched I).duties (kcell (c, k₁)) r = {0}) (hd₂ : (sched I).duties (kcell (c', k₂)) r = {0})
    (ha₁ : (sched I).amount (kcell (c, k₁)) r 0 = N) (ha₂ : (sched I).amount (kcell (c', k₂)) r 0 = N)
    (O₀ O₁ : CellTallies nD τ sig ℕ) (hO : O₀ = O₁ + tallyAt (kcell (c', k₂)) ι N) (q : PosShare TreeShare)
    (fs : Buf (Elt F) (src.view.loc (c : Thread nD τ))) (fd : Buf (Elt F) (dst.view.loc (c' : Thread nD τ)))
    (hp₁ : iprop(emp) ⊢ (sched I).payload (kcell (c, k₁)) r 0)
    (hp₂ : iprop((dst.view.loc (c' : Thread nD τ) ↦[dst.view.set]{fullShare} (dst.view.write (Elt F) fd (src.view.read (Elt F) fs) Finset.univ))
        ∗ (src.view.loc (c : Thread nD τ) ↦[src.view.set]{q} fs))
      ⊢ (sched I).payload (kcell (c', k₂)) r 0) {α : Type} (p : PUnit → KProg F α) (Q : α → sProp 𝕄) :
    iprop(Ctx I K Kk ∗ (∃ W, owes (c : Thread nD τ) O₀ W) ∗ dutyTok ER (kcell (c, k₁)) r 0 ∗ dutyTok ER (kcell (c', k₂)) r 0
        ∗ reached ER (kcell (c, k₁)) r ∗ reached ER (kcell (c', k₂)) r
        ∗ (src.view.loc (c : Thread nD τ) ↦[src.view.set]{q} fs) ∗ (dst.view.loc (c' : Thread nD τ) ↦[dst.view.set]{fullShare} fd))
      ⊢ iprop((((∃ W, owes (c : Thread nD τ) O₁ W) ∗ cred (tallyAt (kcell (c, k₁)) 0 N)) -∗ WP c (p ⟨⟩) Q)
          -∗ WP c (.op (.enqueueDma src (.remote (Dev.tc c') dst (.dma sS)) (.dma sR) h1 h2 h3) p) Q) := by
  subst hN
  iintro ⟨#HC, ⟨%W, HO⟩, Ht1, Ht2, #Hr1, #Hr2, Hs, Hd⟩ Hk
  ihave #H1 := (Ctx_cell I K Kk c k₁) $$ HC
  ihave #H2 := (Ctx_cell I K Kk c' k₂) $$ HC
  rw [kcell_eq c k₁ _ hk₁] at hd₁ ha₁ hp₁ ⊢
  rw [kcell_eq c' k₂ _ hk₂] at hd₂ ha₂ hp₂ hO ⊢
  iapply (Rounds.wp_send_landing_pointsTo_with 𝒱₀ ER (sched I) (c : Thread nD τ) none (c' := (c' : Thread nD τ)) (src := src) (dst := dst)
      (q := q) (fs := fs) (fd := fd) (F := iprop(emp)) (r₁ := r) (r₂ := r) (d₁ := 0) (d₂ := 0) (κ₁ := K (c, k₁)) (κ₂ := K (c', k₂))
      (by rw [hd₁]; exact Finset.mem_singleton_self _) (by rw [hd₂]; exact Finset.mem_singleton_self _)
      ι 0 _ rfl ha₁ ha₂ O₁ hO (W := W) hp₁ (by
        iintro ⟨⟨Hd, -⟩, Hs⟩
        iapply hp₂
        isplitl [Hd]; · iexact Hd
        iexact Hs))
    $$ [HO Ht1 Ht2 Hs Hd]
  · isplitr; · iexact H1
    isplitr; · iexact H2
    isplitl [Hs]; · iexact Hs
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- One of many waits for single units of a single-round cell. -/
theorem credit_one (c : Dev nD) (sem : Sem sig) (k : Fin 16) (hk : csem k = .reg sem) (ι m N : ℕ) (P : ℕ → sProp 𝕄)
    (hd : (sched I).duties (kcell (c, k)) 0 = Finset.range N) (he : (sched I).expect (kcell (c, k)) 0 = N)
    (hp : ∀ d, (sched I).payload (kcell (c, k)) 0 d = P d)
    (a f : ℕ) (s' e' : Fin 2 → ℕ) (hA : Above ι a f s' e') (hι : ι < 64) {α : Type} (p : PUnit → KProg F α) (Q : α → sProp 𝕄) :
    iprop(Ctx I K Kk ∗ Ow c a f s' e' ∗ cred (tallyAt (kcell (c, k)) ι 1)
        ∗ (∃ S : Finset ℕ, ⌜S ⊆ Finset.range N ∧ m ≤ S.card⌝ ∗ atPos ER (kcell (c, k)) 0 S m ∗ bigSep S P))
      ⊢ iprop(((Ow c a f s' e' ∗ (∃ S : Finset ℕ, ⌜S ⊆ Finset.range N ∧ m + 1 ≤ S.card⌝ ∗ atPos ER (kcell (c, k)) 0 S (m + 1) ∗ bigSep S P)) -∗ WP c (p ⟨⟩) Q)
          -∗ WP c (.op (.semWait sem 1) p) Q) := by
  unfold Ow
  iintro ⟨#HC, ⟨%W, HO⟩, Hc, ⟨%S, %hS, Hat, HS⟩⟩ Hk
  ihave #Hi := (Ctx_cell I K Kk c k) $$ HC
  have hlev : Ctx I K Kk ⊢ (levAts L lv : sProp 𝕄) := Ctx_lev I K Kk
  ihave #Hl := hlev $$ HC
  rw [kcell_eq c k _ hk] at hd he hp ⊢
  iapply (Rounds.wp_wait 𝒱₀ ER (sched I) (c : Thread nD τ) none (κ := K (c, k))
      (wpE_semWait_eq 𝒱₀ (c : Thread nD τ) none Set.univ) (Set.mem_univ _) (cr := Finsupp.single ι 1) (O := owed c a f s' e') (W := W)
      {(SemLoc.reg sem, ι)} (R := 0) (m := m) (T := S) (by rw [Util.total_single]) (image_single_subset _ ι 1)) $$ [Hc HO Hat]
  · isplitr; · iexact Hi
    isplitl [Hc]; · iexact Hc
    isplitl [HO]; · iexact HO
    isplitr
    · iapply (mayOwe (F := F) c ι a f s' e' hA hι {(SemLoc.reg sem, ι)} (fun p hp => by rw [Finset.mem_singleton.mp hp])) $$ Hl
    iexact Hat
  iintro %S' ⟨%hS', HO, Hat, Hnew⟩
  iapply Hk
  isplitl [HO]; · iexists _; iexact HO
  iexists S'
  isplitr
  · ipureintro
    obtain ⟨h1, h2, h3⟩ := hS'
    rw [hd] at h2
    refine ⟨h2, ?_⟩
    rw [hd, he] at h3
    change m + 1 + _ ≤ N at h3
    have := Finset.card_sdiff_add_card_eq_card h2
    rw [Finset.card_range] at this
    omega
  isplitl [Hat]; · iexact Hat
  have e : bigSep S' P = iprop(bigSep S P ∗ bigSep (S' \ S) P) := by
    rw [← Finset.union_sdiff_of_subset hS'.1, bigSep_union Finset.disjoint_sdiff, Finset.union_sdiff_of_subset hS'.1]; rfl
  have e2 : bigSep (S' \ S) (fun d => (sched I).payload ((c : Thread nD τ), SemLoc.reg sem) 0 d) = bigSep (S' \ S) P :=
    bigSep_congr (fun d _ => hp d)
  ihave Hn := (Entails.of_eq e2) $$ Hnew
  iapply (Entails.of_eq e.symm)
  isplitl [HS]; · iexact HS
  iexact Hn

/-- The last wait on a single-round cell, for two units. -/
theorem credit_last (c : Dev nD) (sem : Sem sig) (k : Fin 16) (hk : csem k = .reg sem) (ι ι' m : ℕ) (hne : ι ≠ ι') (S : Finset ℕ)
    (he : (sched I).expect (kcell (c, k)) 0 = m + 2)
    (a f : ℕ) (s' e' : Fin 2 → ℕ) (b : ℕ) (hA : Above b a f s' e') (hb : b < 64) (h1 : ι ≤ b) (h2 : ι' ≤ b) {α : Type} (p : PUnit → KProg F α) (Q : α → sProp 𝕄) :
    iprop(Ctx I K Kk ∗ Ow c a f s' e' ∗ (cred (tallyAt (kcell (c, k)) ι 1) ∗ cred (tallyAt (kcell (c, k)) ι' 1))
        ∗ atPos ER (kcell (c, k)) 0 S m)
      ⊢ iprop(((Ow c a f s' e' ∗ atPos ER (kcell (c, k)) 1 ∅ 0) -∗ WP c (p ⟨⟩) Q)
          -∗ WP c (.op (.semWait sem 2) p) Q) := by
  unfold Ow
  iintro ⟨#HC, ⟨%W, HO⟩, ⟨Hc1, Hc2⟩, Hat⟩ Hk
  ihave #Hi := (Ctx_cell I K Kk c k) $$ HC
  have hlev : Ctx I K Kk ⊢ (levAts L lv : sProp 𝕄) := Ctx_lev I K Kk
  ihave #Hl := hlev $$ HC
  rw [kcell_eq c k _ hk] at he ⊢
  ihave Hc : cred (tallyOn ((c : Thread nD τ), SemLoc.reg sem) (Finsupp.single ι 1 + Finsupp.single ι' 1)) $$ [Hc1 Hc2]
  · have e : (cred (tallyOn ((c : Thread nD τ), SemLoc.reg sem) (Finsupp.single ι 1 + Finsupp.single ι' 1)) : sProp 𝕄)
        = cred (tallyAt ((c : Thread nD τ), SemLoc.reg sem) ι 1 + tallyAt ((c : Thread nD τ), SemLoc.reg sem) ι' 1) := by
      congr 1
      exact tallyOn_add _ _ _
    rw [e]
    iapply (cred_add _ _).2
    isplitl [Hc1]; · iexact Hc1
    iexact Hc2
  iapply (Rounds.wp_wait_rest 𝒱₀ ER (sched I) (c : Thread nD τ) none (κ := K (c, k))
      (wpE_semWait_eq 𝒱₀ (c : Thread nD τ) none Set.univ) (Set.mem_univ _) (cr := Finsupp.single ι 1 + Finsupp.single ι' 1) (O := owed c a f s' e') (W := W)
      {(SemLoc.reg sem, ι), (SemLoc.reg sem, ι')} (R := 0) (m := m) (T := S) (by rw [he])
      (by rw [Util.total_add, Util.total_single, Util.total_single])
      (fun p hp => by
        obtain ⟨i, hi, rfl⟩ := Finset.mem_image.mp hp
        have := Finsupp.support_add hi
        rcases Finset.mem_union.mp this with h | h
        · rw [Finset.mem_singleton.mp (Finsupp.support_single_subset h)]; simp
        · rw [Finset.mem_singleton.mp (Finsupp.support_single_subset h)]; simp)) $$ [Hc HO Hat]
  · isplitr; · iexact Hi
    isplitl [Hc]; · iexact Hc
    isplitl [HO]; · iexact HO
    isplitr
    · iapply (mayOwe (F := F) c b a f s' e' hA hb {(SemLoc.reg sem, ι), (SemLoc.reg sem, ι')} (fun p hp => by
        rcases Finset.mem_insert.mp hp with h | h
        · rw [h]; exact h1
        · rw [Finset.mem_singleton.mp h]; exact h2)) $$ Hl
    iexact Hat
  iintro ⟨HO, Hat, -⟩
  iapply Hk
  isplitl [HO]; · iexists _; iexact HO
  iexact Hat

end Cert.KernelIdeal.Pf

end
-- ==== Proof.KI.StepX.lean ====
module

public import proofs.«01_k».proof.Proof.KI.Chan

/-! The steps of the channel to the partner, one rule each. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-! ## What a device holds of the channel -/

/-- The credits waited for: some of them, or all. -/
def pXC' (c : Dev nD) (q : ℕ) : sProp 𝕄 := if q < 31 then pXC c q else atPos ER (cXC c) 1 ∅ 0

/-- After `a` transfers begun, `l` departures, `r` arrivals and `q` credits waited for, and `f` credits given. -/
def ChX (c : Dev nD) (a l r q f : ℕ) : sProp 𝕄 :=
  iprop((tokX c a ∗ wrX c a) ∗ (pXS c l ∗ bigSep (Finset.Ico l a) fun m => cred (tallyAt (cXS c m) 0 NX))
    ∗ (pXR c r ∗ crX c r) ∗ (pXC' c q ∗ qrX c q) ∗ (frX c f ∗ rdX c f ∗ evX c f))

theorem semOf_par (s : DmaSems sig S2) (m n : ℕ) (h : m % 2 = n % 2) : semOf s m = semOf s n := by
  rw [semOf_mod s m, semOf_mod s n, h]

theorem cXS_two (c : Dev nD) (n : ℕ) : cXS c (n + 2) = cXS c n := by show kcell (c, kXS (n + 2)) = _; rw [kXS_two]
theorem cXR_two (c : Dev nD) (n : ℕ) : cXR c (n + 2) = cXR c n := by show kcell (c, kXR (n + 2)) = _; rw [kXR_two]
theorem pXS_step (c : Dev nD) (n : ℕ) : (pXS c n : sProp 𝕄) = iprop(at0 (cXS c n) (n / 2) ∗ at0 (cXS c (n + 1)) ((n + 1) / 2)) := rfl
theorem pXS_next (c : Dev nD) (n : ℕ) : (pXS c (n + 1) : sProp 𝕄) = iprop(at0 (cXS c (n + 1)) ((n + 1) / 2) ∗ at0 (cXS c n) (n / 2 + 1)) := by
  unfold pXS
  rw [show n + 1 + 1 = n + 2 from rfl, cXS, cXS, cXS, kXS_two, Nat.add_div_right n (by decide)]
theorem pXR_next (c : Dev nD) (n : ℕ) : (pXR c (n + 1) : sProp 𝕄) = iprop(at0 (cXR c (n + 1)) ((n + 1) / 2) ∗ at0 (cXR c n) (n / 2 + 1)) := by
  unfold pXR
  rw [show n + 1 + 1 = n + 2 from rfl, cXR, cXR, cXR, kXR_two, Nat.add_div_right n (by decide)]

/-! ## Departures, arrivals, credits -/

/-- Wait until transfer `n` has left. -/
theorem xs_left (c : Dev nD) (n m : ℕ) (hm : m % 2 = n % 2) (hn : n < 32) (src dst : Memref sig .tc .vmem S128x2048 .f32) (hN : dst.view.dmaCredit = NX)
    (a r q f : ℕ) (hna : n < a) (oa of : ℕ) (s e : Fin 2 → ℕ) (hA : Above 0 oa of s e) {α : Type} (k : PUnit → KProg F α) (Q : α → sProp 𝕄) :
    iprop(Ctx I K Kk ∗ Ow c oa of s e ∗ ChX c a n r q f)
      ⊢ iprop(((Ow c oa of s e ∗ ChX c a (n + 1) r q f ∗ payXS I c n) -∗ WP c (k ⟨⟩) Q) -∗ WP c (leftX m src dst >>= k) Q) := by
  unfold leftX ChX
  simp only [Prog.lift, Prog.bind_op, Prog.bind_ret]
  rw [bigSep_Ico _ n a hna, pXS_next c n, pXS_step c n, semOf_par _ m n hm]
  iintro ⟨#HC, HO, ⟨Ht, ⟨⟨Hp0, Hp1⟩, ⟨Hc, Hcs⟩⟩, Hr, Hq, Hf⟩⟩ Hk
  iapply (wait_one I K Kk c (semOf cc0_scratch7 n) (kXS n) (csem_XS n) src dst _ _ 0 (n / 2) NX hN (dut_XS I c n hn) (exp_XS I c n hn) oa of s e hA (by decide)) $$ [HO Hc Hp0]
  · isplitr; · iexact HC
    isplitl [HO]; · iexact HO
    isplitl [Hc]; · iexact Hc
    iexact Hp0
  iintro ⟨HO, Hp0, Hpay⟩
  iapply Hk
  isplitl [HO]; · iexact HO
  isplitr [Hpay]
  · isplitl [Ht]; · iexact Ht
    isplitl [Hp0 Hp1 Hcs]
    · isplitl [Hp0 Hp1]
      · isplitl [Hp1]; · iexact Hp1
        iexact Hp0
      iexact Hcs
    isplitl [Hr]; · iexact Hr
    isplitl [Hq]; · iexact Hq
    iexact Hf
  iapply (Entails.of_eq (pay_XS I c n 0)) $$ Hpay

/-- Wait for the arrival of transfer `n`. -/
theorem xs_recv (c : Dev nD) (n m : ℕ) (hm : m % 2 = n % 2) (hn : n < 32) (src dst : Memref sig .tc .vmem S128x2048 .f32) (hN : dst.view.dmaCredit = NX)
    (a l q f : ℕ) (oa of : ℕ) (s e : Fin 2 → ℕ) (hA : Above (n + 2) oa of s e) {α : Type} (k : PUnit → KProg F α) (Q : α → sProp 𝕄) :
    iprop(Ctx I K Kk ∗ Ow c oa of s e ∗ ChX c a l n q f)
      ⊢ iprop(((Ow c oa of s e ∗ ChX c a l (n + 1) q f ∗ payXR I c n) -∗ WP c (k ⟨⟩) Q) -∗ WP c (recvX m src dst >>= k) Q) := by
  unfold recvX ChX crX
  simp only [Prog.lift, Prog.bind_op, Prog.bind_ret]
  rw [bigSep_Ico _ n 32 hn, pXR_next c n, pXR, semOf_par _ m n hm]
  iintro ⟨#HC, HO, ⟨Ht, Hl, ⟨⟨Hp0, Hp1⟩, ⟨Hc, Hcs⟩⟩, Hq, Hf⟩⟩ Hk
  iapply (wait_one I K Kk c (semOf cc0_scratch8 n) (kXR n) (csem_XR n) src dst _ _ (n + 2) (n / 2) NX hN (dut_XR I c n hn) (exp_XR I c n hn) oa of s e hA (by omega)) $$ [HO Hc Hp0]
  · isplitr; · iexact HC
    isplitl [HO]; · iexact HO
    isplitl [Hc]; · iexact Hc
    iexact Hp0
  iintro ⟨HO, Hp0, Hpay⟩
  iapply Hk
  isplitl [HO]; · iexact HO
  isplitr [Hpay]
  · isplitl [Ht]; · iexact Ht
    isplitl [Hl]; · iexact Hl
    isplitl [Hp0 Hp1 Hcs]
    · isplitl [Hp0 Hp1]
      · isplitl [Hp1]; · iexact Hp1
        iexact Hp0
      iexact Hcs
    isplitl [Hq]; · iexact Hq
    iexact Hf
  iapply (Entails.of_eq (pay_XR I c n 0)) $$ Hpay

/-- Wait for one credit. -/
theorem xs_credit (c : Dev nD) (q : ℕ) (hq : q < 30) (a l r f : ℕ) (oa of : ℕ) (s e : Fin 2 → ℕ) (hA : Above (q + 3) oa of s e)
    {α : Type} (k : PUnit → KProg F α) (Q : α → sProp 𝕄) :
    iprop(Ctx I K Kk ∗ Ow c oa of s e ∗ ChX c a l r q f)
      ⊢ iprop(((Ow c oa of s e ∗ ChX c a l r (q + 1) f) -∗ WP c (k ⟨⟩) Q) -∗ WP c (creditX 1#32 >>= k) Q) := by
  unfold creditX ChX qrX pXC'
  simp only [semWaitWord, Prog.lift, Prog.bind_op, Prog.bind_ret]
  rw [bigSep_Ico _ q 32 (by omega), if_pos (by omega), if_pos (by omega)]
  unfold pXC
  iintro ⟨#HC, HO, ⟨Ht, Hl, Hr, ⟨Hp, ⟨Hc, Hcs⟩⟩, Hf⟩⟩ Hk
  iapply (credit_one I K Kk c cc0_scratch11.sem 13 csem_XC (q + 3) q 32 (payXC c) (dut_XC I c) (exp_XC I c) (pay_XC I c 0) oa of s e hA (by omega)) $$ [HO Hc Hp]
  · isplitr; · iexact HC
    isplitl [HO]; · iexact HO
    isplitl [Hc]; · iexact Hc
    iexact Hp
  iintro ⟨HO, Hp⟩
  iapply Hk
  isplitl [HO]; · iexact HO
  isplitl [Ht]; · iexact Ht
  isplitl [Hl]; · iexact Hl
  isplitl [Hr]; · iexact Hr
  isplitl [Hp Hcs]
  · isplitl [Hp]; · iexact Hp
    iexact Hcs
  iexact Hf

/-- Wait for the last two credits. -/
theorem xs_credit2 (c : Dev nD) (a l r f : ℕ) (oa of : ℕ) (s e : Fin 2 → ℕ) (hA : Above 34 oa of s e)
    {α : Type} (k : PUnit → KProg F α) (Q : α → sProp 𝕄) :
    iprop(Ctx I K Kk ∗ Ow c oa of s e ∗ ChX c a l r 30 f)
      ⊢ iprop(((Ow c oa of s e ∗ ChX c a l r 32 f) -∗ WP c (k ⟨⟩) Q) -∗ WP c (creditX 2#32 >>= k) Q) := by
  unfold creditX ChX qrX pXC'
  simp only [semWaitWord, Prog.lift, Prog.bind_op, Prog.bind_ret]
  rw [bigSep_Ico _ 30 32 (by omega), bigSep_Ico _ (30 + 1) 32 (by omega), if_pos (by omega), if_neg (by omega)]
  unfold pXC
  iintro ⟨#HC, HO, ⟨Ht, Hl, Hr, ⟨⟨%S, -, Hp, -⟩, ⟨Hc, Hc', Hcs⟩⟩, Hf⟩⟩ Hk
  iapply (credit_last I K Kk c cc0_scratch11.sem 13 csem_XC (30 + 3) (30 + 1 + 3) 30 (by decide) S (exp_XC I c) oa of s e 34 hA (by decide) (by decide) (by decide)) $$ [HO Hc Hc' Hp]
  · isplitr; · iexact HC
    isplitl [HO]; · iexact HO
    isplitl [Hc Hc']
    · isplitl [Hc]; · iexact Hc
      iexact Hc'
    iexact Hp
  iintro ⟨HO, Hp⟩
  iapply Hk
  isplitl [HO]; · iexact HO
  isplitl [Ht]; · iexact Ht
  isplitl [Hl]; · iexact Hl
  isplitl [Hr]; · iexact Hr
  isplitl [Hp Hcs]
  · isplitl [Hp]; · iexact Hp
    iexact Hcs
  iexact Hf

/-! ## Giving credit -/

theorem slotC_nonempty (n : ℕ) : (slotC n).view.set.Nonempty := by
  have h : Finset.univ.Nonempty (α := S128x2048.Idx) := ⟨fun a => ⟨0, by fin_cases a <;> decide⟩, Finset.mem_univ _⟩
  exact h.map

theorem evX_succ (c : Dev nD) (n : ℕ) : (evX c (n + 1) : sProp 𝕄) = iprop(factX c n ∗ evX c n) := by
  unfold evX; exact bigSep_range_succ _ n

/-- Give the credit of transfer `n`, with its slot. -/
theorem xs_free (c : Dev nD) (n : ℕ) (hn : n < 14) (a l q : ℕ) (oa : ℕ) (s e : Fin 2 → ℕ)
    {α : Type} (k : PUnit → KProg F α) (Q : α → sProp 𝕄) :
    iprop(Ctx I K Kk ∗ Ow c oa n s e ∗ ChX c a l (n + 1) q n ∗ SlC c n)
      ⊢ iprop(((Ow c oa (n + 1) s e ∗ ChX c a l (n + 1) q (n + 1)) -∗ WP c (k ⟨⟩) Q) -∗ WP c (freeX c >>= k) Q) := by
  unfold freeX ChX frX rdX
  simp only [semSignalWord, Prog.lift, Prog.bind_op, Prog.bind_ret]
  rw [bigSep_Ico _ n 32 (by omega), bigSep_Ico _ n 14 (by omega), pXR_next c n]
  unfold at0
  have hp : (sched I).payload (kcell (partner c, 13)) 0 n = evX c (n + 1) := by
    rw [pay_XC]; unfold payXC; rw [partner_partner]
  iintro ⟨#HC, HO, ⟨Ht, Hl, ⟨⟨Hp0, ⟨Hp1, #Hre⟩⟩, Hcr⟩, Hq, ⟨⟨Hd, Hds⟩, ⟨Hrd, Hrds⟩, #Hev⟩⟩, Hsl⟩ Hk
  ihave #Hi := (Ctx_key I K Kk (kyX c n) (by show n < 28; omega)) $$ HC
  imod (slot_release EK (Es := Set.univ) (Set.mem_univ (Kk (kyX c n))) (S := keySlot (F := F) (kyX c n))
    (by rw [keySlot_X]; exact slot_slot_false (slotC_nonempty n)) 0) $$ [Hrd Hsl] with ⟨-, #Hrel⟩
  · isplitr; · iexact Hi
    isplitl [Hrd]; · iexact Hrd
    iapply (Entails.of_eq (keySlot_X (F := F) c n).symm) $$ Hsl
  ihave #Hev' : evX c (n + 1) $$ []
  · rw [evX_succ]
    unfold factX
    isplitl []
    · isplitr; · iexact Hre
      rw [if_pos hn]
      iexact Hrel
    iexact Hev
  iapply (signal_one I K Kk c (partner c) cc0_scratch11.sem 13 csem_XC n (n + 3) (by rw [dut_XC]; exact Finset.mem_range.mpr (by omega)) (amt_XC I _ _ _)
    (owed c oa n s e) (owed c oa (n + 1) s e) (owed_F c oa n s e (by omega))) $$ [HO Hd]
  · isplitr; · iexact HC
    isplitl [HO]; · unfold Ow; iexact HO
    isplitl [Hd]; · iexact Hd
    rw [hp]
    iexact Hev'
  iintro HO
  iapply Hk
  isplitl [HO]; · unfold Ow; iexact HO
  isplitl [Ht]; · iexact Ht
  isplitl [Hl]; · iexact Hl
  isplitl [Hp0 Hp1 Hcr]
  · isplitl [Hp0 Hp1]
    · isplitl [Hp0]; · iexact Hp0
      isplitl [Hp1]; · iexact Hp1
      iexact Hre
    iexact Hcr
  isplitl [Hq]; · iexact Hq
  isplitl [Hds]; · iexact Hds
  isplitl [Hrds]; · iexact Hrds
  iexact Hev'

/-- Give the credit of a transfer whose slot is not used again. -/
theorem xs_free' (c : Dev nD) (n : ℕ) (hn : 14 ≤ n) (hn' : n < 32) (a l q : ℕ) (oa : ℕ) (s e : Fin 2 → ℕ)
    {α : Type} (k : PUnit → KProg F α) (Q : α → sProp 𝕄) :
    iprop(Ctx I K Kk ∗ Ow c oa n s e ∗ ChX c a l (n + 1) q n)
      ⊢ iprop(((Ow c oa (n + 1) s e ∗ ChX c a l (n + 1) q (n + 1)) -∗ WP c (k ⟨⟩) Q) -∗ WP c (freeX c >>= k) Q) := by
  unfold freeX ChX frX rdX
  simp only [semSignalWord, Prog.lift, Prog.bind_op, Prog.bind_ret]
  rw [bigSep_Ico _ n 32 (by omega), bigSep_Ico_empty _ n 14 hn, bigSep_Ico_empty _ (n + 1) 14 (by omega), pXR_next c n]
  unfold at0
  have hp : (sched I).payload (kcell (partner c, 13)) 0 n = evX c (n + 1) := by
    rw [pay_XC]; unfold payXC; rw [partner_partner]
  iintro ⟨#HC, HO, ⟨Ht, Hl, ⟨⟨Hp0, ⟨Hp1, #Hre⟩⟩, Hcr⟩, Hq, ⟨⟨Hd, Hds⟩, Hrds, #Hev⟩⟩⟩ Hk
  ihave #Hev' : evX c (n + 1) $$ []
  · rw [evX_succ]
    unfold factX
    isplitl []
    · isplitr; · iexact Hre
      rw [if_neg (by omega)]
      iempintro
    iexact Hev
  iapply (signal_one I K Kk c (partner c) cc0_scratch11.sem 13 csem_XC n (n + 3) (by rw [dut_XC]; exact Finset.mem_range.mpr (by omega)) (amt_XC I _ _ _)
    (owed c oa n s e) (owed c oa (n + 1) s e) (owed_F c oa n s e (by omega))) $$ [HO Hd]
  · isplitr; · iexact HC
    isplitl [HO]; · unfold Ow; iexact HO
    isplitl [Hd]; · iexact Hd
    rw [hp]
    iexact Hev'
  iintro HO
  iapply Hk
  isplitl [HO]; · unfold Ow; iexact HO
  isplitl [Ht]; · iexact Ht
  isplitl [Hl]; · iexact Hl
  isplitl [Hp0 Hp1 Hcr]
  · isplitl [Hp0 Hp1]
    · isplitl [Hp0]; · iexact Hp0
      isplitl [Hp1]; · iexact Hp1
      iexact Hre
    iexact Hcr
  isplitl [Hq]; · iexact Hq
  isplitl [Hds]; · iexact Hds
  isplitl [Hrds]; · iexact Hrds
  iexact Hev'

/-! ## Starting a transfer -/

theorem ico_top' (Φ : ℕ → sProp 𝕄) (l n : ℕ) (h : l ≤ n) : bigSep (Finset.Ico l (n + 1)) Φ = iprop(Φ n ∗ bigSep (Finset.Ico l n) Φ) :=
  bigSep_Ico_top Φ l n h

/-- Transfer `n < 16`, once its semaphores have reached its round. -/
theorem xs_land (c : Dev nD) (n : ℕ) (hn : n < 16) (f : ℕ) (s e : Fin 2 → ℕ) {α : Type} (k : PUnit → KProg F α) (Q : α → sProp 𝕄) :
    iprop(Ctx I K Kk ∗ Ow c n f s e ∗ tokX c n ∗ reached ER (cXS c n) (n / 2) ∗ reached ER (cXR (partner c) n) (n / 2)
        ∗ O c (fun r => ¬ own c r ∧ pos c r = n) fullShare (I.Y c) ∗ SlC (partner c) n)
      ⊢ iprop(((Ow c (n + 1) f s e ∗ tokX c (n + 1) ∗ cred (tallyAt (cXS c n) 0 NX)) -∗ WP c (k ⟨⟩) Q)
          -∗ WP c (xSend c n hn >>= k) Q) := by
  unfold xSend sendX tokX SlC slot
  simp only [Prog.lift, Prog.bind_op, Prog.bind_ret]
  rw [bigSep_Ico _ n 32 (by omega), O_rP c c n hn]
  iintro ⟨#HC, HO, ⟨⟨Ht1, Ht2⟩, Htok⟩, #Hr1, #Hr2, Hsrc, ⟨%fd, Hdst⟩⟩ Hk
  iapply (send_land I K Kk c (partner c) (semOf cc0_scratch7 n) (semOf cc0_scratch8 n) (kXS n) (kXR n) (csem_XS n) (csem_XR n)
      (vP c n hn) (slotC n) _ _ _ (n + 2) (n / 2) NX rfl (dut_XS I c n (by omega)) (dut_XR I (partner c) n (by omega)) (amt_XS I c n _ _) (amt_XR I (partner c) n _ _)
      (owed c n f s e) (owed c (n + 1) f s e) (owed_X c n f s e (by omega)) fullShare (I.Y c) fd
      (by rw [pay_XS]; unfold payXS; rw [if_pos hn])
      (by
        rw [pay_XR]; unfold payXR; rw [dif_pos hn, partner_partner, ← O_rP c c n hn,
          O_iff c (p := fun r => own (partner c) r ∧ pos (partner c) r = n) (p' := fun r => ¬ own c r ∧ pos c r = n) (fun r hr => by rw [own_partner c r hr, pos_partner])]
        iintro ⟨Hd, Hs⟩
        isplitl [Hd]
        · iexists _
          isplitl [Hd]; · iexact Hd
          ipureintro
          exact View.read_write_univ _ _
        · iexact Hs))
    $$ [HO Ht1 Ht2 Hsrc Hdst]
  · isplitr; · iexact HC
    isplitl [HO]; · unfold Ow; iexact HO
    isplitl [Ht1]; · iexact Ht1
    isplitl [Ht2]; · iexact Ht2
    isplitr; · iexact Hr1
    isplitr; · iexact Hr2
    isplitl [Hsrc]; · iexact Hsrc
    iexact Hdst
  iintro ⟨HO, Hc⟩
  iapply Hk
  isplitl [HO]; · unfold Ow; iexact HO
  isplitl [Htok]; · iexact Htok
  iexact Hc

/-- The first two transfers. -/
theorem xs_first (c : Dev nD) (n : ℕ) (hn : n < 2) (hn' : n < 16) (r q f : ℕ) (of : ℕ) (s e : Fin 2 → ℕ) {α : Type} (k : PUnit → KProg F α) (Q : α → sProp 𝕄) :
    iprop(Ctx I K Kk ∗ Ow c n of s e ∗ ChX c n 0 r q f ∗ O c (fun r => ¬ own c r ∧ pos c r = n) fullShare (I.Y c) ∗ SlC (partner c) n)
      ⊢ iprop(((Ow c (n + 1) of s e ∗ ChX c (n + 1) 0 r q f) -∗ WP c (k ⟨⟩) Q) -∗ WP c (xSend c n hn' >>= k) Q) := by
  unfold ChX wrX
  rw [bigSep_Ico _ n 16 hn', if_neg (by omega), ico_top' _ 0 n (by omega)]
  iintro ⟨#HC, HO, ⟨⟨Htok, ⟨-, Hwr⟩⟩, ⟨Hl, Hcs⟩, Hr, Hq, Hf⟩, Hsrc, Hdst⟩ Hk
  ihave #H1 := (Ctx_reached I K Kk c (kXS n)) $$ HC
  ihave #H2 := (Ctx_reached I K Kk (partner c) (kXR n)) $$ HC
  iapply (xs_land I K Kk c n hn' of s e) $$ [HO Htok Hsrc Hdst]
  · isplitr; · iexact HC
    isplitl [HO]; · iexact HO
    isplitl [Htok]; · iexact Htok
    rw [show n / 2 = 0 by omega]
    isplitr; · iexact H1
    isplitr; · iexact H2
    isplitl [Hsrc]; · iexact Hsrc
    iexact Hdst
  iintro ⟨HO, Htok, Hc⟩
  iapply Hk
  isplitl [HO]; · iexact HO
  isplitl [Htok Hwr]
  · isplitl [Htok]; · iexact Htok
    iexact Hwr
  isplitl [Hl Hc Hcs]
  · isplitl [Hl]; · iexact Hl
    isplitl [Hc]; · iexact Hc
    iexact Hcs
  isplitl [Hr]; · iexact Hr
  isplitl [Hq]; · iexact Hq
  iexact Hf

instance payXC_persistent (c : Dev nD) (d : ℕ) : BI.Persistent (payXC (F := F) c d) := by unfold payXC; infer_instance

/-- What one credit more than `n` tells of transfer `n`. -/
theorem pXC_fact (c : Dev nD) (n : ℕ) : (pXC c (n + 1) : sProp 𝕄) ⊢ iprop(pXC c (n + 1) ∗ factX (partner c) n) := by
  unfold pXC
  iintro ⟨%S, %hS, Hat, #HS⟩
  ihave Hev := ((news_X c S (n + 1) hS.2).trans (Entails.of_eq (evX_succ (partner c) n))) $$ HS
  icases Hev with ⟨#Hf, -⟩
  isplitl
  · iexists S
    isplitr; · ipureintro; exact hS
    isplitl [Hat]; · iexact Hat
    iexact HS
  iexact Hf

/-- A later transfer of the sum. -/
theorem xs_next (c : Dev nD) (n : ℕ) (hn : n + 2 < 16) (r f : ℕ) (of : ℕ) (s e : Fin 2 → ℕ) {α : Type} (k : PUnit → KProg F α) (Q : α → sProp 𝕄) :
    iprop(Ctx I K Kk ∗ Ow c (n + 2) of s e ∗ ChX c (n + 2) (n + 1) r (n + 1) f ∗ O c (fun r => ¬ own c r ∧ pos c r = n + 2) fullShare (I.Y c))
      ⊢ iprop(((Ow c (n + 3) of s e ∗ ChX c (n + 3) (n + 1) r (n + 1) f) -∗ WP c (k ⟨⟩) Q) -∗ WP c (xSend c (n + 2) hn >>= k) Q) := by
  unfold ChX wrX pXC'
  rw [bigSep_Ico _ (n + 2) 16 hn, if_pos (by omega : 2 ≤ n + 2), ico_top' _ (n + 1) (n + 2) (by omega), if_pos (by omega), pXS_next c n, Nat.add_sub_cancel]
  unfold at0
  iintro ⟨#HC, HO, ⟨⟨Htok, ⟨Hw, Hwr⟩⟩, ⟨⟨Hl0, ⟨Hl1, #Hre⟩⟩, Hcs⟩, Hr, ⟨Hp, Hq⟩, Hf⟩, Hsrc⟩ Hk
  ihave Hp' := (pXC_fact c n) $$ Hp
  unfold factX
  rw [if_pos (by omega : n < 14)]
  icases Hp' with ⟨Hp, ⟨#H2, #Hrel⟩⟩
  ihave #Hi := (Ctx_key I K Kk (kyX (partner c) n) (by show n < 28; omega)) $$ HC
  imod (slot_take EK (Es := Set.univ) (Set.mem_univ (Kk (kyX (partner c) n))) (S := keySlot (F := F) (kyX (partner c) n)) 1) $$ [Hw] with Hdst
  · isplitr; · iexact Hi
    isplitr; · iexact Hrel
    iexact Hw
  iapply (xs_land I K Kk c (n + 2) hn of s e) $$ [HO Htok Hsrc Hdst]
  · isplitr; · iexact HC
    isplitl [HO]; · iexact HO
    isplitl [Htok]; · iexact Htok
    rw [cXS_two, cXR_two, Nat.add_div_right n (by decide), SlC_two]
    isplitr; · iexact Hre
    isplitr; · iexact H2
    isplitl [Hsrc]; · iexact Hsrc
    iapply (Entails.of_eq (keySlot_X (F := F) (partner c) n)) $$ Hdst
  iintro ⟨HO, Htok, Hc⟩
  iapply Hk
  isplitl [HO]; · iexact HO
  isplitl [Htok Hwr]
  · isplitl [Htok]; · iexact Htok
    iexact Hwr
  isplitl [Hl0 Hl1 Hc Hcs]
  · isplitl [Hl0 Hl1]
    · isplitl [Hl0]; · iexact Hl0
      isplitl [Hl1]; · iexact Hl1
      iexact Hre
    isplitl [Hc]; · iexact Hc
    iexact Hcs
  isplitl [Hr]; · iexact Hr
  isplitl [Hp Hq]
  · isplitl [Hp]; · iexact Hp
    iexact Hq
  iexact Hf

/-- A transfer of the results. -/
theorem xs_res (c : Dev nD) (n g : ℕ) (hg : g < 16) (hng : n + 2 = 16 + g) (r f : ℕ) (of : ℕ) (s e : Fin 2 → ℕ) (fd : OBuf F) {α : Type} (k : PUnit → KProg F α) (Q : α → sProp 𝕄) :
    iprop(Ctx I K Kk ∗ Ow c (n + 2) of s e ∗ ChX c (n + 2) (n + 1) r (n + 1) f
        ∗ O c (fun r => own c r ∧ (pos c r + 1) % 16 = g) fullShare.right I.OUT ∗ O (partner c) (fun r => own c r ∧ (pos c r + 1) % 16 = g) fullShare fd)
      ⊢ iprop(((Ow c (n + 3) of s e ∗ ChX c (n + 3) (n + 1) r (n + 1) f) -∗ WP c (k ⟨⟩) Q) -∗ WP c (xSendG c g hg >>= k) Q) := by
  unfold ChX wrX pXC' tokX xSendG sendX
  simp only [Prog.lift, Prog.bind_op, Prog.bind_ret]
  rw [bigSep_Ico_empty _ (n + 2) 16 (by omega), bigSep_Ico_empty _ (n + 3) 16 (by omega), ico_top' _ (n + 1) (n + 2) (by omega), if_pos (by omega), pXS_next c n,
    bigSep_Ico _ (n + 2) 32 (by omega), O_rQ c c g hg, O_rQ c (partner c) g hg]
  unfold at0
  iintro ⟨#HC, HO, ⟨⟨⟨⟨Ht1, Ht2⟩, Htok⟩, Hwr⟩, ⟨⟨Hl0, ⟨Hl1, #Hre⟩⟩, Hcs⟩, Hr, ⟨Hp, Hq⟩, Hf⟩, Hsrc, Hdst⟩ Hk
  ihave Hp' := (pXC_fact c n) $$ Hp
  unfold factX
  icases Hp' with ⟨Hp, ⟨#H2, -⟩⟩
  iapply (send_one I K Kk c (partner c) (semOf cc0_scratch7 g) (semOf cc0_scratch8 g) (kXS (n + 2)) (kXR (n + 2))
      (by rw [csem_XS, semOf_par _ (n + 2) g (by omega)]) (by rw [csem_XR, semOf_par _ (n + 2) g (by omega)])
      (vQ c g hg) (vQ c g hg) _ _ _ (n + 2 + 2) ((n + 2) / 2) NX rfl (dut_XS I c (n + 2) (by omega)) (dut_XR I (partner c) (n + 2) (by omega)) (amt_XS I c _ _ _) (amt_XR I (partner c) _ _ _)
      (owed c (n + 2) of s e) (owed c (n + 2 + 1) of s e) (owed_X c (n + 2) of s e (by omega)) fullShare.right I.OUT fd
      (by rw [pay_XS]; unfold payXS; rw [if_neg (by omega), ← O_rQ c c g hg, show n + 2 - 16 = g by omega])
      (by
        rw [pay_XR]; unfold payXR
        rw [dif_neg (by omega), show n + 2 - 16 = g by omega,
          O_iff (partner c) (p := fun r => ¬ own (partner c) r ∧ (pos (partner c) r + 1) % 16 = g) (p' := fun r => own c r ∧ (pos c r + 1) % 16 = g)
            (fun r hr => by rw [own_partner c r hr, pos_partner, not_not]), O_rQ c (partner c) g hg]
        refine Entails.of_eq (pointsTo_congr ?_)
        exact copy_on _ _ _ _))
    $$ [HO Ht1 Ht2 Hsrc Hdst]
  · isplitr; · iexact HC
    isplitl [HO]; · unfold Ow; iexact HO
    isplitl [Ht1]; · iexact Ht1
    isplitl [Ht2]; · iexact Ht2
    rw [kXS_two, kXR_two, Nat.add_div_right n (by decide)]
    isplitr; · iexact Hre
    isplitr; · iexact H2
    isplitl [Hsrc]; · iexact Hsrc
    iexact Hdst
  iintro ⟨HO, Hc⟩
  iapply Hk
  isplitl [HO]; · unfold Ow; iexact HO
  isplitl [Htok Hwr]
  · isplitl [Htok]; · iexact Htok
    iexact Hwr
  isplitl [Hl0 Hl1 Hc Hcs]
  · isplitl [Hl0 Hl1]
    · isplitl [Hl0]; · iexact Hl0
      isplitl [Hl1]; · iexact Hl1
      iexact Hre
    isplitl [Hc]; · iexact Hc
    iexact Hcs
  isplitl [Hr]; · iexact Hr
  isplitl [Hp Hq]
  · isplitl [Hp]; · iexact Hp
    iexact Hq
  iexact Hf

end Cert.KernelIdeal.Pf

end
-- ==== Proof.KI.StepR.lean ====
module

public import proofs.«01_k».proof.Proof.KI.StepX

/-! The steps of the channels round the ring, one rule each, for both halves. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

variable (h : Fin 2)

/-! ## What a device holds of the channel -/

/-- The credits waited for: some of them, or all. -/
def pRC' (c : Dev nD) (h : Fin 2) (q : ℕ) : sProp 𝕄 := if q < 29 then pRC c h q else atPos ER (cRC c h) 1 ∅ 0

/-- The rows of the sum that have left are given to the transfers of the results. -/
def relO (c : Dev nD) (h : Fin 2) (l : ℕ) : sProp 𝕄 :=
  bigSep (Finset.range l) fun m => if m < 15 then released EK (kyR c h (m + 13)) 1 else iprop(emp)
instance relO_persistent (c : Dev nD) (h : Fin 2) (l : ℕ) : BI.Persistent (relO (F := F) c h l) := by
  unfold relO
  have : ∀ m : ℕ, BI.Persistent (if m < 15 then (released EK (kyR c h (m + 13)) 1 : sProp 𝕄) else iprop(emp)) := by
    intro m; split <;> infer_instance
  infer_instance

/-- After `a` transfers begun, `l` departures, `r` arrivals and `q` credits waited for, and `f` credits given. -/
def ChR (c : Dev nD) (h : Fin 2) (a l r q f : ℕ) : sProp 𝕄 :=
  iprop((tokR c h a ∗ wrR c h a) ∗ (pRS c h l ∗ bigSep (Finset.Ico l a) fun m => cred (tallyAt (cRS c h m) 0 NR))
    ∗ (pRR c h r ∗ crR c h r) ∗ (pRC' c h q ∗ qrR c h q) ∗ (frR c h f ∗ rdR c h f ∗ evR c h f) ∗ (rdO c h l ∗ relO c h l))

theorem cRS_two (c : Dev nD) (n : ℕ) : cRS c h (n + 2) = cRS c h n := by show kcell (c, kRS h (n + 2)) = _; rw [kRS_two]
theorem cRR_two (c : Dev nD) (n : ℕ) : cRR c h (n + 2) = cRR c h n := by show kcell (c, kRR h (n + 2)) = _; rw [kRR_two]
theorem pRS_step (c : Dev nD) (n : ℕ) : (pRS c h n : sProp 𝕄) = iprop(at0 (cRS c h n) (n / 2) ∗ at0 (cRS c h (n + 1)) ((n + 1) / 2)) := rfl
theorem pRS_next (c : Dev nD) (n : ℕ) : (pRS c h (n + 1) : sProp 𝕄) = iprop(at0 (cRS c h (n + 1)) ((n + 1) / 2) ∗ at0 (cRS c h n) (n / 2 + 1)) := by
  unfold pRS
  rw [show n + 1 + 1 = n + 2 from rfl, cRS_two, Nat.add_div_right n (by decide)]
theorem pRR_next (c : Dev nD) (n : ℕ) : (pRR c h (n + 1) : sProp 𝕄) = iprop(at0 (cRR c h (n + 1)) ((n + 1) / 2) ∗ at0 (cRR c h n) (n / 2 + 1)) := by
  unfold pRR
  rw [show n + 1 + 1 = n + 2 from rfl, cRR_two, Nat.add_div_right n (by decide)]

theorem relO_succ (c : Dev nD) (n : ℕ) :
    (relO c h (n + 1) : sProp 𝕄) = iprop((if n < 15 then released EK (kyR c h (n + 13)) 1 else iprop(emp)) ∗ relO c h n) := by
  unfold relO; exact bigSep_range_succ _ n
/-- What is known of one of them. -/
theorem relO_get (c : Dev nD) (m l : ℕ) (hm : m < 15) (hl : m < l) : (relO c h l : sProp 𝕄) ⊢ released EK (kyR c h (m + 13)) 1 := by
  refine (range_split _ (m + 1) l hl).trans ?_
  rw [bigSep_range_succ, if_pos hm]
  iintro ⟨H, -⟩
  iexact H

/-- The rows of a transfer are not empty. -/
theorem slotR_nonempty (n : ℕ) : (slotR (chB h) n).view.set.Nonempty := by
  have h : Finset.univ.Nonempty (α := S64x2048.Idx) := ⟨fun a => ⟨0, by fin_cases a <;> decide⟩, Finset.mem_univ _⟩
  exact h.map
theorem pOwn_nonempty (c : Dev nD) (n : ℕ) (hn : n < 15) : (Rg (pOwn c n h)).Nonempty := by
  rw [← set_rS c n h hn, ← set_slice_bO (rS c n h hn) (fun _ => rfl)]
  have h : Finset.univ.Nonempty (α := S64x2048.Idx) := ⟨fun a => ⟨0, by fin_cases a <;> decide⟩, Finset.mem_univ _⟩
  exact h.map

theorem payRS_lo (c : Dev nD) (n : ℕ) (hn : n < 15) : payRS I c h n = O c (pOwn c n h) fullShare (I.W n c) := by unfold payRS; rw [if_pos hn]
theorem payRS_hi (c : Dev nD) (n : ℕ) (hn : 15 ≤ n) : payRS I c h n = O c (pRes c (n - 15) h) fullShare.left I.OUT := by
  unfold payRS; rw [if_neg (by omega)]

/-! ## Departures, arrivals, credits -/

/-- Wait until transfer `n` has left. -/
theorem rs_left0 (c : Dev nD) (n : ℕ) (hn : n < 30) (src dst : Memref sig .tc .vmem S64x2048 .f32) (hN : dst.view.dmaCredit = NR)
    (a : ℕ) (hna : n < a) (oa of : ℕ) (s e : Fin 2 → ℕ) (hA : Above 0 oa of s e) {α : Type} (k : PUnit → KProg F α) (Q : α → sProp 𝕄) :
    iprop(Ctx I K Kk ∗ Ow c oa of s e ∗ pRS c h n ∗ bigSep (Finset.Ico n a) fun m => cred (tallyAt (cRS c h m) 0 NR))
      ⊢ iprop(((Ow c oa of s e ∗ (pRS c h (n + 1) ∗ bigSep (Finset.Ico (n + 1) a) fun m => cred (tallyAt (cRS c h m) 0 NR)) ∗ payRS I c h n) -∗ WP c (k ⟨⟩) Q) -∗ WP c (leftR n h src dst >>= k) Q) := by
  unfold leftR
  simp only [Prog.lift, Prog.bind_op, Prog.bind_ret]
  rw [bigSep_Ico _ n a hna, pRS_next h c n, pRS_step h c n]
  iintro ⟨#HC, HO, ⟨Hp0, Hp1⟩, ⟨Hc, Hcs⟩⟩ Hk
  iapply (wait_one I K Kk c (semOf (chS h) n) (kRS h n) (csem_RS h n) src dst _ _ 0 (n / 2) NR hN (dut_RS I c h n hn) (exp_RS I c h n hn) oa of s e hA (by decide)) $$ [HO Hc Hp0]
  · isplitr; · iexact HC
    isplitl [HO]; · iexact HO
    isplitl [Hc]; · iexact Hc
    iexact Hp0
  iintro ⟨HO, Hp0, Hpay⟩
  iapply Hk
  isplitl [HO]; · iexact HO
  isplitr [Hpay]
  · isplitl [Hp0 Hp1]
    · isplitl [Hp1]; · iexact Hp1
      iexact Hp0
    iexact Hcs
  iapply (Entails.of_eq (pay_RS I c h n 0)) $$ Hpay

/-- A transfer of the sum has left: its rows are free for the results. -/
theorem rs_left (c : Dev nD) (n : ℕ) (hn : n < 15) (src dst : Memref sig .tc .vmem S64x2048 .f32) (hN : dst.view.dmaCredit = NR)
    (a r q f : ℕ) (hna : n < a) (oa of : ℕ) (s e : Fin 2 → ℕ) (hA : Above 0 oa of s e) {α : Type} (k : PUnit → KProg F α) (Q : α → sProp 𝕄) :
    iprop(Ctx I K Kk ∗ Ow c oa of s e ∗ ChR c h a n r q f)
      ⊢ iprop(((Ow c oa of s e ∗ ChR c h a (n + 1) r q f) -∗ WP c (k ⟨⟩) Q) -∗ WP c (leftR n h src dst >>= k) Q) := by
  unfold ChR rdO
  rw [bigSep_Ico _ n 15 hn, relO_succ, if_pos hn]
  iintro ⟨#HC, HO, ⟨Ht, ⟨Hl, Hcs⟩, Hr, Hq, Hf, ⟨⟨Hrd, Hrds⟩, #Hre⟩⟩⟩ Hk
  iapply (rs_left0 I K Kk h c n (by omega) src dst hN a hna oa of s e hA) $$ [HO Hl Hcs]
  · isplitr; · iexact HC
    isplitl [HO]; · iexact HO
    isplitl [Hl]; · iexact Hl
    iexact Hcs
  iintro ⟨HO, Hl, Hpay0⟩
  ihave Hpay := (Entails.of_eq (payRS_lo I h c n hn)) $$ Hpay0
  ihave #Hi := (Ctx_key I K Kk (kyR c h (n + 13)) (by show n + 13 < 28; omega)) $$ HC
  imod (slot_release EK (Es := Set.univ) (Set.mem_univ (Kk (kyR c h (n + 13)))) (S := keySlot (F := F) (kyR c h (n + 13)))
    (by rw [keySlot_O]; exact slot_slot_false (pOwn_nonempty h c n hn)) 0) $$ [Hrd Hpay] with ⟨-, #Hrel⟩
  · isplitr; · iexact Hi
    isplitl [Hrd]; · iexact Hrd
    iapply (Entails.of_eq (keySlot_O (F := F) c h n).symm)
    unfold O slot
    iexists _
    iexact Hpay
  iapply Hk
  isplitl [HO]; · iexact HO
  isplitl [Ht]; · iexact Ht
  isplitl [Hl]; · iexact Hl
  isplitl [Hr]; · iexact Hr
  isplitl [Hq]; · iexact Hq
  isplitl [Hf]; · iexact Hf
  isplitl [Hrds]; · iexact Hrds
  isplitr; · iexact Hrel
  iexact Hre

/-- A transfer of the results has left. -/
theorem rs_left' (c : Dev nD) (n : ℕ) (hn : 15 ≤ n) (hn' : n < 30) (src dst : Memref sig .tc .vmem S64x2048 .f32) (hN : dst.view.dmaCredit = NR)
    (a r q f : ℕ) (hna : n < a) (oa of : ℕ) (s e : Fin 2 → ℕ) (hA : Above 0 oa of s e) {α : Type} (k : PUnit → KProg F α) (Q : α → sProp 𝕄) :
    iprop(Ctx I K Kk ∗ Ow c oa of s e ∗ ChR c h a n r q f)
      ⊢ iprop(((Ow c oa of s e ∗ ChR c h a (n + 1) r q f ∗ O c (pRes c (n - 15) h) fullShare.left I.OUT) -∗ WP c (k ⟨⟩) Q) -∗ WP c (leftR n h src dst >>= k) Q) := by
  unfold ChR rdO
  rw [bigSep_Ico_empty _ n 15 hn, bigSep_Ico_empty _ (n + 1) 15 (by omega), relO_succ, if_neg (by omega)]
  iintro ⟨#HC, HO, ⟨Ht, ⟨Hl, Hcs⟩, Hr, Hq, Hf, ⟨Hrds, #Hre⟩⟩⟩ Hk
  iapply (rs_left0 I K Kk h c n hn' src dst hN a hna oa of s e hA) $$ [HO Hl Hcs]
  · isplitr; · iexact HC
    isplitl [HO]; · iexact HO
    isplitl [Hl]; · iexact Hl
    iexact Hcs
  iintro ⟨HO, Hl, Hpay0⟩
  ihave Hpay := (Entails.of_eq (payRS_hi I h c n hn)) $$ Hpay0
  iapply Hk
  isplitl [HO]; · iexact HO
  isplitr [Hpay]
  · isplitl [Ht]; · iexact Ht
    isplitl [Hl]; · iexact Hl
    isplitl [Hr]; · iexact Hr
    isplitl [Hq]; · iexact Hq
    isplitl [Hf]; · iexact Hf
    isplitl [Hrds]; · iexact Hrds
    isplitr; · iempintro
    iexact Hre
  iexact Hpay

/-- Wait for the arrival of transfer `n`. -/
theorem rs_recv (c : Dev nD) (n : ℕ) (hn : n < 30) (src dst : Memref sig .tc .vmem S64x2048 .f32) (hN : dst.view.dmaCredit = NR)
    (a l q f : ℕ) (oa of : ℕ) (s e : Fin 2 → ℕ) (hA : Above (n + 3) oa of s e) {α : Type} (k : PUnit → KProg F α) (Q : α → sProp 𝕄) :
    iprop(Ctx I K Kk ∗ Ow c oa of s e ∗ ChR c h a l n q f)
      ⊢ iprop(((Ow c oa of s e ∗ ChR c h a l (n + 1) q f ∗ payRR I c h n) -∗ WP c (k ⟨⟩) Q) -∗ WP c (recvR n h src dst >>= k) Q) := by
  unfold recvR ChR crR
  simp only [Prog.lift, Prog.bind_op, Prog.bind_ret]
  rw [bigSep_Ico _ n 30 hn, pRR_next h c n, pRR]
  iintro ⟨#HC, HO, ⟨Ht, Hl, ⟨⟨Hp0, Hp1⟩, ⟨Hc, Hcs⟩⟩, Hq, Hf⟩⟩ Hk
  iapply (wait_one I K Kk c (semOf (chR h) n) (kRR h n) (csem_RR h n) src dst _ _ (n + 3) (n / 2) NR hN (dut_RR I c h n hn) (exp_RR I c h n hn) oa of s e hA (by omega)) $$ [HO Hc Hp0]
  · isplitr; · iexact HC
    isplitl [HO]; · iexact HO
    isplitl [Hc]; · iexact Hc
    iexact Hp0
  iintro ⟨HO, Hp0, Hpay⟩
  iapply Hk
  isplitl [HO]; · iexact HO
  isplitr [Hpay]
  · isplitl [Ht]; · iexact Ht
    isplitl [Hl]; · iexact Hl
    isplitl [Hp0 Hp1 Hcs]
    · isplitl [Hp0 Hp1]
      · isplitl [Hp1]; · iexact Hp1
        iexact Hp0
      iexact Hcs
    isplitl [Hq]; · iexact Hq
    iexact Hf
  iapply (Entails.of_eq (pay_RR I c h n 0)) $$ Hpay

/-- Wait for one credit. -/
theorem rs_credit (c : Dev nD) (q : ℕ) (hq : q < 28) (a l r f : ℕ) (oa of : ℕ) (s e : Fin 2 → ℕ) (hA : Above (q + 4) oa of s e)
    {α : Type} (k : PUnit → KProg F α) (Q : α → sProp 𝕄) :
    iprop(Ctx I K Kk ∗ Ow c oa of s e ∗ ChR c h a l r q f)
      ⊢ iprop(((Ow c oa of s e ∗ ChR c h a l r (q + 1) f) -∗ WP c (k ⟨⟩) Q) -∗ WP c (creditR h 1#32 >>= k) Q) := by
  unfold creditR ChR qrR pRC'
  simp only [semWaitWord, Prog.lift, Prog.bind_op, Prog.bind_ret]
  rw [bigSep_Ico _ q 30 (by omega), if_pos (by omega), if_pos (by omega)]
  unfold pRC
  iintro ⟨#HC, HO, ⟨Ht, Hl, Hr, ⟨Hp, ⟨Hc, Hcs⟩⟩, Hf⟩⟩ Hk
  iapply (credit_one I K Kk c (chC h).sem (kRC h) (csem_RC h) (q + 4) q 30 (payRC c h) (dut_RC I c h) (exp_RC I c h) (pay_RC I c h 0) oa of s e hA (by omega)) $$ [HO Hc Hp]
  · isplitr; · iexact HC
    isplitl [HO]; · iexact HO
    isplitl [Hc]; · iexact Hc
    iexact Hp
  iintro ⟨HO, Hp⟩
  iapply Hk
  isplitl [HO]; · iexact HO
  isplitl [Ht]; · iexact Ht
  isplitl [Hl]; · iexact Hl
  isplitl [Hr]; · iexact Hr
  isplitl [Hp Hcs]
  · isplitl [Hp]; · iexact Hp
    iexact Hcs
  iexact Hf

/-- Wait for the last two credits. -/
theorem rs_credit2 (c : Dev nD) (a l r f : ℕ) (oa of : ℕ) (s e : Fin 2 → ℕ) (hA : Above 33 oa of s e)
    {α : Type} (k : PUnit → KProg F α) (Q : α → sProp 𝕄) :
    iprop(Ctx I K Kk ∗ Ow c oa of s e ∗ ChR c h a l r 28 f)
      ⊢ iprop(((Ow c oa of s e ∗ ChR c h a l r 30 f) -∗ WP c (k ⟨⟩) Q) -∗ WP c (creditR h 2#32 >>= k) Q) := by
  unfold creditR ChR qrR pRC'
  simp only [semWaitWord, Prog.lift, Prog.bind_op, Prog.bind_ret]
  rw [bigSep_Ico _ 28 30 (by omega), bigSep_Ico _ (28 + 1) 30 (by omega), if_pos (by omega), if_neg (by omega)]
  unfold pRC
  iintro ⟨#HC, HO, ⟨Ht, Hl, Hr, ⟨⟨%S, -, Hp, -⟩, ⟨Hc, Hc', Hcs⟩⟩, Hf⟩⟩ Hk
  iapply (credit_last I K Kk c (chC h).sem (kRC h) (csem_RC h) (28 + 4) (28 + 1 + 4) 28 (by decide) S (exp_RC I c h) oa of s e 33 hA (by decide) (by decide) (by decide)) $$ [HO Hc Hc' Hp]
  · isplitr; · iexact HC
    isplitl [HO]; · iexact HO
    isplitl [Hc Hc']
    · isplitl [Hc]; · iexact Hc
      iexact Hc'
    iexact Hp
  iintro ⟨HO, Hp⟩
  iapply Hk
  isplitl [HO]; · iexact HO
  isplitl [Ht]; · iexact Ht
  isplitl [Hl]; · iexact Hl
  isplitl [Hr]; · iexact Hr
  isplitl [Hp Hcs]
  · isplitl [Hp]; · iexact Hp
    iexact Hcs
  iexact Hf

/-! ## Giving credit -/

theorem evR_succ (c : Dev nD) (n : ℕ) : (evR c h (n + 1) : sProp 𝕄) = iprop(factR c h n ∗ evR c h n) := by
  unfold evR; exact bigSep_range_succ _ n

/-- Give the credit of transfer `n` with what is known of it. -/
theorem rs_free0 (c : Dev nD) (n : ℕ) (hn : n < 30) (oa : ℕ) (s e : Fin 2 → ℕ) (he : e h = n)
    {α : Type} (k : PUnit → KProg F α) (Q : α → sProp 𝕄) (of : ℕ) :
    iprop(Ctx I K Kk ∗ Ow c oa of s e ∗ frR c h n ∗ evR c h (n + 1))
      ⊢ iprop(((Ow c oa of s (up e h) ∗ frR c h (n + 1)) -∗ WP c (k ⟨⟩) Q) -∗ WP c (freeR c h >>= k) Q) := by
  unfold freeR frR
  simp only [semSignalWord, Prog.lift, Prog.bind_op, Prog.bind_ret]
  rw [bigSep_Ico _ n 30 (by omega)]
  have hp : (sched I).payload (kcell (ringL c, kRC h)) 0 n = evR c h (n + 1) := by
    rw [pay_RC]; unfold payRC; rw [ringR_ringL]
  iintro ⟨#HC, HO, ⟨Hd, Hds⟩, #Hev⟩ Hk
  iapply (signal_one I K Kk c (ringL c) (chC h).sem (kRC h) (csem_RC h) n (n + 4) (by rw [dut_RC]; exact Finset.mem_range.mpr (by omega)) (amt_RC I _ _ _ _)
    (owed c oa of s e) (owed c oa of s (up e h)) (by rw [owed_E c oa of s e h (by omega), tE, he])) $$ [HO Hd]
  · isplitr; · iexact HC
    isplitl [HO]; · unfold Ow; iexact HO
    isplitl [Hd]; · iexact Hd
    rw [hp]
    iexact Hev
  iintro HO
  iapply Hk
  isplitl [HO]; · unfold Ow; iexact HO
  iexact Hds

/-- Give the credit of transfer `n`, with its slot. -/
theorem rs_free (c : Dev nD) (n : ℕ) (hn : n < 13) (a l q : ℕ) (oa of : ℕ) (s e : Fin 2 → ℕ) (he : e h = n)
    {α : Type} (k : PUnit → KProg F α) (Q : α → sProp 𝕄) :
    iprop(Ctx I K Kk ∗ Ow c oa of s e ∗ ChR c h a l (n + 1) q n ∗ SlR c h n)
      ⊢ iprop(((Ow c oa of s (up e h) ∗ ChR c h a l (n + 1) q (n + 1)) -∗ WP c (k ⟨⟩) Q) -∗ WP c (freeR c h >>= k) Q) := by
  unfold ChR rdR
  rw [bigSep_Ico _ n 13 (by omega), pRR_next h c n]
  unfold at0
  iintro ⟨#HC, HO, ⟨Ht, Hl, ⟨⟨Hp0, ⟨Hp1, #Hre⟩⟩, Hcr⟩, Hq, ⟨Hd, ⟨Hrd, Hrds⟩, #Hev⟩, Hz⟩, Hsl⟩ Hk
  ihave #Hi := (Ctx_key I K Kk (kyR c h n) (by show n < 28; omega)) $$ HC
  imod (slot_release EK (Es := Set.univ) (Set.mem_univ (Kk (kyR c h n))) (S := keySlot (F := F) (kyR c h n))
    (by rw [keySlot_R c h n hn]; exact slot_slot_false (slotR_nonempty h n)) 0) $$ [Hrd Hsl] with ⟨-, #Hrel⟩
  · isplitr; · iexact Hi
    isplitl [Hrd]; · iexact Hrd
    iapply (Entails.of_eq (keySlot_R (F := F) c h n hn).symm) $$ Hsl
  ihave #Hev' : evR c h (n + 1) $$ []
  · rw [evR_succ]
    unfold factR
    isplitl []
    · isplitr; · iexact Hre
      rw [if_pos (by omega)]
      iexact Hrel
    iexact Hev
  iapply (rs_free0 I K Kk h c n (by omega) oa s e he k Q of) $$ [HO Hd]
  · isplitr; · iexact HC
    isplitl [HO]; · iexact HO
    isplitl [Hd]; · iexact Hd
    iexact Hev'
  iintro ⟨HO, Hds⟩
  iapply Hk
  isplitl [HO]; · iexact HO
  isplitl [Ht]; · iexact Ht
  isplitl [Hl]; · iexact Hl
  isplitl [Hp0 Hp1 Hcr]
  · isplitl [Hp0 Hp1]
    · isplitl [Hp0]; · iexact Hp0
      isplitl [Hp1]; · iexact Hp1
      iexact Hre
    iexact Hcr
  isplitl [Hq]; · iexact Hq
  isplitl [Hds Hrds]
  · isplitl [Hds]; · iexact Hds
    isplitl [Hrds]; · iexact Hrds
    iexact Hev'
  iexact Hz

/-- Give the credit of a transfer whose slot is not used again. -/
theorem rs_free' (c : Dev nD) (n : ℕ) (hn : 13 ≤ n) (hn' : n < 30) (a l q : ℕ) (hl : n < 28 → n < l + 13) (oa of : ℕ) (s e : Fin 2 → ℕ) (he : e h = n)
    {α : Type} (k : PUnit → KProg F α) (Q : α → sProp 𝕄) :
    iprop(Ctx I K Kk ∗ Ow c oa of s e ∗ ChR c h a l (n + 1) q n)
      ⊢ iprop(((Ow c oa of s (up e h) ∗ ChR c h a l (n + 1) q (n + 1)) -∗ WP c (k ⟨⟩) Q) -∗ WP c (freeR c h >>= k) Q) := by
  unfold ChR rdR
  rw [bigSep_Ico_empty _ n 13 hn, bigSep_Ico_empty _ (n + 1) 13 (by omega), pRR_next h c n]
  unfold at0
  iintro ⟨#HC, HO, ⟨Ht, Hl, ⟨⟨Hp0, ⟨Hp1, #Hre⟩⟩, Hcr⟩, Hq, ⟨Hd, Hrds, #Hev⟩, ⟨Hz, #Hrel⟩⟩⟩ Hk
  ihave #Hev' : evR c h (n + 1) $$ []
  · rw [evR_succ]
    unfold factR
    isplitl []
    · isplitr; · iexact Hre
      by_cases h28 : n < 28
      · rw [if_pos h28]
        have hg := relO_get (F := F) h c (n - 13) l (by omega) (by have := hl h28; omega)
        rw [show n - 13 + 13 = n by omega] at hg
        iapply hg $$ Hrel
      · rw [if_neg h28]
        iempintro
    iexact Hev
  iapply (rs_free0 I K Kk h c n (by omega) oa s e he k Q of) $$ [HO Hd]
  · isplitr; · iexact HC
    isplitl [HO]; · iexact HO
    isplitl [Hd]; · iexact Hd
    iexact Hev'
  iintro ⟨HO, Hds⟩
  iapply Hk
  isplitl [HO]; · iexact HO
  isplitl [Ht]; · iexact Ht
  isplitl [Hl]; · iexact Hl
  isplitl [Hp0 Hp1 Hcr]
  · isplitl [Hp0 Hp1]
    · isplitl [Hp0]; · iexact Hp0
      isplitl [Hp1]; · iexact Hp1
      iexact Hre
    iexact Hcr
  isplitl [Hq]; · iexact Hq
  isplitl [Hds Hrds]
  · isplitl [Hds]; · iexact Hds
    isplitl [Hrds]; · iexact Hrds
    iexact Hev'
  isplitl [Hz]; · iexact Hz
  iexact Hrel

/-! ## Starting a transfer -/

/-- Transfer `n < 15`, once its semaphores have reached its round. -/
theorem rs_land (c : Dev nD) (n : ℕ) (hn : n < 15) (a f : ℕ) (s e : Fin 2 → ℕ) (hs : s h = n) {α : Type} (k : PUnit → KProg F α) (Q : α → sProp 𝕄) :
    iprop(Ctx I K Kk ∗ Ow c a f s e ∗ tokR c h n ∗ reached ER (cRS c h n) (n / 2) ∗ reached ER (cRR (ringR c) h n) (n / 2)
        ∗ O c (pOwn c n h) fullShare (I.W n c) ∗ SlR (ringR c) h n)
      ⊢ iprop(((Ow c a f (up s h) e ∗ tokR c h (n + 1) ∗ cred (tallyAt (cRS c h n) 0 NR)) -∗ WP c (k ⟨⟩) Q)
          -∗ WP c (rSend c n h hn >>= k) Q) := by
  unfold rSend sendR tokR SlR slot
  simp only [Prog.lift, Prog.bind_op, Prog.bind_ret]
  rw [bigSep_Ico _ n 30 (by omega), O_rS c c n h hn]
  iintro ⟨#HC, HO, ⟨⟨Ht1, Ht2⟩, Htok⟩, #Hr1, #Hr2, Hsrc, ⟨%fd, Hdst⟩⟩ Hk
  iapply (send_one I K Kk c (ringR c) (semOf (chS h) n) (semOf (chR h) n) (kRS h n) (kRR h n) (csem_RS h n) (csem_RR h n)
      (vS c n h hn) (slotR (chB h) n) _ _ _ (n + 3) (n / 2) NR rfl (dut_RS I c h n (by omega)) (dut_RR I (ringR c) h n (by omega)) (amt_RS I c h n _ _) (amt_RR I (ringR c) h n _ _)
      (owed c a f s e) (owed c a f (up s h) e) (by rw [owed_S c a f s e h (by omega), tS, hs]) fullShare (I.W n c) fd
      (by rw [pay_RS]; unfold payRS; rw [if_pos hn, O_rS c c n h hn])
      (by
        rw [pay_RR]; unfold payRR; rw [dif_pos hn, ringL_ringR]
        iintro Hd
        iexists _
        isplitl [Hd]; · iexact Hd
        ipureintro
        exact View.read_write_univ _ _))
    $$ [HO Ht1 Ht2 Hsrc Hdst]
  · isplitr; · iexact HC
    isplitl [HO]; · unfold Ow; iexact HO
    isplitl [Ht1]; · iexact Ht1
    isplitl [Ht2]; · iexact Ht2
    isplitr; · iexact Hr1
    isplitr; · iexact Hr2
    isplitl [Hsrc]; · iexact Hsrc
    iexact Hdst
  iintro ⟨HO, Hc⟩
  iapply Hk
  isplitl [HO]; · unfold Ow; iexact HO
  isplitl [Htok]; · iexact Htok
  iexact Hc

/-- The first two transfers. -/
theorem rs_first (c : Dev nD) (n : ℕ) (hn : n < 2) (hn' : n < 15) (r q f : ℕ) (oa of : ℕ) (s e : Fin 2 → ℕ) (hs : s h = n) {α : Type} (k : PUnit → KProg F α) (Q : α → sProp 𝕄) :
    iprop(Ctx I K Kk ∗ Ow c oa of s e ∗ ChR c h n 0 r q f ∗ O c (pOwn c n h) fullShare (I.W n c) ∗ SlR (ringR c) h n)
      ⊢ iprop(((Ow c oa of (up s h) e ∗ ChR c h (n + 1) 0 r q f) -∗ WP c (k ⟨⟩) Q) -∗ WP c (rSend c n h hn' >>= k) Q) := by
  unfold ChR wrR
  rw [bigSep_Ico _ n 30 (by omega), if_neg (by omega), ico_top' _ 0 n (by omega)]
  iintro ⟨#HC, HO, ⟨⟨Htok, ⟨-, Hwr⟩⟩, ⟨Hl, Hcs⟩, Hr, Hq, Hf⟩, Hsrc, Hdst⟩ Hk
  ihave #H1 := (Ctx_reached I K Kk c (kRS h n)) $$ HC
  ihave #H2 := (Ctx_reached I K Kk (ringR c) (kRR h n)) $$ HC
  iapply (rs_land I K Kk h c n hn' oa of s e hs) $$ [HO Htok Hsrc Hdst]
  · isplitr; · iexact HC
    isplitl [HO]; · iexact HO
    isplitl [Htok]; · iexact Htok
    rw [show n / 2 = 0 by omega]
    isplitr; · iexact H1
    isplitr; · iexact H2
    isplitl [Hsrc]; · iexact Hsrc
    iexact Hdst
  iintro ⟨HO, Htok, Hc⟩
  iapply Hk
  isplitl [HO]; · iexact HO
  isplitl [Htok Hwr]
  · isplitl [Htok]; · iexact Htok
    iexact Hwr
  isplitl [Hl Hc Hcs]
  · isplitl [Hl]; · iexact Hl
    isplitl [Hc]; · iexact Hc
    iexact Hcs
  isplitl [Hr]; · iexact Hr
  isplitl [Hq]; · iexact Hq
  iexact Hf

instance payRC_persistent (c : Dev nD) (d : ℕ) : BI.Persistent (payRC (F := F) c h d) := by unfold payRC; infer_instance

/-- What one credit more than `n` tells of transfer `n`. -/
theorem pRC_fact (c : Dev nD) (n : ℕ) : (pRC c h (n + 1) : sProp 𝕄) ⊢ iprop(pRC c h (n + 1) ∗ factR (ringR c) h n) := by
  unfold pRC
  iintro ⟨%S, %hS, Hat, #HS⟩
  ihave Hev := ((news_R c h S (n + 1) hS.2).trans (Entails.of_eq (evR_succ h (ringR c) n))) $$ HS
  icases Hev with ⟨#Hf, -⟩
  isplitl
  · iexists S
    isplitr; · ipureintro; exact hS
    isplitl [Hat]; · iexact Hat
    iexact HS
  iexact Hf

/-- A later transfer of the sum. -/
theorem rs_next (c : Dev nD) (n : ℕ) (hn : n + 2 < 15) (r f : ℕ) (oa of : ℕ) (s e : Fin 2 → ℕ) (hs : s h = n + 2) {α : Type} (k : PUnit → KProg F α) (Q : α → sProp 𝕄) :
    iprop(Ctx I K Kk ∗ Ow c oa of s e ∗ ChR c h (n + 2) (n + 1) r (n + 1) f ∗ O c (pOwn c (n + 2) h) fullShare (I.W (n + 2) c))
      ⊢ iprop(((Ow c oa of (up s h) e ∗ ChR c h (n + 3) (n + 1) r (n + 1) f) -∗ WP c (k ⟨⟩) Q) -∗ WP c (rSend c (n + 2) h hn >>= k) Q) := by
  unfold ChR wrR pRC'
  rw [bigSep_Ico _ (n + 2) 30 (by omega), if_pos (by omega : 2 ≤ n + 2), ico_top' _ (n + 1) (n + 2) (by omega), if_pos (by omega), pRS_next h c n, Nat.add_sub_cancel]
  unfold at0
  iintro ⟨#HC, HO, ⟨⟨Htok, ⟨Hw, Hwr⟩⟩, ⟨⟨Hl0, ⟨Hl1, #Hre⟩⟩, Hcs⟩, Hr, ⟨Hp, Hq⟩, Hf⟩, Hsrc⟩ Hk
  ihave Hp' := (pRC_fact h c n) $$ Hp
  unfold factR
  rw [if_pos (by omega : n < 28)]
  icases Hp' with ⟨Hp, ⟨#H2, #Hrel⟩⟩
  ihave #Hi := (Ctx_key I K Kk (kyR (ringR c) h n) (by show n < 28; omega)) $$ HC
  imod (slot_take EK (Es := Set.univ) (Set.mem_univ (Kk (kyR (ringR c) h n))) (S := keySlot (F := F) (kyR (ringR c) h n)) 1) $$ [Hw] with Hdst
  · isplitr; · iexact Hi
    isplitr; · iexact Hrel
    iexact Hw
  iapply (rs_land I K Kk h c (n + 2) hn oa of s e hs) $$ [HO Htok Hsrc Hdst]
  · isplitr; · iexact HC
    isplitl [HO]; · iexact HO
    isplitl [Htok]; · iexact Htok
    rw [cRS_two, cRR_two, Nat.add_div_right n (by decide), SlR_two]
    isplitr; · iexact Hre
    isplitr; · iexact H2
    isplitl [Hsrc]; · iexact Hsrc
    iapply (Entails.of_eq (keySlot_R (F := F) (ringR c) h n (by omega))) $$ Hdst
  iintro ⟨HO, Htok, Hc⟩
  iapply Hk
  isplitl [HO]; · iexact HO
  isplitl [Htok Hwr]
  · isplitl [Htok]; · iexact Htok
    iexact Hwr
  isplitl [Hl0 Hl1 Hc Hcs]
  · isplitl [Hl0 Hl1]
    · isplitl [Hl0]; · iexact Hl0
      isplitl [Hl1]; · iexact Hl1
      iexact Hre
    isplitl [Hc]; · iexact Hc
    iexact Hcs
  isplitl [Hr]; · iexact Hr
  isplitl [Hp Hq]
  · isplitl [Hp]; · iexact Hp
    iexact Hq
  iexact Hf

/-- A transfer of the results. -/
theorem rs_res (c : Dev nD) (g : ℕ) (hg : g < 15) (r f : ℕ) (oa of : ℕ) (s e : Fin 2 → ℕ) (hs : s h = g + 15) {α : Type} (k : PUnit → KProg F α) (Q : α → sProp 𝕄) :
    iprop(Ctx I K Kk ∗ Ow c oa of s e ∗ ChR c h (g + 15) (g + 14) r (g + 14) f ∗ O c (pRes c g h) fullShare.left I.OUT)
      ⊢ iprop(((Ow c oa of (up s h) e ∗ ChR c h (g + 16) (g + 14) r (g + 14) f) -∗ WP c (k ⟨⟩) Q) -∗ WP c (rSendG c g h hg >>= k) Q) := by
  have hslot : (slot ((ringR c : Thread nD τ).loc cc0_stg4_0) (Rg (pOwn (ringR c) g h)) : sProp 𝕄) = iprop(∃ f : OBuf F, O (ringR c) (pRes c g h) fullShare f) := by
    unfold slot O
    rw [Rg_congr (p := pOwn (ringR c) g h) (p' := pRes c g h) (fun r hr => by unfold pOwn pRes; rw [own_ringR, pos_ringR])]
  unfold ChR wrR pRC' tokR
  rw [bigSep_Ico _ (g + 15) 30 (by omega), bigSep_Ico _ (g + 15) 30 (by omega), if_pos (by omega : 2 ≤ g + 15), ico_top' _ (g + 14) (g + 15) (by omega), if_pos (by omega),
    show g + 14 = (g + 13) + 1 from rfl, pRS_next h c (g + 13), show g + 15 - 2 = g + 13 from rfl, O_rG c c g h hg]
  unfold at0 rSendG sendR
  simp only [Prog.lift, Prog.bind_op, Prog.bind_ret]
  iintro ⟨#HC, HO, ⟨⟨⟨⟨Ht1, Ht2⟩, Htok⟩, ⟨Hw, Hwr⟩⟩, ⟨⟨Hl0, ⟨Hl1, #Hre⟩⟩, Hcs⟩, Hr, ⟨Hp, Hq⟩, Hf⟩, Hsrc⟩ Hk
  ihave Hp' := (pRC_fact h c (g + 13)) $$ Hp
  unfold factR
  rw [if_pos (by omega : g + 13 < 28)]
  icases Hp' with ⟨Hp, ⟨#H2, #Hrel⟩⟩
  ihave #Hi := (Ctx_key I K Kk (kyR (ringR c) h (g + 13)) (by show g + 13 < 28; omega)) $$ HC
  imod (slot_take EK (Es := Set.univ) (Set.mem_univ (Kk (kyR (ringR c) h (g + 13)))) (S := keySlot (F := F) (kyR (ringR c) h (g + 13))) 1) $$ [Hw] with Hdst
  · isplitr; · iexact Hi
    isplitr; · iexact Hrel
    iexact Hw
  ihave Hdst' := (Entails.of_eq ((keySlot_O (F := F) (ringR c) h g).trans hslot)) $$ Hdst
  icases Hdst' with ⟨%fd, Hdst0⟩
  ihave Hdst := (Entails.of_eq (O_rG c (ringR c) g h hg fullShare fd)) $$ Hdst0
  iapply (send_one I K Kk c (ringR c) (semOf (chS h) (15 + g)) (semOf (chR h) (15 + g)) (kRS h (g + 15)) (kRR h (g + 15))
      (by rw [csem_RS, Nat.add_comm]) (by rw [csem_RR, Nat.add_comm])
      (vG c g h hg) (vG c g h hg) _ _ _ (g + 15 + 3) ((g + 15) / 2) NR rfl (dut_RS I c h _ (by omega)) (dut_RR I (ringR c) h _ (by omega)) (amt_RS I c h _ _ _) (amt_RR I (ringR c) h _ _ _)
      (owed c oa of s e) (owed c oa of (up s h) e) (by rw [owed_S c oa of s e h (by omega), tS, hs]) fullShare.left I.OUT fd
      (by rw [pay_RS]; unfold payRS; rw [if_neg (by omega), ← O_rG c c g h hg, Nat.add_sub_cancel])
      (by
        rw [pay_RR]; unfold payRR
        rw [dif_neg (by omega), Nat.add_sub_cancel,
          O_iff (ringR c) (p := pOwn (ringR c) g h) (p' := pRes c g h) (fun r hr => by unfold pOwn pRes; rw [own_ringR, pos_ringR]), O_rG c (ringR c) g h hg]
        refine Entails.of_eq (pointsTo_congr ?_)
        exact copy_on _ _ _ _))
    $$ [HO Ht1 Ht2 Hsrc Hdst]
  · isplitr; · iexact HC
    isplitl [HO]; · unfold Ow; iexact HO
    isplitl [Ht1]; · iexact Ht1
    isplitl [Ht2]; · iexact Ht2
    rw [show g + 15 = (g + 13) + 2 from rfl, kRS_two, kRR_two, Nat.add_div_right (g + 13) (by decide)]
    isplitr; · iexact Hre
    isplitr; · iexact H2
    isplitl [Hsrc]; · iexact Hsrc
    iexact Hdst
  iintro ⟨HO, Hc⟩
  iapply Hk
  isplitl [HO]; · unfold Ow; iexact HO
  isplitl [Htok Hwr]
  · isplitl [Htok]; · iexact Htok
    iexact Hwr
  isplitl [Hl0 Hl1 Hc Hcs]
  · isplitl [Hl0 Hl1]
    · isplitl [Hl0]; · iexact Hl0
      isplitl [Hl1]; · iexact Hl1
      iexact Hre
    isplitl [Hc]; · iexact Hc
    iexact Hcs
  isplitl [Hr]; · iexact Hr
  isplitl [Hp Hq]
  · isplitl [Hp]; · iexact Hp
    iexact Hq
  iexact Hf

end Cert.KernelIdeal.Pf

end
-- ==== Proof.KI.Blocks.lean ====
module

public import proofs.«01_k».proof.Proof.KI.StepR

/-! The steps with the memory they use. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-! ## Ownership of rows -/

theorem O_split (c : Dev nD) {p p1 p2 : ℕ → Prop} (q) (f : OBuf F) (h : ∀ n, n < 4096 → (p n ↔ p1 n ∨ p2 n)) (hd : ∀ n, n < 4096 → ¬(p1 n ∧ p2 n)) :
    (O c p q f : sProp 𝕄) ⊣⊢ iprop(O c p1 q f ∗ O c p2 q f) := by
  have e : Rg p = Rg p1 ∪ Rg p2 := by
    ext i; rw [Finset.mem_union, mem_Rg, mem_Rg, mem_Rg]; exact h _ (row_lt i)
  have d : Disjoint (Rg p1) (Rg p2) := by
    rw [Finset.disjoint_left]; intro i h1 h2; rw [mem_Rg] at h1 h2; exact hd _ (row_lt i) ⟨h1, h2⟩
  unfold O; rw [e]; exact pointsTo_union d
theorem O_share (c : Dev nD) (p : ℕ → Prop) (f : OBuf F) :
    (O c p fullShare f : sProp 𝕄) ⊣⊢ iprop(O c p fullShare.left f ∗ O c p fullShare.right f) := by
  unfold O; exact pointsTo_share (PosShare.mem_left_op_right fullShare)
theorem O_none (c : Dev nD) {p : ℕ → Prop} (q) (f : OBuf F) (h : ∀ n, n < 4096 → ¬ p n) : (O c p q f : sProp 𝕄) = iprop(emp) := by
  have e : Rg p = ∅ := by
    ext i; rw [mem_Rg]; exact ⟨fun hi => absurd hi (h _ (row_lt i)), fun hi => absurd hi (Finset.notMem_empty _)⟩
  unfold O; rw [e]; exact pointsTo_empty

theorem O_rB (c : Dev nD) (n : ℕ) (hn : n < 16) (q) (f : OBuf F) :
    (O c (fun r => own c r ∧ pos c r = n) q f : sProp 𝕄) = ((c : Thread nD τ).loc cc0_stg4_0 ↦[(rB c n hn).set]{q} f) := by
  rw [set_rB]; rfl
theorem O_rT (c : Dev nD) (n : ℕ) (h : Fin 2) (hn : n < 15) (q) (f : OBuf F) :
    (O c (pOwn c (n + 1) h) q f : sProp 𝕄) = ((c : Thread nD τ).loc cc0_stg4_0 ↦[(rT c n h hn).set]{q} f) := by
  rw [set_rT]; rfl
theorem O_rE (c : Dev nD) (h : Fin 2) (q) (f : OBuf F) :
    (O c (pOwn c 15 h) q f : sProp 𝕄) = ((c : Thread nD τ).loc cc0_stg4_0 ↦[(rE c h).set]{q} f) := by
  rw [set_rE]; rfl
theorem O_rOj (c : Dev nD) (n : ℕ) (hn : n < 32) (q) (f : OBuf F) :
    (O c (fun r => r / 128 = n) q f : sProp 𝕄) = ((c : Thread nD τ).loc cc0_stg4_0 ↦[(rOj n hn).set]{q} f) := by
  rw [set_rOj]; rfl

/-- Loading and storing rows of the output. -/
theorem loadO (c : Dev nD) (r : Rect S4096x2048) {hl : bO.view.LoadsAt r.toLoadRect} (q) (f : OBuf F) {α : Type}
    (k : (r.toLoadRect.shape.Idx → Elt F .f32) → KProg F α) (Q : α → sProp 𝕄) :
    ((c : Thread nD τ).loc cc0_stg4_0 ↦[r.set]{q} f)
      ⊢ iprop((((c : Thread nD τ).loc cc0_stg4_0 ↦[r.set]{q} f) -∗ WP c (k (bO.view.readAt (Elt F) r.toLoadRect f)) Q)
        -∗ WP c (.op (.load bO r.toLoadRect hl) k) Q) :=
  wp_load 𝒱₀ (c : Thread nD τ) none Set.univ (m := bO) (r := r.toLoadRect) (S := r.set) (q := q) (f := f)
    (subset_of_eq ((View.set_slice _ _).symm.trans (set_access_bO r)))
theorem storeO (c : Dev nD) (r : Rect S4096x2048) {hx hm} (f f' : OBuf F) (w : r.shape.Idx → Elt F .f32)
    (hw : ∀ i ∈ r.set, (bO.access r).write (Elt F) f w Finset.univ i = f' i) {α : Type}
    (k : PUnit → KProg F α) (Q : α → sProp 𝕄) :
    ((c : Thread nD τ).loc cc0_stg4_0 ↦[r.set]{fullShare} f)
      ⊢ iprop((((c : Thread nD τ).loc cc0_stg4_0 ↦[r.set]{fullShare} f') -∗ WP c (k ⟨⟩) Q)
        -∗ WP c (.op (.store bO r w Finset.univ hx hm) k) Q) := by
  have e : ((c : Thread nD τ).loc cc0_stg4_0 ↦[r.set]{fullShare} f' : sProp 𝕄)
      = ((c : Thread nD τ).loc cc0_stg4_0 ↦[r.set]{fullShare} ((bO.access r).write (Elt F) f w Finset.univ)) :=
    pointsTo_congr fun i hi => (hw i hi).symm
  rw [e]
  exact wp_store 𝒱₀ (c : Thread nD τ) none Set.univ (m := bO) (r := r) (Mk := Finset.univ) (S := r.set) (f := f)
    (subset_of_eq (set_access_bO r))

/-- Loading a receive slot. -/
theorem loadC (c : Dev nD) (n : ℕ) (r : Rect S2x128x2048) (hr : (bC.access r).set = (slotC n).view.set) {hl : bC.view.LoadsAt r.toLoadRect} (g) {α : Type}
    (k : (r.toLoadRect.shape.Idx → Elt F .f32) → KProg F α) (Q : α → sProp 𝕄) :
    ((slotC n).view.loc (c : Thread nD τ) ↦[(slotC n).view.set]{fullShare} g)
      ⊢ iprop((((slotC n).view.loc (c : Thread nD τ) ↦[(slotC n).view.set]{fullShare} g) -∗ WP c (k (bC.view.readAt (Elt F) r.toLoadRect g)) Q)
        -∗ WP c (.op (.load bC r.toLoadRect hl) k) Q) :=
  wp_load 𝒱₀ (c : Thread nD τ) none Set.univ (m := bC) (r := r.toLoadRect) (S := (slotC n).view.set) (q := fullShare) (f := g)
    (subset_of_eq ((View.set_slice _ _).symm.trans hr))
theorem loadR (c : Dev nD) (h : Fin 2) (n : ℕ) (r : Rect S2x64x2048) (hr : ((chB h).access r).set = (slotR (chB h) n).view.set) {hl : (chB h).view.LoadsAt r.toLoadRect} (g) {α : Type}
    (k : (r.toLoadRect.shape.Idx → Elt F .f32) → KProg F α) (Q : α → sProp 𝕄) :
    ((slotR (chB h) n).view.loc (c : Thread nD τ) ↦[(slotR (chB h) n).view.set]{fullShare} g)
      ⊢ iprop((((slotR (chB h) n).view.loc (c : Thread nD τ) ↦[(slotR (chB h) n).view.set]{fullShare} g) -∗ WP c (k ((chB h).view.readAt (Elt F) r.toLoadRect g)) Q)
        -∗ WP c (.op (.load (chB h) r.toLoadRect hl) k) Q) :=
  wp_load 𝒱₀ (c : Thread nD τ) none Set.univ (m := chB h) (r := r.toLoadRect) (S := (slotR (chB h) n).view.set) (q := fullShare) (f := g)
    (subset_of_eq ((View.set_slice _ _).symm.trans hr))
theorem set_slotC (n : ℕ) : (bC.access (Rect.unit (s := S2x128x2048) ![n % 2, 0, 0] S1x128x2048.size (inbC _ (par_lt n)))).set = (slotC n).view.set := by
  refine Eq.trans ?_ (View.set_reshape _ _).symm
  rfl
theorem set_slotR (h : Fin 2) (n : ℕ) : ((chB h).access (Rect.unit (s := S2x64x2048) ![n % 2, 0, 0] S1x64x2048.size (inbR _ (par_lt n)))).set = (slotR (chB h) n).view.set := by
  refine Eq.trans ?_ (View.set_reshape _ _).symm
  rfl

/-- Add what the partner sent. -/
theorem x_acc (c : Dev nD) (n : ℕ) (hn : n < 16) (f f' w : OBuf F) (g)
    (hg : (slotC n).view.read (Elt F) g = (vP (partner c) n hn).view.read (Elt F) w)
    (hf : ∀ i ∈ Rg (fun r => own c r ∧ pos c r = n), f' i = FloatOps.addf (φ := .f32) (f i) (w i)) {α : Type} (k : PUnit → KProg F α) (Q : α → sProp 𝕄) :
    iprop(O c (fun r => own c r ∧ pos c r = n) fullShare f ∗ ((slotC n).view.loc (c : Thread nD τ) ↦[(slotC n).view.set]{fullShare} g))
      ⊢ iprop(((O c (fun r => own c r ∧ pos c r = n) fullShare f' ∗ SlC c n) -∗ WP c (k ⟨⟩) Q) -∗ WP c (accX c n hn >>= k) Q) := by
  unfold accX SlC slot
  simp only [Prog.lift, Prog.bind_op, Prog.bind_ret]
  rw [← set_rB c n hn] at hf
  rw [O_rB c n hn, O_rB c n hn]
  iintro ⟨HO, Hg⟩ Hk
  iapply (loadO c (rB c n hn) fullShare f) $$ HO
  iintro HO
  iapply (loadC c n _ (set_slotC n) g) $$ Hg
  iintro Hg
  iapply (loadO c (rB c n hn) fullShare f) $$ HO
  iintro HO
  iapply (storeO c (rB c n hn) f f' _ (fun i hi => (accX_on c n hn f g w hg i hi).trans (hf i hi).symm)) $$ HO
  iintro HO
  iapply Hk
  isplitl [HO]
  · iexact HO
  iexists g
  iexact Hg

/-- Add what the ring brought. -/
theorem r_acc (c : Dev nD) (n : ℕ) (h : Fin 2) (hn : n < 15) (f f' w : OBuf F) (g)
    (hg : (slotR (chB h) n).view.read (Elt F) g = (vS (ringL c) n h hn).view.read (Elt F) w)
    (hf : ∀ i ∈ Rg (pOwn c (n + 1) h), f' i = FloatOps.addf (φ := .f32) (f i) (w i)) {α : Type} (k : PUnit → KProg F α) (Q : α → sProp 𝕄) :
    iprop(O c (pOwn c (n + 1) h) fullShare f ∗ ((slotR (chB h) n).view.loc (c : Thread nD τ) ↦[(slotR (chB h) n).view.set]{fullShare} g))
      ⊢ iprop(((O c (pOwn c (n + 1) h) fullShare f' ∗ SlR c h n) -∗ WP c (k ⟨⟩) Q) -∗ WP c (accR c n h hn >>= k) Q) := by
  unfold accR SlR slot
  simp only [Prog.lift, Prog.bind_op, Prog.bind_ret]
  rw [← set_rT c n h hn] at hf
  rw [O_rT c n h hn, O_rT c n h hn]
  iintro ⟨HO, Hg⟩ Hk
  iapply (loadO c (rT c n h hn) fullShare f) $$ HO
  iintro HO
  iapply (loadR c h n _ (set_slotR h n) g) $$ Hg
  iintro Hg
  iapply (loadO c (rT c n h hn) fullShare f) $$ HO
  iintro HO
  iapply (storeO c (rT c n h hn) f f' _ (fun i hi => (accR_on c n h hn f g w hg i hi).trans (hf i hi).symm)) $$ HO
  iintro HO
  iapply Hk
  isplitl [HO]
  · iexact HO
  iexists g
  iexact Hg

/-- Multiply by the scale. -/
theorem e_scale (c : Dev nD) (h : Fin 2) (v : F .f32) (f f' : OBuf F)
    (hf : ∀ i ∈ Rg (pOwn c 15 h), f' i = FloatOps.mulf (φ := .f32) (f i) v) {α : Type} (k : PUnit → KProg F α) (Q : α → sProp 𝕄) :
    (O c (pOwn c 15 h) fullShare f)
      ⊢ iprop((O c (pOwn c 15 h) fullShare f' -∗ WP c (k ⟨⟩) Q) -∗ WP c (scaleE c h v >>= k) Q) := by
  unfold scaleE
  simp only [Prog.lift, Prog.bind_op, Prog.bind_ret]
  rw [← set_rE c h] at hf
  rw [O_rE c h, O_rE c h]
  iintro HO Hk
  iapply (loadO c (rE c h) fullShare f) $$ HO
  iintro HO
  iapply (loadO c (rE c h) fullShare f) $$ HO
  iintro HO
  iapply (storeO c (rE c h) f f' _ (fun i hi => (scale_on c h v f i hi).trans (hf i hi).symm)) $$ HO
  iintro HO
  iapply Hk
  iexact HO

/-! ## The receive slots a device keeps -/

def KX (c : Dev nD) (n : ℕ) : sProp 𝕄 := bigSep (Finset.range n) fun m => if 14 ≤ m then SlC c m else iprop(emp)
def KR (c : Dev nD) (h : Fin 2) (n : ℕ) : sProp 𝕄 := bigSep (Finset.range n) fun m => if 13 ≤ m then SlR c h m else iprop(emp)
theorem KX_succ (c : Dev nD) (n : ℕ) : (KX c (n + 1) : sProp 𝕄) = iprop((if 14 ≤ n then SlC c n else iprop(emp)) ∗ KX c n) := by
  unfold KX; exact bigSep_range_succ _ n
theorem KR_succ (c : Dev nD) (h : Fin 2) (n : ℕ) : (KR c h (n + 1) : sProp 𝕄) = iprop((if 13 ≤ n then SlR c h n else iprop(emp)) ∗ KR c h n) := by
  unfold KR; exact bigSep_range_succ _ n

theorem payXR_lo (c : Dev nD) (n : ℕ) (hn : n < 16) : payXR I c n = iprop((∃ g, ((slotC n).view.loc (c : Thread nD τ) ↦[(slotC n).view.set]{fullShare} g)
        ∗ ⌜(slotC n).view.read (Elt F) g = (vP (partner c) n hn).view.read (Elt F) (I.Y (partner c))⌝)
      ∗ O (partner c) (fun r => own c r ∧ pos c r = n) fullShare (I.Y (partner c))) := by unfold payXR; rw [dif_pos hn]
theorem payXR_hi (c : Dev nD) (n : ℕ) (hn : 16 ≤ n) : payXR I c n = O c (fun r => ¬ own c r ∧ (pos c r + 1) % 16 = n - 16) fullShare I.OUT := by
  unfold payXR; rw [dif_neg (by omega)]
theorem payRR_lo (c : Dev nD) (h : Fin 2) (n : ℕ) (hn : n < 15) : payRR I c h n = iprop(∃ g, ((slotR (chB h) n).view.loc (c : Thread nD τ) ↦[(slotR (chB h) n).view.set]{fullShare} g)
        ∗ ⌜(slotR (chB h) n).view.read (Elt F) g = (vS (ringL c) n h hn).view.read (Elt F) (I.W n (ringL c))⌝) := by unfold payRR; rw [dif_pos hn]
theorem payRR_hi (c : Dev nD) (h : Fin 2) (n : ℕ) (hn : 15 ≤ n) : payRR I c h n = O c (pOwn c (n - 15) h) fullShare I.OUT := by
  unfold payRR; rw [dif_neg (by omega)]

/-! ## Ends of transfers -/

theorem Above.mono {b b' a f : ℕ} {s e : Fin 2 → ℕ} (h : Above b a f s e) (hb : b' ≤ b) : Above b' a f s e :=
  ⟨fun x => by have := h.1 x; omega, fun x => by have := h.2.1 x; omega, fun k x => by have := h.2.2.1 k x; omega, fun k x => by have := h.2.2.2 k x; omega⟩

/-- Transfer `n` of the partner's sum has come: it is added, and the partner's rows are lent. -/
theorem m_xfin (c : Dev nD) (n : ℕ) (hn : n < 16) (a l q oa : ℕ) (s e : Fin 2 → ℕ) (hA : Above (n + 2) oa n s e) (f f' : OBuf F)
    (hf : ∀ i ∈ Rg (fun r => own c r ∧ pos c r = n), f' i = FloatOps.addf (φ := .f32) (f i) (I.Y (partner c) i)) {α : Type} (k : PUnit → KProg F α) (Q : α → sProp 𝕄) :
    iprop(Ctx I K Kk ∗ Ow c oa n s e ∗ ChX c a l n q n ∗ KX c n ∗ O c (fun r => own c r ∧ pos c r = n) fullShare f)
      ⊢ iprop(((Ow c oa (n + 1) s e ∗ ChX c a l (n + 1) q (n + 1) ∗ KX c (n + 1) ∗ O c (fun r => own c r ∧ pos c r = n) fullShare f'
          ∗ O (partner c) (fun r => own c r ∧ pos c r = n) fullShare (I.Y (partner c))) -∗ WP c (k ⟨⟩) Q) -∗ WP c (xFin c n hn >>= k) Q) := by
  unfold xFin
  rw [Prog.bind_assoc]
  iintro ⟨#HC, HO, HX, HK, Hm⟩ Hk
  iapply (xs_recv I K Kk c n n rfl (by omega) (vP c n hn) (slotC n) rfl a l q n oa n s e hA) $$ [HO HX]
  · isplitr; · iexact HC
    isplitl [HO]; · iexact HO
    iexact HX
  iintro ⟨HO, HX, Hpay⟩
  ihave Hp := (Entails.of_eq (payXR_lo I c n hn)) $$ Hpay
  icases Hp with ⟨⟨%g, Hg, %hg⟩, Hloan⟩
  rw [Prog.bind_assoc]
  iapply (x_acc c n hn f f' (I.Y (partner c)) g hg hf) $$ [Hm Hg]
  · isplitl [Hm]; · iexact Hm
    iexact Hg
  iintro ⟨Hm, Hsl⟩
  by_cases h14 : n < 14
  · iapply (xs_free I K Kk c n h14 a l q oa s e) $$ [HO HX Hsl]
    · isplitr; · iexact HC
      isplitl [HO]; · iexact HO
      isplitl [HX]; · iexact HX
      iexact Hsl
    iintro ⟨HO, HX⟩
    iapply Hk
    isplitl [HO]; · iexact HO
    isplitl [HX]; · iexact HX
    isplitl [HK]
    · rw [KX_succ, if_neg (by omega)]
      isplitr; · iempintro
      iexact HK
    isplitl [Hm]; · iexact Hm
    iexact Hloan
  · iapply (xs_free' I K Kk c n (by omega) (by omega) a l q oa s e) $$ [HO HX]
    · isplitr; · iexact HC
      isplitl [HO]; · iexact HO
      iexact HX
    iintro ⟨HO, HX⟩
    iapply Hk
    isplitl [HO]; · iexact HO
    isplitl [HX]; · iexact HX
    isplitl [HK Hsl]
    · rw [KX_succ, if_pos (by omega)]
      isplitl [Hsl]; · iexact Hsl
      iexact HK
    isplitl [Hm]; · iexact Hm
    iexact Hloan

/-- Transfer `n` of the ring's sum has come. -/
theorem m_rfin (c : Dev nD) (n : ℕ) (h : Fin 2) (hn : n < 15) (a l q oa of : ℕ) (s e : Fin 2 → ℕ) (hA : Above (n + 3) oa of s e) (he : e h = n)
    (hl : 13 ≤ n → n < l + 13) (f f' : OBuf F)
    (hf : ∀ i ∈ Rg (pOwn c (n + 1) h), f' i = FloatOps.addf (φ := .f32) (f i) (I.W n (ringL c) i)) {α : Type} (k : PUnit → KProg F α) (Q : α → sProp 𝕄) :
    iprop(Ctx I K Kk ∗ Ow c oa of s e ∗ ChR c h a l n q n ∗ KR c h n ∗ O c (pOwn c (n + 1) h) fullShare f)
      ⊢ iprop(((Ow c oa of s (up e h) ∗ ChR c h a l (n + 1) q (n + 1) ∗ KR c h (n + 1) ∗ O c (pOwn c (n + 1) h) fullShare f') -∗ WP c (k ⟨⟩) Q)
        -∗ WP c (rFin c n h hn >>= k) Q) := by
  unfold rFin
  rw [Prog.bind_assoc]
  iintro ⟨#HC, HO, HX, HK, Hm⟩ Hk
  iapply (rs_recv I K Kk h c n (by omega) (vS c n h hn) (slotR (chB h) n) rfl a l q n oa of s e hA) $$ [HO HX]
  · isplitr; · iexact HC
    isplitl [HO]; · iexact HO
    iexact HX
  iintro ⟨HO, HX, Hpay⟩
  ihave Hp := (Entails.of_eq (payRR_lo I c h n hn)) $$ Hpay
  icases Hp with ⟨%g, Hg, %hg⟩
  rw [Prog.bind_assoc]
  iapply (r_acc c n h hn f f' (I.W n (ringL c)) g hg hf) $$ [Hm Hg]
  · isplitl [Hm]; · iexact Hm
    iexact Hg
  iintro ⟨Hm, Hsl⟩
  by_cases h13 : n < 13
  · iapply (rs_free I K Kk h c n h13 a l q oa of s e he) $$ [HO HX Hsl]
    · isplitr; · iexact HC
      isplitl [HO]; · iexact HO
      isplitl [HX]; · iexact HX
      iexact Hsl
    iintro ⟨HO, HX⟩
    iapply Hk
    isplitl [HO]; · iexact HO
    isplitl [HX]; · iexact HX
    isplitl [HK]
    · rw [KR_succ, if_neg (by omega)]
      isplitr; · iempintro
      iexact HK
    iexact Hm
  · iapply (rs_free' I K Kk h c n (by omega) (by omega) a l q (fun _ => hl (by omega)) oa of s e he) $$ [HO HX]
    · isplitr; · iexact HC
      isplitl [HO]; · iexact HO
      iexact HX
    iintro ⟨HO, HX⟩
    iapply Hk
    isplitl [HO]; · iexact HO
    isplitl [HX]; · iexact HX
    isplitl [HK Hsl]
    · rw [KR_succ, if_pos (by omega)]
      isplitl [Hsl]; · iexact Hsl
      iexact HK
    iexact Hm

/-- A transfer of the results from the partner has come. -/
theorem m_xfinG (c : Dev nD) (n : ℕ) (hn : n < 16) (a l q oa : ℕ) (s e : Fin 2 → ℕ) (hA : Above (n + 18) oa (n + 16) s e) {α : Type} (k : PUnit → KProg F α) (Q : α → sProp 𝕄) :
    iprop(Ctx I K Kk ∗ Ow c oa (n + 16) s e ∗ ChX c a l (n + 16) q (n + 16))
      ⊢ iprop(((Ow c oa (n + 17) s e ∗ ChX c a l (n + 17) q (n + 17) ∗ O c (fun r => ¬ own c r ∧ (pos c r + 1) % 16 = n) fullShare I.OUT) -∗ WP c (k ⟨⟩) Q)
        -∗ WP c (xFinG c n hn >>= k) Q) := by
  unfold xFinG
  rw [Prog.bind_assoc]
  iintro ⟨#HC, HO, HX⟩ Hk
  iapply (xs_recv I K Kk c (n + 16) n (by omega) (by omega) (vQ c n hn) (vQ c n hn) rfl a l q (n + 16) oa (n + 16) s e hA) $$ [HO HX]
  · isplitr; · iexact HC
    isplitl [HO]; · iexact HO
    iexact HX
  iintro ⟨HO, HX, Hpay⟩
  ihave Hp := (Entails.of_eq (payXR_hi I c (n + 16) (by omega))) $$ Hpay
  rw [Nat.add_sub_cancel]
  iapply (xs_free' I K Kk c (n + 16) (by omega) (by omega) a l q oa s e) $$ [HO HX]
  · isplitr; · iexact HC
    isplitl [HO]; · iexact HO
    iexact HX
  iintro ⟨HO, HX⟩
  iapply Hk
  isplitl [HO]; · iexact HO
  isplitl [HX]; · iexact HX
  iexact Hp

/-- A transfer of the results round the ring has come. -/
theorem m_rfinG (c : Dev nD) (n : ℕ) (h : Fin 2) (hn : n < 15) (a l q oa of : ℕ) (s e : Fin 2 → ℕ) (hA : Above (n + 18) oa of s e) (he : e h = n + 15)
    (hl : n < 13 → n + 2 < l) {α : Type} (k : PUnit → KProg F α) (Q : α → sProp 𝕄) :
    iprop(Ctx I K Kk ∗ Ow c oa of s e ∗ ChR c h a l (n + 15) q (n + 15))
      ⊢ iprop(((Ow c oa of s (up e h) ∗ ChR c h a l (n + 16) q (n + 16) ∗ O c (pOwn c n h) fullShare I.OUT) -∗ WP c (k ⟨⟩) Q)
        -∗ WP c (rFinG c n h hn >>= k) Q) := by
  unfold rFinG
  rw [Prog.bind_assoc]; simp only [Nat.add_comm 15 n]
  iintro ⟨#HC, HO, HX⟩ Hk
  iapply (rs_recv I K Kk h c (n + 15) (by omega) (vG c n h hn) (vG c n h hn) rfl a l q (n + 15) oa of s e hA) $$ [HO HX]
  · isplitr; · iexact HC
    isplitl [HO]; · iexact HO
    iexact HX
  iintro ⟨HO, HX, Hpay⟩
  ihave Hp := (Entails.of_eq (payRR_hi I c h (n + 15) (by omega))) $$ Hpay
  rw [Nat.add_sub_cancel]
  iapply (rs_free' I K Kk h c (n + 15) (by omega) (by omega) a l q (fun h28 => by have := hl (by omega); omega) oa of s e he) $$ [HO HX]
  · isplitr; · iexact HC
    isplitl [HO]; · iexact HO
    iexact HX
  iintro ⟨HO, HX⟩
  iapply Hk
  isplitl [HO]; · iexact HO
  isplitl [HX]; · iexact HX
  iexact Hp

/-! ## Starts of transfers after the wait for an earlier one -/

theorem m_xsend2 (c : Dev nD) (n : ℕ) (hn : n + 2 < 16) (r f : ℕ) (of : ℕ) (s e : Fin 2 → ℕ) (hA : Above (n + 3) (n + 2) of s e) {α : Type} (k : PUnit → KProg F α) (Q : α → sProp 𝕄) :
    iprop(Ctx I K Kk ∗ Ow c (n + 2) of s e ∗ ChX c (n + 2) n r n f ∗ O c (fun r => ¬ own c r ∧ pos c r = n + 2) fullShare (I.Y c))
      ⊢ iprop(((Ow c (n + 3) of s e ∗ ChX c (n + 3) (n + 1) r (n + 1) f) -∗ WP c (k ⟨⟩) Q) -∗ WP c (xSend2 c n hn >>= k) Q) := by
  unfold xSend2
  rw [Prog.bind_assoc]
  iintro ⟨#HC, HO, HX, Hm⟩ Hk
  iapply (xs_left I K Kk c n n rfl (by omega) (slotC n) (vP c n _) rfl (n + 2) r n f (by omega) (n + 2) of s e (hA.mono (by omega))) $$ [HO HX]
  · isplitr; · iexact HC
    isplitl [HO]; · iexact HO
    iexact HX
  iintro ⟨HO, HX, -⟩
  rw [Prog.bind_assoc]
  iapply (xs_credit I K Kk c n (by omega) (n + 2) (n + 1) r f (n + 2) of s e hA) $$ [HO HX]
  · isplitr; · iexact HC
    isplitl [HO]; · iexact HO
    iexact HX
  iintro ⟨HO, HX⟩
  iapply (xs_next I K Kk c n hn r f of s e) $$ [HO HX Hm]
  · isplitr; · iexact HC
    isplitl [HO]; · iexact HO
    isplitl [HX]; · iexact HX
    iexact Hm
  iexact Hk

theorem m_xsendG1 (c : Dev nD) (g : ℕ) (hg : g < 2) (r f : ℕ) (of : ℕ) (s e : Fin 2 → ℕ) (hA : Above (g + 17) (g + 16) of s e) (fd : OBuf F) {α : Type} (k : PUnit → KProg F α) (Q : α → sProp 𝕄) :
    iprop(Ctx I K Kk ∗ Ow c (g + 16) of s e ∗ ChX c (g + 16) (g + 14) r (g + 14) f
        ∗ O c (fun r => own c r ∧ (pos c r + 1) % 16 = g) fullShare.right I.OUT ∗ O (partner c) (fun r => own c r ∧ (pos c r + 1) % 16 = g) fullShare fd)
      ⊢ iprop(((Ow c (g + 17) of s e ∗ ChX c (g + 17) (g + 15) r (g + 15) f) -∗ WP c (k ⟨⟩) Q) -∗ WP c (xSendG1 c g hg >>= k) Q) := by
  unfold xSendG1
  rw [Prog.bind_assoc]; simp only [Nat.add_comm 14 g]
  iintro ⟨#HC, HO, HX, Hm1, Hm2⟩ Hk
  iapply (xs_left I K Kk c (g + 14) (g + 14) rfl (by omega) (slotC _) (vP c _ _) rfl (g + 16) r (g + 14) f (by omega) (g + 16) of s e (hA.mono (by omega))) $$ [HO HX]
  · isplitr; · iexact HC
    isplitl [HO]; · iexact HO
    iexact HX
  iintro ⟨HO, HX, -⟩
  rw [Prog.bind_assoc]
  iapply (xs_credit I K Kk c (g + 14) (by omega) (g + 16) (g + 15) r f (g + 16) of s e hA) $$ [HO HX]
  · isplitr; · iexact HC
    isplitl [HO]; · iexact HO
    iexact HX
  iintro ⟨HO, HX⟩
  iapply (xs_res I K Kk c (g + 14) g _ (by omega) r f of s e fd) $$ [HO HX Hm1 Hm2]
  · isplitr; · iexact HC
    isplitl [HO]; · iexact HO
    isplitl [HX]; · iexact HX
    isplitl [Hm1]; · iexact Hm1
    iexact Hm2
  iexact Hk

theorem m_xsendG2 (c : Dev nD) (g : ℕ) (hg : g + 2 < 16) (r f : ℕ) (of : ℕ) (s e : Fin 2 → ℕ) (hA : Above (g + 19) (g + 18) of s e) (fd : OBuf F) {α : Type} (k : PUnit → KProg F α) (Q : α → sProp 𝕄) :
    iprop(Ctx I K Kk ∗ Ow c (g + 18) of s e ∗ ChX c (g + 18) (g + 16) r (g + 16) f
        ∗ O c (fun r => own c r ∧ (pos c r + 1) % 16 = g + 2) fullShare.right I.OUT ∗ O (partner c) (fun r => own c r ∧ (pos c r + 1) % 16 = g + 2) fullShare fd)
      ⊢ iprop(((Ow c (g + 19) of s e ∗ ChX c (g + 19) (g + 17) r (g + 17) f ∗ O c (fun r => own c r ∧ (pos c r + 1) % 16 = g) fullShare.right I.OUT) -∗ WP c (k ⟨⟩) Q)
        -∗ WP c (xSendG2 c g hg >>= k) Q) := by
  unfold xSendG2
  rw [Prog.bind_assoc]
  iintro ⟨#HC, HO, HX, Hm1, Hm2⟩ Hk
  iapply (xs_left I K Kk c (g + 16) g (by omega) (by omega) (vQ c g _) (vQ c g _) rfl (g + 18) r (g + 16) f (by omega) (g + 18) of s e (hA.mono (by omega))) $$ [HO HX]
  · isplitr; · iexact HC
    isplitl [HO]; · iexact HO
    iexact HX
  iintro ⟨HO, HX, Hpay⟩
  ihave Hp := (Entails.of_eq (show payXS I c (g + 16) = O c (fun r => own c r ∧ (pos c r + 1) % 16 = g) fullShare.right I.OUT by
    unfold payXS; rw [if_neg (by omega), Nat.add_sub_cancel])) $$ Hpay
  rw [Prog.bind_assoc]
  iapply (xs_credit I K Kk c (g + 16) (by omega) (g + 18) (g + 17) r f (g + 18) of s e hA) $$ [HO HX]
  · isplitr; · iexact HC
    isplitl [HO]; · iexact HO
    iexact HX
  iintro ⟨HO, HX⟩
  iapply (xs_res I K Kk c (g + 16) (g + 2) hg (by omega) r f of s e fd) $$ [HO HX Hm1 Hm2]
  · isplitr; · iexact HC
    isplitl [HO]; · iexact HO
    isplitl [HX]; · iexact HX
    isplitl [Hm1]; · iexact Hm1
    iexact Hm2
  iintro ⟨HO, HX⟩
  iapply Hk
  isplitl [HO]; · iexact HO
  isplitl [HX]; · iexact HX
  iexact Hp

theorem m_rsend2 (c : Dev nD) (n : ℕ) (h : Fin 2) (hn : n + 2 < 15) (r f : ℕ) (oa of : ℕ) (s e : Fin 2 → ℕ) (hA : Above (n + 4) oa of s e) (hs : s h = n + 2) {α : Type} (k : PUnit → KProg F α) (Q : α → sProp 𝕄) :
    iprop(Ctx I K Kk ∗ Ow c oa of s e ∗ ChR c h (n + 2) n r n f ∗ O c (pOwn c (n + 2) h) fullShare (I.W (n + 2) c))
      ⊢ iprop(((Ow c oa of (up s h) e ∗ ChR c h (n + 3) (n + 1) r (n + 1) f) -∗ WP c (k ⟨⟩) Q) -∗ WP c (rSend2 c n h hn >>= k) Q) := by
  unfold rSend2
  rw [Prog.bind_assoc]
  iintro ⟨#HC, HO, HX, Hm⟩ Hk
  iapply (rs_left I K Kk h c n (by omega) (slotR (chB h) n) (vS c n h _) rfl (n + 2) r n f (by omega) oa of s e (hA.mono (by omega))) $$ [HO HX]
  · isplitr; · iexact HC
    isplitl [HO]; · iexact HO
    iexact HX
  iintro ⟨HO, HX⟩
  rw [Prog.bind_assoc]
  iapply (rs_credit I K Kk h c n (by omega) (n + 2) (n + 1) r f oa of s e hA) $$ [HO HX]
  · isplitr; · iexact HC
    isplitl [HO]; · iexact HO
    iexact HX
  iintro ⟨HO, HX⟩
  iapply (rs_next I K Kk h c n hn r f oa of s e hs) $$ [HO HX Hm]
  · isplitr; · iexact HC
    isplitl [HO]; · iexact HO
    isplitl [HX]; · iexact HX
    iexact Hm
  iexact Hk

theorem m_rsendG1 (c : Dev nD) (g : ℕ) (h : Fin 2) (hg : g < 2) (r f : ℕ) (oa of : ℕ) (s e : Fin 2 → ℕ) (hA : Above (g + 17) oa of s e) (hs : s h = g + 15) {α : Type} (k : PUnit → KProg F α) (Q : α → sProp 𝕄) :
    iprop(Ctx I K Kk ∗ Ow c oa of s e ∗ ChR c h (g + 15) (g + 13) r (g + 13) f ∗ O c (pRes c g h) fullShare.left I.OUT)
      ⊢ iprop(((Ow c oa of (up s h) e ∗ ChR c h (g + 16) (g + 14) r (g + 14) f) -∗ WP c (k ⟨⟩) Q) -∗ WP c (rSendG1 c g h hg >>= k) Q) := by
  unfold rSendG1
  rw [Prog.bind_assoc]; simp only [Nat.add_comm 13 g]
  iintro ⟨#HC, HO, HX, Hm⟩ Hk
  iapply (rs_left I K Kk h c (g + 13) (by omega) (slotR (chB h) _) (vS c _ h _) rfl (g + 15) r (g + 13) f (by omega) oa of s e (hA.mono (by omega))) $$ [HO HX]
  · isplitr; · iexact HC
    isplitl [HO]; · iexact HO
    iexact HX
  iintro ⟨HO, HX⟩
  rw [Prog.bind_assoc]
  iapply (rs_credit I K Kk h c (g + 13) (by omega) (g + 15) (g + 14) r f oa of s e hA) $$ [HO HX]
  · isplitr; · iexact HC
    isplitl [HO]; · iexact HO
    iexact HX
  iintro ⟨HO, HX⟩
  iapply (rs_res I K Kk h c g _ r f oa of s e hs) $$ [HO HX Hm]
  · isplitr; · iexact HC
    isplitl [HO]; · iexact HO
    isplitl [HX]; · iexact HX
    iexact Hm
  iexact Hk

theorem m_rsendG2 (c : Dev nD) (g : ℕ) (h : Fin 2) (hg : g + 2 < 15) (r f : ℕ) (oa of : ℕ) (s e : Fin 2 → ℕ) (hA : Above (g + 19) oa of s e) (hs : s h = g + 17) {α : Type} (k : PUnit → KProg F α) (Q : α → sProp 𝕄) :
    iprop(Ctx I K Kk ∗ Ow c oa of s e ∗ ChR c h (g + 17) (g + 15) r (g + 15) f ∗ O c (pRes c (g + 2) h) fullShare.left I.OUT)
      ⊢ iprop(((Ow c oa of (up s h) e ∗ ChR c h (g + 18) (g + 16) r (g + 16) f ∗ O c (pRes c g h) fullShare.left I.OUT) -∗ WP c (k ⟨⟩) Q) -∗ WP c (rSendG2 c g h hg >>= k) Q) := by
  unfold rSendG2
  rw [Prog.bind_assoc]; simp only [Nat.add_comm 15 g]
  iintro ⟨#HC, HO, HX, Hm⟩ Hk
  iapply (rs_left' I K Kk h c (g + 15) (by omega) (by omega) (vG c g h _) (vG c g h _) rfl (g + 17) r (g + 15) f (by omega) oa of s e (hA.mono (by omega))) $$ [HO HX]
  · isplitr; · iexact HC
    isplitl [HO]; · iexact HO
    iexact HX
  rw [Nat.add_sub_cancel]
  iintro ⟨HO, HX, Hp⟩
  rw [Prog.bind_assoc]
  iapply (rs_credit I K Kk h c (g + 15) (by omega) (g + 17) (g + 16) r f oa of s e hA) $$ [HO HX]
  · isplitr; · iexact HC
    isplitl [HO]; · iexact HO
    iexact HX
  iintro ⟨HO, HX⟩
  iapply (rs_res I K Kk h c (g + 2) hg r f oa of s e hs) $$ [HO HX Hm]
  · isplitr; · iexact HC
    isplitl [HO]; · iexact HO
    isplitl [HX]; · iexact HX
    iexact Hm
  iintro ⟨HO, HX⟩
  iapply Hk
  isplitl [HO]; · iexact HO
  isplitl [HX]; · iexact HX
  iexact Hp

end Cert.KernelIdeal.Pf

end
-- ==== Proof.KI.Segs.lean ====
module

public import proofs.«01_k».proof.Proof.KI.Blocks

/-! Parts of the rounds, and the two numbers by which the halves of the ring are counted. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-- Two numbers, by half. -/
def two (a b : ℕ) : Fin 2 → ℕ := fun h => if h = 0 then a else b
theorem two_0 (a b : ℕ) : two a b 0 = a := rfl
theorem two_1 (a b : ℕ) : two a b 1 = b := rfl
theorem up_two0 (a b : ℕ) : up (two a b) 0 = two (a + 1) b := by funext h; fin_cases h <;> rfl
theorem up_two1 (a b : ℕ) : up (two a b) 1 = two a (b + 1) := by funext h; fin_cases h <;> rfl
theorem above2 {b a f s0 s1 e0 e1 : ℕ} (ha : a < 32 → b < a + 2) (hf : f < 32 → b < f + 3) (h0 : s0 < 30 → b < s0 + 3) (h1 : s1 < 30 → b < s1 + 3)
    (g0 : e0 < 30 → b < e0 + 4) (g1 : e1 < 30 → b < e1 + 4) : Above b a f (two s0 s1) (two e0 e1) := by
  refine ⟨ha, hf, fun h => ?_, fun h => ?_⟩
  · fin_cases h
    · exact h0
    · exact h1
  · fin_cases h
    · exact g0
    · exact g1

/-- What half 0 of a block holds after the ring's share is added. -/
def Inp.P1 (I : Inp F) (t : ℕ) (d : Dev nD) : OBuf F := fun i => FloatOps.addf (φ := .f32) (I.Y d i) (I.W t (ringL d) i)
/-- What half 1 of a block holds after the partner's share is added. -/
def Inp.P2 (I : Inp F) (d : Dev nD) : OBuf F := fun i => FloatOps.addf (φ := .f32) (I.Y d i) (I.Y (partner d) i)

theorem W_half0 (c : Dev nD) (k t : ℕ) : ∀ i ∈ Rg (pOwn c k 0), I.W (t + 1) c i = FloatOps.addf (φ := .f32) (I.P1 t c i) (I.Y (partner c) i) := by
  intro i hi; rw [mem_Rg] at hi
  have h : half (row i) = 0 := hi.2.2
  show (if half (row i) = 0 then _ else _) = _
  rw [if_pos h]; rfl
theorem W_half1 (c : Dev nD) (k t : ℕ) : ∀ i ∈ Rg (pOwn c k 1), I.W (t + 1) c i = FloatOps.addf (φ := .f32) (I.P2 c i) (I.W t (ringL c) i) := by
  intro i hi; rw [mem_Rg] at hi
  have h : half (row i) = 1 := hi.2.2
  show (if half (row i) = 0 then _ else _) = _
  rw [if_neg (by omega)]; rfl

/-- Rows with one number are those of half 0 and those of half 1. -/
theorem O_half (c : Dev nD) (s : ℕ → Prop) (κ : ℕ → ℕ) (k : ℕ) (q) (f : OBuf F) :
    (O c (fun r => s r ∧ κ r = k) q f : sProp 𝕄) ⊣⊢ iprop(O c (fun r => s r ∧ κ r = k ∧ half r = ((0 : Fin 2) : ℕ)) q f ∗ O c (fun r => s r ∧ κ r = k ∧ half r = ((1 : Fin 2) : ℕ)) q f) :=
  O_split c q f (fun n _ => by
      have := half_lt n
      constructor
      · rintro ⟨h1, h2⟩
        by_cases h : half n = 0
        · exact Or.inl ⟨h1, h2, h⟩
        · exact Or.inr ⟨h1, h2, (by show half n = 1; omega)⟩
      · rintro (h | h)
        · exact ⟨h.1, h.2.1⟩
        · exact ⟨h.1, h.2.1⟩)
    (fun n _ h => by have h1 : half n = 0 := h.1.2.2; have h2 : half n = 1 := h.2.2.2; omega)
/-- Rows with numbers from `k` on are those with number `k` and those from `k + 1` on. -/
theorem O_from (c : Dev nD) (s : ℕ → Prop) (κ : ℕ → ℕ) (k : ℕ) (q) (f : OBuf F) :
    (O c (fun r => s r ∧ k ≤ κ r) q f : sProp 𝕄) ⊣⊢ iprop(O c (fun r => s r ∧ κ r = k) q f ∗ O c (fun r => s r ∧ k + 1 ≤ κ r) q f) :=
  O_split c q f (fun n _ => by
      constructor
      · rintro ⟨h1, h2⟩
        rcases Nat.eq_or_lt_of_le h2 with h | h
        · exact Or.inl ⟨h1, h.symm⟩
        · exact Or.inr ⟨h1, h⟩
      · rintro (h | h)
        · exact ⟨h.1, by rw [h.2]⟩
        · exact ⟨h.1, by have := h.2; omega⟩)
    (fun n _ h => by have h1 := h.1.2; have h2 := h.2.2; omega)
/-- Rows with numbers below `k + 1` are those below `k` and those with number `k`. -/
theorem O_below (c : Dev nD) (s : ℕ → Prop) (κ : ℕ → ℕ) (k : ℕ) (q) (f : OBuf F) :
    (O c (fun r => s r ∧ κ r < k + 1) q f : sProp 𝕄) ⊣⊢ iprop(O c (fun r => s r ∧ κ r < k) q f ∗ O c (fun r => s r ∧ κ r = k) q f) :=
  O_split c q f (fun n _ => by
      constructor
      · rintro ⟨h1, h2⟩
        rcases Nat.eq_or_lt_of_le (Nat.le_of_lt_succ h2) with h | h
        · exact Or.inr ⟨h1, h⟩
        · exact Or.inl ⟨h1, h⟩
      · rintro (h | h)
        · exact ⟨h.1, by have := h.2; omega⟩
        · exact ⟨h.1, by have := h.2; omega⟩)
    (fun n _ h => by have h1 := h.1.2; have h2 := h.2.2; omega)
/-- A block is its two halves. -/
theorem O_halves (c : Dev nD) (k : ℕ) (q) (f : OBuf F) :
    (O c (fun r => own c r ∧ pos c r = k) q f : sProp 𝕄) ⊣⊢ iprop(O c (pOwn c k 0) q f ∗ O c (pOwn c k 1) q f) :=
  O_half c (own c) (pos c) k q f
/-- The number of the transfer that takes a row's result to the partner. -/
abbrev epo (c : Dev nD) (r : ℕ) : ℕ := (pos c r + 1) % 16
theorem R_halves (c : Dev nD) (k : ℕ) (q) (f : OBuf F) :
    (O c (fun r => own c r ∧ (pos c r + 1) % 16 = k) q f : sProp 𝕄) ⊣⊢ iprop(O c (pRes c k 0) q f ∗ O c (pRes c k 1) q f) :=
  O_half c (own c) (epo c) k q f
theorem R_below (c : Dev nD) (s : ℕ → Prop) (k : ℕ) (q) (f : OBuf F) :
    (O c (fun r => s r ∧ (pos c r + 1) % 16 < k + 1) q f : sProp 𝕄) ⊣⊢ iprop(O c (fun r => s r ∧ (pos c r + 1) % 16 < k) q f ∗ O c (fun r => s r ∧ (pos c r + 1) % 16 = k) q f) :=
  O_below c s (epo c) k q f
theorem R_from (d c : Dev nD) (k : ℕ) (q) (f : OBuf F) :
    (O d (fun r => own c r ∧ k ≤ (pos c r + 1) % 16) q f : sProp 𝕄) ⊣⊢ iprop(O d (fun r => own c r ∧ (pos c r + 1) % 16 = k) q f ∗ O d (fun r => own c r ∧ k + 1 ≤ (pos c r + 1) % 16) q f) :=
  O_from d (own c) (epo c) k q f

/-- A block of results that came round the ring, as the block its next transfer takes. -/
theorem pOwn_pRes (c : Dev nD) (n : ℕ) (hn : n < 15) (h : Fin 2) (q) (f : OBuf F) :
    (O c (pOwn c n h) q f : sProp 𝕄) = O c (pRes c (n + 1) h) q f :=
  O_iff c (fun r _ => by
    have hp := pos_lt c r
    show (own c r ∧ pos c r = n ∧ half r = h) ↔ (own c r ∧ (pos c r + 1) % 16 = n + 1 ∧ half r = h)
    constructor
    · rintro ⟨h1, h2, h3⟩; exact ⟨h1, by omega, h3⟩
    · rintro ⟨h1, h2, h3⟩; exact ⟨h1, by omega, h3⟩) q f
theorem pOwn_pRes0 (c : Dev nD) (h : Fin 2) (q) (f : OBuf F) : (O c (pOwn c 15 h) q f : sProp 𝕄) = O c (pRes c 0 h) q f :=
  O_iff c (fun r _ => by
    have hp := pos_lt c r
    show (own c r ∧ pos c r = 15 ∧ half r = h) ↔ (own c r ∧ (pos c r + 1) % 16 = 0 ∧ half r = h)
    constructor
    · rintro ⟨h1, h2, h3⟩; exact ⟨h1, by omega, h3⟩
    · rintro ⟨h1, h2, h3⟩; exact ⟨h1, by omega, h3⟩) q f

/-- The partner's share of block `t + 1`, added to the two halves. -/
theorem m_x (c : Dev nD) (t : ℕ) (ht : t + 1 < 16) (a l q oa : ℕ) (s e : Fin 2 → ℕ) (hA : Above (t + 3) oa (t + 1) s e)
    {α : Type} (k : PUnit → KProg F α) (Q : α → sProp 𝕄) :
    iprop(Ctx I K Kk ∗ Ow c oa (t + 1) s e ∗ ChX c a l (t + 1) q (t + 1) ∗ KX c (t + 1)
        ∗ O c (pOwn c (t + 1) 0) fullShare (I.P1 t c) ∗ O c (pOwn c (t + 1) 1) fullShare (I.Y c)
        ∗ O (partner c) (fun r => own c r ∧ pos c r < t + 1) fullShare (I.Y (partner c)))
      ⊢ iprop(((Ow c oa (t + 2) s e ∗ ChX c a l (t + 2) q (t + 2) ∗ KX c (t + 2)
          ∗ O c (pOwn c (t + 1) 0) fullShare (I.W (t + 1) c) ∗ O c (pOwn c (t + 1) 1) fullShare (I.P2 c)
          ∗ O (partner c) (fun r => own c r ∧ pos c r < t + 2) fullShare (I.Y (partner c))) -∗ WP c (k ⟨⟩) Q)
        -∗ WP c (xFin c (t + 1) ht >>= k) Q) := by
  have e0 : (O c (pOwn c (t + 1) 0) fullShare (I.P1 t c) : sProp 𝕄)
      = O c (pOwn c (t + 1) 0) fullShare (fun i => if half (row i) = 0 then I.P1 t c i else I.Y c i) :=
    O_val c _ _ _ _ (fun i hi => by rw [mem_Rg] at hi; rw [if_pos (show half (row i) = 0 from hi.2.2)])
  have e1 : (O c (pOwn c (t + 1) 1) fullShare (I.Y c) : sProp 𝕄)
      = O c (pOwn c (t + 1) 1) fullShare (fun i => if half (row i) = 0 then I.P1 t c i else I.Y c i) :=
    O_val c _ _ _ _ (fun i hi => by rw [mem_Rg] at hi; have h : half (row i) = 1 := hi.2.2; rw [if_neg (by omega)])
  have e2 : (O c (pOwn c (t + 1) 0) fullShare (I.W (t + 1) c) : sProp 𝕄)
      = O c (pOwn c (t + 1) 0) fullShare (fun i => if half (row i) = 0 then I.W (t + 1) c i else I.P2 c i) :=
    O_val c _ _ _ _ (fun i hi => by rw [mem_Rg] at hi; rw [if_pos (show half (row i) = 0 from hi.2.2)])
  have e3 : (O c (pOwn c (t + 1) 1) fullShare (I.P2 c) : sProp 𝕄)
      = O c (pOwn c (t + 1) 1) fullShare (fun i => if half (row i) = 0 then I.W (t + 1) c i else I.P2 c i) :=
    O_val c _ _ _ _ (fun i hi => by rw [mem_Rg] at hi; have h : half (row i) = 1 := hi.2.2; rw [if_neg (by omega)])
  have hf : ∀ i ∈ Rg (fun r => own c r ∧ pos c r = t + 1), (fun i => if half (row i) = 0 then I.W (t + 1) c i else I.P2 c i) i
      = FloatOps.addf (φ := .f32) ((fun i => if half (row i) = 0 then I.P1 t c i else I.Y c i) i) (I.Y (partner c) i) := by
    intro i hi; rw [mem_Rg] at hi
    by_cases h : half (row i) = 0
    · simp only [h, ↓reduceIte]
      exact W_half0 I c (t + 1) t i (mem_Rg.mpr ⟨hi.1, hi.2, h⟩)
    · simp only [h, ↓reduceIte]; rfl
  rw [e0, e1, e2, e3]
  iintro ⟨#HC, HO, HX, HK, Ha, Hb, HL⟩ Hk
  ihave Hm := (O_halves c (t + 1) fullShare _).2 $$ [Ha Hb]
  · isplitl [Ha]; · iexact Ha
    iexact Hb
  iapply (m_xfin I K Kk c (t + 1) ht a l q oa s e hA _ _ hf) $$ [HO HX HK Hm]
  · isplitr; · iexact HC
    isplitl [HO]; · iexact HO
    isplitl [HX]; · iexact HX
    isplitl [HK]; · iexact HK
    iexact Hm
  iintro ⟨HO, HX, HK, Hm, Hl⟩
  ihave Hm' := (O_halves c (t + 1) fullShare _).1 $$ Hm
  icases Hm' with ⟨Ha, Hb⟩
  iapply Hk
  isplitl [HO]; · iexact HO
  isplitl [HX]; · iexact HX
  isplitl [HK]; · iexact HK
  isplitl [Ha]; · iexact Ha
  isplitl [Hb]; · iexact Hb
  iapply (O_below (partner c) (own c) (pos c) (t + 1) fullShare _).2
  isplitl [HL]; · iexact HL
  iexact Hl

/-- The ring's share of half 0 of block `t + 1`, the next transfer to the partner, and the partner's share. -/
theorem m_seg (c : Dev nD) (t : ℕ) (ht : t + 2 < 16) (a l q : ℕ) (hl : 13 ≤ t → t < l + 13) {α : Type} (k : PUnit → KProg F α) (Q : α → sProp 𝕄) :
    iprop(Ctx I K Kk ∗ Ow c (t + 2) (t + 1) (two (t + 1) (t + 1)) (two t t) ∗ ChX c (t + 2) t (t + 1) t (t + 1) ∗ ChR c 0 a l t q t ∗ KX c (t + 1) ∗ KR c 0 t
        ∗ O c (fun r => own c r ∧ t + 1 ≤ pos c r) fullShare (I.Y c) ∗ O c (fun r => ¬ own c r ∧ t + 2 ≤ pos c r) fullShare (I.Y c)
        ∗ O (partner c) (fun r => own c r ∧ pos c r < t + 1) fullShare (I.Y (partner c)))
      ⊢ iprop(((Ow c (t + 3) (t + 2) (two (t + 1) (t + 1)) (two (t + 1) t) ∗ ChX c (t + 3) (t + 1) (t + 2) (t + 1) (t + 2) ∗ ChR c 0 a l (t + 1) q (t + 1)
          ∗ KX c (t + 2) ∗ KR c 0 (t + 1)
          ∗ O c (fun r => own c r ∧ t + 2 ≤ pos c r) fullShare (I.Y c) ∗ O c (fun r => ¬ own c r ∧ t + 3 ≤ pos c r) fullShare (I.Y c)
          ∗ O (partner c) (fun r => own c r ∧ pos c r < t + 2) fullShare (I.Y (partner c))
          ∗ O c (pOwn c (t + 1) 0) fullShare (I.W (t + 1) c) ∗ O c (pOwn c (t + 1) 1) fullShare (I.P2 c)) -∗ WP c (k ⟨⟩) Q)
        -∗ WP c (rFin c t 0 (by omega) >>= fun _ => xSend2 c t ht >>= fun _ => xFin c (t + 1) (by omega) >>= k) Q) := by
  iintro ⟨#HC, HO, HX, HR, HK, HKR, Hown, Hoth, HL⟩ Hk
  ihave Hs := (O_from c (own c) (pos c) (t + 1) fullShare _).1 $$ Hown
  icases Hs with ⟨Hb, Hown⟩
  ihave Hs := (O_halves c (t + 1) fullShare _).1 $$ Hb
  icases Hs with ⟨H0, H1⟩
  ihave Hs := (O_from c (fun r => ¬ own c r) (pos c) (t + 2) fullShare _).1 $$ Hoth
  icases Hs with ⟨Hx, Hoth⟩
  iapply (m_rfin I K Kk c t 0 _ a l q (t + 2) (t + 1) (two (t + 1) (t + 1)) (two t t) (above2 (by omega) (by omega) (by omega) (by omega) (by omega) (by omega)) rfl hl (I.Y c) (I.P1 t c) (fun _ _ => rfl)) $$ [HO HR HKR H0]
  · isplitr; · iexact HC
    isplitl [HO]; · iexact HO
    isplitl [HR]; · iexact HR
    isplitl [HKR]; · iexact HKR
    iexact H0
  rw [up_two0]
  iintro ⟨HO, HR, HKR, H0⟩
  iapply (m_xsend2 I K Kk c t ht (t + 1) (t + 1) (t + 1) (two (t + 1) (t + 1)) (two (t + 1) t) (above2 (by omega) (by omega) (by omega) (by omega) (by omega) (by omega))) $$ [HO HX Hx]
  · isplitr; · iexact HC
    isplitl [HO]; · iexact HO
    isplitl [HX]; · iexact HX
    iexact Hx
  iintro ⟨HO, HX⟩
  iapply (m_x I K Kk c t _ (t + 3) (t + 1) (t + 1) (t + 3) (two (t + 1) (t + 1)) (two (t + 1) t) (above2 (by omega) (by omega) (by omega) (by omega) (by omega) (by omega))) $$ [HO HX HK H0 H1 HL]
  · isplitr; · iexact HC
    isplitl [HO]; · iexact HO
    isplitl [HX]; · iexact HX
    isplitl [HK]; · iexact HK
    isplitl [H0]; · iexact H0
    isplitl [H1]; · iexact H1
    iexact HL
  iintro ⟨HO, HX, HK, H0, H1, HL⟩
  iapply Hk
  isplitl [HO]; · iexact HO
  isplitl [HX]; · iexact HX
  isplitl [HR]; · iexact HR
  isplitl [HK]; · iexact HK
  isplitl [HKR]; · iexact HKR
  isplitl [Hown]; · iexact Hown
  isplitl [Hoth]; · iexact Hoth
  isplitl [HL]; · iexact HL
  isplitl [H0]; · iexact H0
  iexact H1

end Cert.KernelIdeal.Pf

end
-- ==== Proof.KI.IterR.lean ====
module

public import proofs.«01_k».proof.Proof.KI.Segs

/-! The rounds: what holds before each, and that each leads to the next. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-- Before the first round of the sum. -/
def St0 (c : Dev nD) : sProp 𝕄 :=
  iprop(Ow c 2 1 (two 1 1) (two 0 0) ∗ ChX c 2 0 1 0 1 ∗ ChR c 0 1 0 0 0 0 ∗ ChR c 1 1 0 0 0 0 ∗ KX c 1 ∗ KR c 0 0 ∗ KR c 1 0
    ∗ SlR (ringR c) 0 1 ∗ SlR (ringR c) 1 1
    ∗ O c (fun r => own c r ∧ 1 ≤ pos c r) fullShare (I.Y c) ∗ O c (fun r => ¬ own c r ∧ 2 ≤ pos c r) fullShare (I.Y c)
    ∗ O (partner c) (fun r => own c r ∧ pos c r < 1) fullShare (I.Y (partner c)))
/-- Before round `n + 1` of the sum. -/
def StR (c : Dev nD) (n : ℕ) : sProp 𝕄 :=
  iprop(Ow c (n + 3) (n + 2) (two (n + 2) (n + 2)) (two (n + 1) (n + 1)) ∗ ChX c (n + 3) (n + 1) (n + 2) (n + 1) (n + 2)
    ∗ ChR c 0 (n + 2) n (n + 1) n (n + 1) ∗ ChR c 1 (n + 2) n (n + 1) n (n + 1) ∗ KX c (n + 2) ∗ KR c 0 (n + 1) ∗ KR c 1 (n + 1)
    ∗ O c (fun r => own c r ∧ n + 2 ≤ pos c r) fullShare (I.Y c) ∗ O c (fun r => ¬ own c r ∧ n + 3 ≤ pos c r) fullShare (I.Y c)
    ∗ O (partner c) (fun r => own c r ∧ pos c r < n + 2) fullShare (I.Y (partner c)))
/-- Before the first round of the results. -/
def StA (c : Dev nD) : sProp 𝕄 :=
  iprop(Ow c 17 16 (two 16 16) (two 15 15) ∗ ChX c 17 15 16 15 16
    ∗ ChR c 0 16 14 15 14 15 ∗ ChR c 1 16 14 15 14 15 ∗ KX c 16 ∗ KR c 0 15 ∗ KR c 1 15
    ∗ O (partner c) (fun r => own c r ∧ 1 ≤ (pos c r + 1) % 16) fullShare (I.Y (partner c)))
/-- Before round `n + 1` of the results. -/
def StG (c : Dev nD) (n : ℕ) : sProp 𝕄 :=
  iprop(Ow c (n + 18) (n + 17) (two (n + 17) (n + 17)) (two (n + 16) (n + 16)) ∗ ChX c (n + 18) (n + 16) (n + 17) (n + 16) (n + 17)
    ∗ ChR c 0 (n + 17) (n + 15) (n + 16) (n + 15) (n + 16) ∗ ChR c 1 (n + 17) (n + 15) (n + 16) (n + 15) (n + 16) ∗ KX c 16 ∗ KR c 0 15 ∗ KR c 1 15
    ∗ O (partner c) (fun r => own c r ∧ n + 2 ≤ (pos c r + 1) % 16) fullShare (I.Y (partner c))
    ∗ O c (fun r => ¬ own c r ∧ (pos c r + 1) % 16 < n + 1) fullShare I.OUT
    ∗ O c (fun r => own c r ∧ (pos c r + 1) % 16 < n) fullShare.left I.OUT ∗ O c (fun r => own c r ∧ (pos c r + 1) % 16 < n) fullShare.right I.OUT)
/-- Before the last arrival. -/
def StE (c : Dev nD) : sProp 𝕄 :=
  iprop(Ow c 32 31 (two 30 30) (two 30 30) ∗ ChX c 32 30 31 30 31
    ∗ ChR c 0 30 28 30 28 30 ∗ ChR c 1 30 28 30 28 30 ∗ KX c 16 ∗ KR c 0 15 ∗ KR c 1 15
    ∗ O c (fun r => ¬ own c r ∧ (pos c r + 1) % 16 < 15) fullShare I.OUT
    ∗ O c (fun r => own c r ∧ (pos c r + 1) % 16 < 13) fullShare.left I.OUT ∗ O c (fun r => own c r ∧ (pos c r + 1) % 16 < 14) fullShare.right I.OUT
    ∗ O c (fun r => own c r ∧ (pos c r + 1) % 16 = 15) fullShare.left I.OUT)
/-- After everything. -/
def StZ (c : Dev nD) : sProp 𝕄 :=
  iprop(Ow c 32 32 (two 30 30) (two 30 30) ∗ ChX c 32 32 32 32 32
    ∗ ChR c 0 30 30 30 30 30 ∗ ChR c 1 30 30 30 30 30 ∗ KX c 16 ∗ KR c 0 15 ∗ KR c 1 15
    ∗ O c (fun _ => True) fullShare I.OUT)

/-- The first round of the sum. -/
theorem it0 (c : Dev nD)  {α : Type} (k : PUnit → KProg F α) (Q : α → sProp 𝕄) :
    iprop(Ctx I K Kk ∗ St0 I c)
      ⊢ iprop(((StR I c 0) -∗ WP c (k ⟨⟩) Q) -∗ WP c (iter0 c >>= k) Q) := by
  unfold St0 StR iter0
  iintro ⟨#HC, HO, HX, HR0, HR1, HK, HK0, HK1, Hs0, Hs1, Hown, Hoth, HL⟩ Hk
  rw [Prog.bind_assoc]
  simp only [Prog.bind_assoc]
  iapply (m_seg I K Kk c 0 _ 1 0 0 (by omega)) $$ [HO HX HR0 HK HK0 Hown Hoth HL]
  · isplitr; · iexact HC
    isplitl [HO]; · iexact HO
    isplitl [HX]; · iexact HX
    isplitl [HR0]; · iexact HR0
    isplitl [HK]; · iexact HK
    isplitl [HK0]; · iexact HK0
    isplitl [Hown]; · iexact Hown
    isplitl [Hoth]; · iexact Hoth
    iexact HL
  iintro ⟨HO, HX, HR0, HK, HK0, Hown, Hoth, HL, H0, H1⟩
  iapply (rs_first I K Kk 0 c 1 (by omega) _ 1 0 1 3 2 (two (1) (1)) (two (1) (0)) rfl) $$ [HO HR0 H0 Hs0]
  · isplitr; · iexact HC
    isplitl [HO]; · iexact HO
    isplitl [HR0]; · iexact HR0
    isplitl [H0]; · iexact H0
    iexact Hs0
  rw [up_two0]
  iintro ⟨HO, HR0⟩
  iapply (m_rfin I K Kk c (0) 1 _ (1) (0) (0) (3) (2) (two (2) (1)) (two (1) (0)) (above2 (by omega) (by omega) (by omega) (by omega) (by omega) (by omega)) rfl (by omega) (I.P2 c) (I.W (0 + 1) c) (W_half1 I c (0 + 1) (0))) $$ [HO HR1 HK1 H1]
  · isplitr; · iexact HC
    isplitl [HO]; · iexact HO
    isplitl [HR1]; · iexact HR1
    isplitl [HK1]; · iexact HK1
    iexact H1
  rw [up_two1]
  iintro ⟨HO, HR1, HK1, H1⟩
  iapply (rs_first I K Kk 1 c 1 (by omega) _ 1 0 1 3 2 (two (2) (1)) (two (1) (1)) rfl) $$ [HO HR1 H1 Hs1]
  · isplitr; · iexact HC
    isplitl [HO]; · iexact HO
    isplitl [HR1]; · iexact HR1
    isplitl [H1]; · iexact H1
    iexact Hs1
  rw [up_two1]
  iintro ⟨HO, HR1⟩
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  isplitl [Hown]; · iexact Hown
  isplitl [Hoth]; · iexact Hoth
  iexact HL

/-- Round `n + 1` of the sum. -/
theorem itR (c : Dev nD) (n : ℕ) (hn : n < 13) {α : Type} (k : PUnit → KProg F α) (Q : α → sProp 𝕄) :
    iprop(Ctx I K Kk ∗ StR I c n)
      ⊢ iprop(((StR I c (n + 1)) -∗ WP c (k ⟨⟩) Q) -∗ WP c (iterR c n hn >>= k) Q) := by
  unfold StR iterR
  iintro ⟨#HC, HO, HX, HR0, HR1, HK, HK0, HK1, Hown, Hoth, HL⟩ Hk
  simp only [Prog.bind_assoc]
  iapply (m_seg I K Kk c (n + 1) _ (n + 2) n n (by omega)) $$ [HO HX HR0 HK HK0 Hown Hoth HL]
  · isplitr; · iexact HC
    isplitl [HO]; · iexact HO
    isplitl [HX]; · iexact HX
    isplitl [HR0]; · iexact HR0
    isplitl [HK]; · iexact HK
    isplitl [HK0]; · iexact HK0
    isplitl [Hown]; · iexact Hown
    isplitl [Hoth]; · iexact Hoth
    iexact HL
  iintro ⟨HO, HX, HR0, HK, HK0, Hown, Hoth, HL, H0, H1⟩
  iapply (m_rsend2 I K Kk c n 0 _ (n + 2) (n + 2) (n + 4) (n + 3) (two (n + 2) (n + 2)) (two (n + 2) (n + 1)) (above2 (by omega) (by omega) (by omega) (by omega) (by omega) (by omega)) rfl) $$ [HO HR0 H0]
  · isplitr; · iexact HC
    isplitl [HO]; · iexact HO
    isplitl [HR0]; · iexact HR0
    iexact H0
  rw [up_two0]
  iintro ⟨HO, HR0⟩
  iapply (m_rfin I K Kk c (n + 1) 1 _ (n + 2) (n) (n) (n + 4) (n + 3) (two (n + 3) (n + 2)) (two (n + 2) (n + 1)) (above2 (by omega) (by omega) (by omega) (by omega) (by omega) (by omega)) rfl (by omega) (I.P2 c) (I.W (n + 1 + 1) c) (W_half1 I c (n + 1 + 1) (n + 1))) $$ [HO HR1 HK1 H1]
  · isplitr; · iexact HC
    isplitl [HO]; · iexact HO
    isplitl [HR1]; · iexact HR1
    isplitl [HK1]; · iexact HK1
    iexact H1
  rw [up_two1]
  iintro ⟨HO, HR1, HK1, H1⟩
  iapply (m_rsend2 I K Kk c n 1 _ (n + 2) (n + 2) (n + 4) (n + 3) (two (n + 3) (n + 2)) (two (n + 2) (n + 2)) (above2 (by omega) (by omega) (by omega) (by omega) (by omega) (by omega)) rfl) $$ [HO HR1 H1]
  · isplitr; · iexact HC
    isplitl [HO]; · iexact HO
    isplitl [HR1]; · iexact HR1
    iexact H1
  rw [up_two1]
  iintro ⟨HO, HR1⟩
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  isplitl [Hown]; · iexact Hown
  isplitl [Hoth]; · iexact Hoth
  iexact HL

/-- The rounds from `13 - n` on. -/
theorem itsR (c : Dev nD) : ∀ (n : ℕ) (hn : n ≤ 13) {α : Type} (k : PUnit → KProg F α) (Q : α → sProp 𝕄),
    iprop(Ctx I K Kk ∗ StR I c (13 - n)) ⊢ iprop((StR I c 13 -∗ WP c (k ⟨⟩) Q) -∗ WP c (itersR c n hn >>= k) Q)
  | 0, _, _, k, Q => by
      iintro ⟨-, HS⟩ Hk
      iapply Hk $$ HS
  | n + 1, hn, _, k, Q => by
      unfold itersR
      rw [Prog.bind_assoc]
      have e : 13 - n = 12 - n + 1 := by omega
      have e' : 13 - (n + 1) = 12 - n := by omega
      have ih := itsR c n (by omega) k Q
      rw [e] at ih
      rw [e']
      iintro ⟨#HC, HS⟩ Hk
      iapply (itR I K Kk c (12 - n) _) $$ [HS]
      · isplitr; · iexact HC
        iexact HS
      iintro HS
      iapply ih $$ [HS]
      · isplitr; · iexact HC
        iexact HS
      iexact Hk

end Cert.KernelIdeal.Pf

end
-- ==== Proof.KI.IterG.lean ====
module

public import proofs.«01_k».proof.Proof.KI.IterR

/-! The last round of the sum, and the rounds of the results. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-- The finished block holds its part of the result. -/
theorem OUT_own (c : Dev nD) (h : Fin 2) : ∀ i ∈ Rg (pOwn c 15 h), I.OUT i = FloatOps.mulf (φ := .f32) (I.W (14 + 1) c i) (I.sc c) := by
  intro i hi; rw [mem_Rg] at hi
  show FloatOps.mulf (φ := .f32) (I.W 15 (orig i) i) (I.sc (orig i)) = _
  rw [orig_eq c i hi.1 hi.2.1]

/-- A finished half block, split between the two transfers that take it. -/
theorem O_split_share (c : Dev nD) (p : ℕ → Prop) : (O c p fullShare I.OUT : sProp 𝕄) ⊢ iprop(O c p fullShare.left I.OUT ∗ O c p fullShare.right I.OUT) :=
  (O_share c p I.OUT).1

theorem loans_all (c : Dev nD) : (O (partner c) (fun r => own c r ∧ pos c r < 14 + 2) fullShare (I.Y (partner c)) : sProp 𝕄)
    = O (partner c) (fun r => own c r ∧ 0 ≤ (pos c r + 1) % 16) fullShare (I.Y (partner c)) :=
  O_iff _ (fun r _ => by
    have hp := pos_lt c r
    constructor
    · rintro ⟨h1, h2⟩; exact ⟨h1, Nat.zero_le _⟩
    · rintro ⟨h1, h2⟩; exact ⟨h1, by omega⟩) _ _
theorem own_last (c : Dev nD) : (O c (fun r => own c r ∧ 13 + 2 ≤ pos c r) fullShare (I.Y c) : sProp 𝕄)
    = O c (fun r => own c r ∧ pos c r = 15) fullShare (I.Y c) :=
  O_iff _ (fun r _ => by
    have hp := pos_lt c r
    constructor
    · rintro ⟨h1, h2⟩; exact ⟨h1, by omega⟩
    · rintro ⟨h1, h2⟩; exact ⟨h1, by omega⟩) _ _

/-- The last round of the sum. -/
theorem it14 (c : Dev nD)  {α : Type} (k : PUnit → KProg F α) (Q : α → sProp 𝕄) :
    iprop(Ctx I K Kk ∗ StR I c 13)
      ⊢ iprop(((StA I c) -∗ WP c (k ⟨⟩) Q) -∗ WP c (iter14 c (I.sc c) >>= k) Q) := by
  unfold StR StA iter14
  iintro ⟨#HC, HO, HX, HR0, HR1, HK, HK0, HK1, Hown, -, HL⟩ Hk
  simp only [Prog.bind_assoc]
  ihave Hs := (Entails.of_eq (own_last I c)) $$ Hown
  ihave Hs := (O_halves c 15 fullShare _).1 $$ Hs
  icases Hs with ⟨H0, H1⟩
  iapply (m_rfin I K Kk c 14 0 _ 15 13 13 16 15 (two (15) (15)) (two (14) (14)) (above2 (by omega) (by omega) (by omega) (by omega) (by omega) (by omega)) rfl (by omega) (I.Y c) (I.P1 14 c) (fun _ _ => rfl)) $$ [HO HR0 HK0 H0]
  · isplitr; · iexact HC
    isplitl [HO]; · iexact HO
    isplitl [HR0]; · iexact HR0
    isplitl [HK0]; · iexact HK0
    iexact H0
  rw [up_two0]
  iintro ⟨HO, HR0, HK0, H0⟩
  iapply (m_x I K Kk c 14 _ 16 14 14 16 (two (15) (15)) (two (15) (14)) (above2 (by omega) (by omega) (by omega) (by omega) (by omega) (by omega))) $$ [HO HX HK H0 H1 HL]
  · isplitr; · iexact HC
    isplitl [HO]; · iexact HO
    isplitl [HX]; · iexact HX
    isplitl [HK]; · iexact HK
    isplitl [H0]; · iexact H0
    isplitl [H1]; · iexact H1
    iexact HL
  iintro ⟨HO, HX, HK, H0, H1, HL⟩
  iapply (e_scale c 0 (I.sc c) (I.W (14 + 1) c) I.OUT (OUT_own I c 0)) $$ H0
  iintro H0
  ihave Hs := (Entails.of_eq (pOwn_pRes0 c 0 fullShare I.OUT)) $$ H0
  ihave Hs := (O_split_share I c _) $$ Hs
  icases Hs with ⟨H0, H0r⟩
  iapply (m_rsendG1 I K Kk c 0 0 _ 15 15 16 16 (two (15) (15)) (two (15) (14)) (above2 (by omega) (by omega) (by omega) (by omega) (by omega) (by omega)) rfl) $$ [HO HR0 H0]
  · isplitr; · iexact HC
    isplitl [HO]; · iexact HO
    isplitl [HR0]; · iexact HR0
    iexact H0
  rw [up_two0]
  iintro ⟨HO, HR0⟩
  iapply (m_rfin I K Kk c (14) 1 _ (15) (13) (13) (16) (16) (two (16) (15)) (two (15) (14)) (above2 (by omega) (by omega) (by omega) (by omega) (by omega) (by omega)) rfl (by omega) (I.P2 c) (I.W (14 + 1) c) (W_half1 I c (14 + 1) (14))) $$ [HO HR1 HK1 H1]
  · isplitr; · iexact HC
    isplitl [HO]; · iexact HO
    isplitl [HR1]; · iexact HR1
    isplitl [HK1]; · iexact HK1
    iexact H1
  rw [up_two1]
  iintro ⟨HO, HR1, HK1, H1⟩
  iapply (e_scale c 1 (I.sc c) (I.W (14 + 1) c) I.OUT (OUT_own I c 1)) $$ H1
  iintro H1
  ihave Hs := (Entails.of_eq (pOwn_pRes0 c 1 fullShare I.OUT)) $$ H1
  ihave Hs := (O_split_share I c _) $$ Hs
  icases Hs with ⟨H1, H1r⟩
  iapply (m_rsendG1 I K Kk c 0 1 _ 15 15 16 16 (two (16) (15)) (two (15) (15)) (above2 (by omega) (by omega) (by omega) (by omega) (by omega) (by omega)) rfl) $$ [HO HR1 H1]
  · isplitr; · iexact HC
    isplitl [HO]; · iexact HO
    isplitl [HR1]; · iexact HR1
    iexact H1
  rw [up_two1]
  iintro ⟨HO, HR1⟩
  ihave Hr := (R_halves c (0) fullShare.right I.OUT).2 $$ [H0r H1r]
  · isplitl [H0r]; · iexact H0r
    iexact H1r
  ihave Hs := (Entails.of_eq (loans_all I c)) $$ HL
  ihave Hs := (R_from (partner c) c 0 fullShare _).1 $$ Hs
  icases Hs with ⟨Hl, HL⟩
  iapply (m_xsendG1 I K Kk c 0 _ 16 16 16 (two (16) (16)) (two (15) (15)) (above2 (by omega) (by omega) (by omega) (by omega) (by omega) (by omega)) (I.Y (partner c))) $$ [HO HX Hr Hl]
  · isplitr; · iexact HC
    isplitl [HO]; · iexact HO
    isplitl [HX]; · iexact HX
    isplitl [Hr]; · iexact Hr
    iexact Hl
  iintro ⟨HO, HX⟩
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  iexact HL

/-- The first round of the results. -/
theorem it15 (c : Dev nD)  {α : Type} (k : PUnit → KProg F α) (Q : α → sProp 𝕄) :
    iprop(Ctx I K Kk ∗ StA I c)
      ⊢ iprop(((StG I c 0) -∗ WP c (k ⟨⟩) Q) -∗ WP c (iter15 c >>= k) Q) := by
  unfold StA StG iter15
  iintro ⟨#HC, HO, HX, HR0, HR1, HK, HK0, HK1, HL⟩ Hk
  simp only [Prog.bind_assoc]
  iapply (m_rfinG I K Kk c 0 0 _ 16 14 14 17 16 (two (16) (16)) (two (15) (15)) (above2 (by omega) (by omega) (by omega) (by omega) (by omega) (by omega)) rfl (by omega)) $$ [HO HR0]
  · isplitr; · iexact HC
    isplitl [HO]; · iexact HO
    iexact HR0
  rw [up_two0]
  iintro ⟨HO, HR0, H0⟩
  ihave Hs := (Entails.of_eq (pOwn_pRes c (0) (by omega) 0 fullShare I.OUT)) $$ H0
  ihave Hs := (O_split_share I c _) $$ Hs
  icases Hs with ⟨H0, H0r⟩
  iapply (m_rsendG1 I K Kk c 1 0 _ 16 16 17 16 (two (16) (16)) (two (16) (15)) (above2 (by omega) (by omega) (by omega) (by omega) (by omega) (by omega)) rfl) $$ [HO HR0 H0]
  · isplitr; · iexact HC
    isplitl [HO]; · iexact HO
    isplitl [HR0]; · iexact HR0
    iexact H0
  rw [up_two0]
  iintro ⟨HO, HR0⟩
  iapply (m_rfinG I K Kk c 0 1 _ 16 14 14 17 16 (two (17) (16)) (two (16) (15)) (above2 (by omega) (by omega) (by omega) (by omega) (by omega) (by omega)) rfl (by omega)) $$ [HO HR1]
  · isplitr; · iexact HC
    isplitl [HO]; · iexact HO
    iexact HR1
  rw [up_two1]
  iintro ⟨HO, HR1, H1⟩
  ihave Hs := (Entails.of_eq (pOwn_pRes c (0) (by omega) 1 fullShare I.OUT)) $$ H1
  ihave Hs := (O_split_share I c _) $$ Hs
  icases Hs with ⟨H1, H1r⟩
  iapply (m_rsendG1 I K Kk c 1 1 _ 16 16 17 16 (two (17) (16)) (two (16) (16)) (above2 (by omega) (by omega) (by omega) (by omega) (by omega) (by omega)) rfl) $$ [HO HR1 H1]
  · isplitr; · iexact HC
    isplitl [HO]; · iexact HO
    isplitl [HR1]; · iexact HR1
    iexact H1
  rw [up_two1]
  iintro ⟨HO, HR1⟩
  ihave Hr := (R_halves c (1) fullShare.right I.OUT).2 $$ [H0r H1r]
  · isplitl [H0r]; · iexact H0r
    iexact H1r
  ihave Hs := (R_from (partner c) c 1 fullShare _).1 $$ HL
  icases Hs with ⟨Hl, HL⟩
  iapply (m_xsendG1 I K Kk c 1 _ 16 16 16 (two (17) (17)) (two (16) (16)) (above2 (by omega) (by omega) (by omega) (by omega) (by omega) (by omega)) (I.Y (partner c))) $$ [HO HX Hr Hl]
  · isplitr; · iexact HC
    isplitl [HO]; · iexact HO
    isplitl [HX]; · iexact HX
    isplitl [Hr]; · iexact Hr
    iexact Hl
  iintro ⟨HO, HX⟩
  iapply (m_xfinG I K Kk c 0 _ 18 16 16 18 (two (17) (17)) (two (16) (16)) (above2 (by omega) (by omega) (by omega) (by omega) (by omega) (by omega))) $$ [HO HX]
  · isplitr; · iexact HC
    isplitl [HO]; · iexact HO
    iexact HX
  iintro ⟨HO, HX, Hx⟩
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  isplitl [HL]; · iexact HL
  isplitl [Hx]
  · iapply (R_below c (fun r => ¬ own c r) 0 fullShare _).2
    isplitr
    · rw [O_none c fullShare _ (fun _ _ h => absurd h.2 (Nat.not_lt_zero _))]; iempintro
    iexact Hx
  rw [O_none c _ _ (fun _ _ h => absurd h.2 (Nat.not_lt_zero _)), O_none c _ _ (fun _ _ h => absurd h.2 (Nat.not_lt_zero _))]
  isplitr
  · iempintro
  iempintro

/-- Round `n + 1` of the results. -/
theorem itG (c : Dev nD) (n : ℕ) (hn : n < 13) {α : Type} (k : PUnit → KProg F α) (Q : α → sProp 𝕄) :
    iprop(Ctx I K Kk ∗ StG I c n)
      ⊢ iprop(((StG I c (n + 1)) -∗ WP c (k ⟨⟩) Q) -∗ WP c (iterG c n hn >>= k) Q) := by
  unfold StG iterG
  iintro ⟨#HC, HO, HX, HR0, HR1, HK, HK0, HK1, HL, Hoth, Hlf, Hrt⟩ Hk
  simp only [Prog.bind_assoc]
  iapply (m_rfinG I K Kk c (n + 1) 0 _ (n + 17) (n + 15) (n + 15) (n + 18) (n + 17) (two (n + 17) (n + 17)) (two (n + 16) (n + 16)) (above2 (by omega) (by omega) (by omega) (by omega) (by omega) (by omega)) rfl (by omega)) $$ [HO HR0]
  · isplitr; · iexact HC
    isplitl [HO]; · iexact HO
    iexact HR0
  rw [up_two0]
  iintro ⟨HO, HR0, H0⟩
  ihave Hs := (Entails.of_eq (pOwn_pRes c (n + 1) (by omega) 0 fullShare I.OUT)) $$ H0
  ihave Hs := (O_split_share I c _) $$ Hs
  icases Hs with ⟨H0, H0r⟩
  iapply (m_rsendG2 I K Kk c n 0 _ (n + 17) (n + 17) (n + 18) (n + 17) (two (n + 17) (n + 17)) (two (n + 17) (n + 16)) (above2 (by omega) (by omega) (by omega) (by omega) (by omega) (by omega)) rfl) $$ [HO HR0 H0]
  · isplitr; · iexact HC
    isplitl [HO]; · iexact HO
    isplitl [HR0]; · iexact HR0
    iexact H0
  rw [up_two0]
  iintro ⟨HO, HR0, H0⟩
  iapply (m_rfinG I K Kk c (n + 1) 1 _ (n + 17) (n + 15) (n + 15) (n + 18) (n + 17) (two (n + 18) (n + 17)) (two (n + 17) (n + 16)) (above2 (by omega) (by omega) (by omega) (by omega) (by omega) (by omega)) rfl (by omega)) $$ [HO HR1]
  · isplitr; · iexact HC
    isplitl [HO]; · iexact HO
    iexact HR1
  rw [up_two1]
  iintro ⟨HO, HR1, H1⟩
  ihave Hs := (Entails.of_eq (pOwn_pRes c (n + 1) (by omega) 1 fullShare I.OUT)) $$ H1
  ihave Hs := (O_split_share I c _) $$ Hs
  icases Hs with ⟨H1, H1r⟩
  iapply (m_rsendG2 I K Kk c n 1 _ (n + 17) (n + 17) (n + 18) (n + 17) (two (n + 18) (n + 17)) (two (n + 17) (n + 17)) (above2 (by omega) (by omega) (by omega) (by omega) (by omega) (by omega)) rfl) $$ [HO HR1 H1]
  · isplitr; · iexact HC
    isplitl [HO]; · iexact HO
    isplitl [HR1]; · iexact HR1
    iexact H1
  rw [up_two1]
  iintro ⟨HO, HR1, H1⟩
  ihave Hl2 := (R_halves c (n) fullShare.left I.OUT).2 $$ [H0 H1]
  · isplitl [H0]; · iexact H0
    iexact H1
  ihave Hr := (R_halves c (n + 2) fullShare.right I.OUT).2 $$ [H0r H1r]
  · isplitl [H0r]; · iexact H0r
    iexact H1r
  ihave Hs := (R_from (partner c) c (n + 2) fullShare _).1 $$ HL
  icases Hs with ⟨Hl, HL⟩
  iapply (m_xsendG2 I K Kk c n _ (n + 17) (n + 17) (n + 17) (two (n + 18) (n + 18)) (two (n + 17) (n + 17)) (above2 (by omega) (by omega) (by omega) (by omega) (by omega) (by omega)) (I.Y (partner c))) $$ [HO HX Hr Hl]
  · isplitr; · iexact HC
    isplitl [HO]; · iexact HO
    isplitl [HX]; · iexact HX
    isplitl [Hr]; · iexact Hr
    iexact Hl
  iintro ⟨HO, HX, Hr⟩
  iapply (m_xfinG I K Kk c (n + 1) _ (n + 19) (n + 17) (n + 17) (n + 19) (two (n + 18) (n + 18)) (two (n + 17) (n + 17)) (above2 (by omega) (by omega) (by omega) (by omega) (by omega) (by omega))) $$ [HO HX]
  · isplitr; · iexact HC
    isplitl [HO]; · iexact HO
    iexact HX
  iintro ⟨HO, HX, Hx⟩
  ihave Hoth := (R_below c (fun r => ¬ own c r) (n + 1) fullShare I.OUT).2 $$ [Hoth Hx]
  · isplitl [Hoth]; · iexact Hoth
    iexact Hx
  ihave Hlf := (R_below c (own c) (n) fullShare.left I.OUT).2 $$ [Hlf Hl2]
  · isplitl [Hlf]; · iexact Hlf
    iexact Hl2
  ihave Hrt := (R_below c (own c) (n) fullShare.right I.OUT).2 $$ [Hrt Hr]
  · isplitl [Hrt]; · iexact Hrt
    iexact Hr
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  isplitl [HL]; · iexact HL
  isplitl [Hoth]; · iexact Hoth
  isplitl [Hlf]; · iexact Hlf
  iexact Hrt

/-- The rounds from `13 - n` on. -/
theorem itsG (c : Dev nD) : ∀ (n : ℕ) (hn : n ≤ 13) {α : Type} (k : PUnit → KProg F α) (Q : α → sProp 𝕄),
    iprop(Ctx I K Kk ∗ StG I c (13 - n)) ⊢ iprop((StG I c 13 -∗ WP c (k ⟨⟩) Q) -∗ WP c (itersG c n hn >>= k) Q)
  | 0, _, _, k, Q => by
      iintro ⟨-, HS⟩ Hk
      iapply Hk $$ HS
  | n + 1, hn, _, k, Q => by
      unfold itersG
      rw [Prog.bind_assoc]
      have e : 13 - n = 12 - n + 1 := by omega
      have e' : 13 - (n + 1) = 12 - n := by omega
      have ih := itsG c n (by omega) k Q
      rw [e] at ih
      rw [e']
      iintro ⟨#HC, HS⟩ Hk
      iapply (itG I K Kk c (12 - n) _) $$ [HS]
      · isplitr; · iexact HC
        iexact HS
      iintro HS
      iapply ih $$ [HS]
      · isplitr; · iexact HC
        iexact HS
      iexact Hk

/-- The last round of the results. -/
theorem it29 (c : Dev nD)  {α : Type} (k : PUnit → KProg F α) (Q : α → sProp 𝕄) :
    iprop(Ctx I K Kk ∗ StG I c 13)
      ⊢ iprop(((StE I c) -∗ WP c (k ⟨⟩) Q) -∗ WP c (iter29 c >>= k) Q) := by
  unfold StG StE iter29
  iintro ⟨#HC, HO, HX, HR0, HR1, HK, HK0, HK1, HL, Hoth, Hlf, Hrt⟩ Hk
  simp only [Prog.bind_assoc]
  iapply (m_rfinG I K Kk c 14 0 _ 30 28 28 31 30 (two (30) (30)) (two (29) (29)) (above2 (by omega) (by omega) (by omega) (by omega) (by omega) (by omega)) rfl (by omega)) $$ [HO HR0]
  · isplitr; · iexact HC
    isplitl [HO]; · iexact HO
    iexact HR0
  rw [up_two0]
  iintro ⟨HO, HR0, H0⟩
  ihave Hs := (Entails.of_eq (pOwn_pRes c (14) (by omega) 0 fullShare I.OUT)) $$ H0
  ihave Hs := (O_split_share I c _) $$ Hs
  icases Hs with ⟨H0, H0r⟩
  iapply (m_rfinG I K Kk c 14 1 _ 30 28 28 31 30 (two (30) (30)) (two (30) (29)) (above2 (by omega) (by omega) (by omega) (by omega) (by omega) (by omega)) rfl (by omega)) $$ [HO HR1]
  · isplitr; · iexact HC
    isplitl [HO]; · iexact HO
    iexact HR1
  rw [up_two1]
  iintro ⟨HO, HR1, H1⟩
  ihave Hs := (Entails.of_eq (pOwn_pRes c (14) (by omega) 1 fullShare I.OUT)) $$ H1
  ihave Hs := (O_split_share I c _) $$ Hs
  icases Hs with ⟨H1, H1r⟩
  ihave Hl2 := (R_halves c (15) fullShare.left I.OUT).2 $$ [H0 H1]
  · isplitl [H0]; · iexact H0
    iexact H1
  ihave Hr := (R_halves c (15) fullShare.right I.OUT).2 $$ [H0r H1r]
  · isplitl [H0r]; · iexact H0r
    iexact H1r
  ihave Hs := (R_from (partner c) c 15 fullShare _).1 $$ HL
  icases Hs with ⟨Hl, -⟩
  iapply (m_xsendG2 I K Kk c 13 _ 30 30 30 (two (30) (30)) (two (30) (30)) (above2 (by omega) (by omega) (by omega) (by omega) (by omega) (by omega)) (I.Y (partner c))) $$ [HO HX Hr Hl]
  · isplitr; · iexact HC
    isplitl [HO]; · iexact HO
    isplitl [HX]; · iexact HX
    isplitl [Hr]; · iexact Hr
    iexact Hl
  iintro ⟨HO, HX, Hr⟩
  iapply (m_xfinG I K Kk c 14 _ 32 30 30 32 (two (30) (30)) (two (30) (30)) (above2 (by omega) (by omega) (by omega) (by omega) (by omega) (by omega))) $$ [HO HX]
  · isplitr; · iexact HC
    isplitl [HO]; · iexact HO
    iexact HX
  iintro ⟨HO, HX, Hx⟩
  ihave Hoth := (R_below c (fun r => ¬ own c r) (14) fullShare I.OUT).2 $$ [Hoth Hx]
  · isplitl [Hoth]; · iexact Hoth
    iexact Hx
  ihave Hrt := (R_below c (own c) (13) fullShare.right I.OUT).2 $$ [Hrt Hr]
  · isplitl [Hrt]; · iexact Hrt
    iexact Hr
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  isplitl [Hoth]; · iexact Hoth
  isplitl [Hlf]; · iexact Hlf
  isplitl [Hrt]; · iexact Hrt
  iexact Hl2

/-- The end. -/
theorem itZ (c : Dev nD)  {α : Type} (k : PUnit → KProg F α) (Q : α → sProp 𝕄) :
    iprop(Ctx I K Kk ∗ StE I c)
      ⊢ iprop(((StZ I c) -∗ WP c (k ⟨⟩) Q) -∗ WP c (closing c >>= k) Q) := by
  unfold StE StZ closing
  iintro ⟨#HC, HO, HX, HR0, HR1, HK, HK0, HK1, Hoth, Hlf, Hrt, Hl2⟩ Hk
  simp only [Prog.bind_assoc]
  iapply (m_xfinG I K Kk c 15 _ 32 30 30 32 (two (30) (30)) (two (30) (30)) (above2 (by omega) (by omega) (by omega) (by omega) (by omega) (by omega))) $$ [HO HX]
  · isplitr; · iexact HC
    isplitl [HO]; · iexact HO
    iexact HX
  iintro ⟨HO, HX, Hx⟩
  ihave Hoth := (R_below c (fun r => ¬ own c r) (15) fullShare I.OUT).2 $$ [Hoth Hx]
  · isplitl [Hoth]; · iexact Hoth
    iexact Hx
  iapply (rs_credit2 I K Kk 0 c 30 28 30 30 32 32 (two (30) (30)) (two (30) (30)) (above2 (by omega) (by omega) (by omega) (by omega) (by omega) (by omega))) $$ [HO HR0]
  · isplitr; · iexact HC
    isplitl [HO]; · iexact HO
    iexact HR0
  iintro ⟨HO, HR0⟩
  iapply (rs_credit2 I K Kk 1 c 30 28 30 30 32 32 (two (30) (30)) (two (30) (30)) (above2 (by omega) (by omega) (by omega) (by omega) (by omega) (by omega))) $$ [HO HR1]
  · isplitr; · iexact HC
    isplitl [HO]; · iexact HO
    iexact HR1
  iintro ⟨HO, HR1⟩
  iapply (xs_credit2 I K Kk c 32 30 32 32 32 32 (two (30) (30)) (two (30) (30)) (above2 (by omega) (by omega) (by omega) (by omega) (by omega) (by omega))) $$ [HO HX]
  · isplitr; · iexact HC
    isplitl [HO]; · iexact HO
    iexact HX
  iintro ⟨HO, HX⟩
  iapply (rs_left' I K Kk 0 c 28 (by omega) (by omega) (vG c (28 - 15) 0 _) (vG c (28 - 15) 0 _) rfl 30 30 30 30 (by omega) 32 32 (two (30) (30)) (two (30) (30)) (above2 (by omega) (by omega) (by omega) (by omega) (by omega) (by omega))) $$ [HO HR0]
  · isplitr; · iexact HC
    isplitl [HO]; · iexact HO
    iexact HR0
  iintro ⟨HO, HR0, H028⟩
  iapply (rs_left' I K Kk 0 c 29 (by omega) (by omega) (vG c (29 - 15) 0 _) (vG c (29 - 15) 0 _) rfl 30 30 30 30 (by omega) 32 32 (two (30) (30)) (two (30) (30)) (above2 (by omega) (by omega) (by omega) (by omega) (by omega) (by omega))) $$ [HO HR0]
  · isplitr; · iexact HC
    isplitl [HO]; · iexact HO
    iexact HR0
  iintro ⟨HO, HR0, H029⟩
  iapply (rs_left' I K Kk 1 c 28 (by omega) (by omega) (vG c (28 - 15) 1 _) (vG c (28 - 15) 1 _) rfl 30 30 30 30 (by omega) 32 32 (two (30) (30)) (two (30) (30)) (above2 (by omega) (by omega) (by omega) (by omega) (by omega) (by omega))) $$ [HO HR1]
  · isplitr; · iexact HC
    isplitl [HO]; · iexact HO
    iexact HR1
  iintro ⟨HO, HR1, H128⟩
  iapply (rs_left' I K Kk 1 c 29 (by omega) (by omega) (vG c (29 - 15) 1 _) (vG c (29 - 15) 1 _) rfl 30 30 30 30 (by omega) 32 32 (two (30) (30)) (two (30) (30)) (above2 (by omega) (by omega) (by omega) (by omega) (by omega) (by omega))) $$ [HO HR1]
  · isplitr; · iexact HC
    isplitl [HO]; · iexact HO
    iexact HR1
  iintro ⟨HO, HR1, H129⟩
  iapply (xs_left I K Kk c 30 14 (by omega) (by omega) (vQ c 14 _) (vQ c 14 _) rfl 32 32 32 32 (by omega) 32 32 (two (30) (30)) (two (30) (30)) (above2 (by omega) (by omega) (by omega) (by omega) (by omega) (by omega))) $$ [HO HX]
  · isplitr; · iexact HC
    isplitl [HO]; · iexact HO
    iexact HX
  iintro ⟨HO, HX, Hp⟩
  ihave H30 := (Entails.of_eq (show payXS I c 30 = O c (fun r => own c r ∧ (pos c r + 1) % 16 = 14) fullShare.right I.OUT by
    unfold payXS; rw [if_neg (by omega)])) $$ Hp
  iapply (xs_left I K Kk c 31 15 (by omega) (by omega) (vQ c 15 _) (vQ c 15 _) rfl 32 32 32 32 (by omega) 32 32 (two (30) (30)) (two (30) (30)) (above2 (by omega) (by omega) (by omega) (by omega) (by omega) (by omega))) $$ [HO HX]
  · isplitr; · iexact HC
    isplitl [HO]; · iexact HO
    iexact HX
  iintro ⟨HO, HX, Hp⟩
  ihave H31 := (Entails.of_eq (show payXS I c 31 = O c (fun r => own c r ∧ (pos c r + 1) % 16 = 15) fullShare.right I.OUT by
    unfold payXS; rw [if_neg (by omega)])) $$ Hp
  ihave Hl28 := (R_halves c (13) fullShare.left I.OUT).2 $$ [H028 H128]
  · isplitl [H028]; · iexact H028
    iexact H128
  ihave Hl29 := (R_halves c (14) fullShare.left I.OUT).2 $$ [H029 H129]
  · isplitl [H029]; · iexact H029
    iexact H129
  ihave Hlf := (R_below c (own c) (13) fullShare.left I.OUT).2 $$ [Hlf Hl28]
  · isplitl [Hlf]; · iexact Hlf
    iexact Hl28
  ihave Hlf := (R_below c (own c) (14) fullShare.left I.OUT).2 $$ [Hlf Hl29]
  · isplitl [Hlf]; · iexact Hlf
    iexact Hl29
  ihave Hlf := (R_below c (own c) (15) fullShare.left I.OUT).2 $$ [Hlf Hl2]
  · isplitl [Hlf]; · iexact Hlf
    iexact Hl2
  ihave Hrt := (R_below c (own c) (14) fullShare.right I.OUT).2 $$ [Hrt H30]
  · isplitl [Hrt]; · iexact Hrt
    iexact H30
  ihave Hrt := (R_below c (own c) (15) fullShare.right I.OUT).2 $$ [Hrt H31]
  · isplitl [Hrt]; · iexact Hrt
    iexact H31
  ihave Hown := (O_share c (fun r => own c r ∧ (pos c r + 1) % 16 < 15 + 1) I.OUT).2 $$ [Hlf Hrt]
  · isplitl [Hlf]; · iexact Hlf
    iexact Hrt
  iapply Hk
  isplitl [HO]; · iexact HO
  isplitl [HX]; · iexact HX
  isplitl [HR0]; · iexact HR0
  isplitl [HR1]; · iexact HR1
  isplitl [HK]; · iexact HK
  isplitl [HK0]; · iexact HK0
  isplitl [HK1]; · iexact HK1
  iapply (O_split c (p := fun _ => True) (p1 := fun r => own c r ∧ (pos c r + 1) % 16 < 15 + 1) (p2 := fun r => ¬ own c r ∧ (pos c r + 1) % 16 < 15 + 1) fullShare I.OUT
    (fun n _ => by
      have h := Nat.mod_lt (pos c n + 1) (show 0 < 16 by omega)
      by_cases ho : own c n
      · exact ⟨fun _ => Or.inl ⟨ho, h⟩, fun _ => trivial⟩
      · exact ⟨fun _ => Or.inr ⟨ho, h⟩, fun _ => trivial⟩)
    (fun n _ h => h.2.1 h.1.1)).2
  isplitl [Hown]; · iexact Hown
  iexact Hoth

end Cert.KernelIdeal.Pf

end
-- ==== Proof.KI.Open.lean ====
module

public import proofs.«01_k».proof.Proof.KI.IterG

/-! The local product, the barrier, the first transfers, and the whole body. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

/-- What a device owes at the start: everything, and the three signals of the barrier. -/
def owed0 (c : Dev nD) : CellTallies nD τ sig ℕ :=
  owed c 0 0 (two 0 0) (two 0 0) + tallyAt (cBar (ringR c)) 1 1 + tallyAt (cBar (ringL c)) 1 1 + tallyAt (cBar (partner c)) 1 1

/-- The receive slots of a device, lent to its neighbours at the barrier. -/
def SlotsX (c : Dev nD) : sProp 𝕄 := iprop(SlC c 0 ∗ SlC c 1)
def SlotsR (c : Dev nD) : sProp 𝕄 := iprop((SlR c 0 0 ∗ SlR c 0 1) ∗ (SlR c 1 0 ∗ SlR c 1 1))

theorem bar_rest (c : Dev nD) :
    bigSep ((sched I).duties (cBar c) 0 \ ∅) (fun d => (sched I).payload (cBar c) 0 d)
      = iprop(payBar (F := F) c 2 ∗ payBar (F := F) c 1 ∗ payBar (F := F) c 0 ∗ emp) := by
  rw [dut_bar, Finset.sdiff_empty, bigSep_congr (Ψ := fun d => payBar (F := F) c d) (fun d _ => pay_bar I c d), bigSep_range_succ, bigSep_range_succ, bigSep_range_succ,
    Finset.range_zero, bigSep_empty]; rfl

/-- The barrier. -/
theorem m_barrier (c : Dev nD) {α : Type} (k : PUnit → KProg F α) (Q : α → sProp 𝕄) :
    iprop(Ctx I K Kk ∗ (∃ W, owes (c : Thread nD τ) (owed0 c) W)
        ∗ dutyTok ER (cBar (partner c)) 0 0 ∗ dutyTok ER (cBar (ringL c)) 0 1 ∗ dutyTok ER (cBar (ringR c)) 0 2
        ∗ SlotsX c ∗ SlotsR c ∗ cred (tallyAt (cBar c) 1 3) ∗ atPos ER (cBar c) 0 ∅ 0)
      ⊢ iprop(((Ow c 0 0 (two 0 0) (two 0 0) ∗ atPos ER (cBar c) 1 ∅ 0 ∗ SlotsX (partner c) ∗ SlotsR (ringR c)) -∗ WP c (k ⟨⟩) Q)
        -∗ WP c (barrier c >>= k) Q) := by
  unfold barrier
  simp only [semSignalWord, semWaitWord, Prog.lift, Prog.bind_op, Prog.bind_ret, Prog.pure_eq_ret]
  have e1 : (1#32 : BitVec 32).toInt = 1 := rfl
  have e3 : (3#32 : BitVec 32).toInt = 3 := rfl
  rw [e1, e3]
  have hp0 : (sched I).payload (cBar (partner c)) 0 0 = SlotsX (F := F) c := by
    rw [pay_bar]; unfold payBar SlotsX; rw [if_pos rfl, partner_partner]
  have hp1 : (sched I).payload (cBar (ringL c)) 0 1 = SlotsR (F := F) c := by
    rw [pay_bar]; unfold payBar SlotsR; rw [if_neg (by decide), if_pos rfl, ringR_ringL]
  have hp2 : (sched I).payload (cBar (ringR c)) 0 2 = (iprop(emp) : sProp 𝕄) := by
    rw [pay_bar]; unfold payBar; rw [if_neg (by decide), if_neg (by decide)]
  iintro ⟨#HC, HO, Ht0, Ht1, Ht2, HX, HR, Hc, Hat⟩ Hk
  iapply (signal_one I K Kk c (partner c) barS 0 csem_bar 0 1 (by rw [dut_bar]; decide) (amt_bar I _ _ _) (owed0 c) _ rfl) $$ [HO Ht0 HX]
  · isplitr; · iexact HC
    isplitl [HO]; · iexact HO
    isplitl [Ht0]; · iexact Ht0
    rw [hp0]; iexact HX
  iintro HO
  iapply (signal_one I K Kk c (ringL c) barS 0 csem_bar 1 1 (by rw [dut_bar]; decide) (amt_bar I _ _ _) _ _ rfl) $$ [HO Ht1 HR]
  · isplitr; · iexact HC
    isplitl [HO]; · iexact HO
    isplitl [Ht1]; · iexact Ht1
    rw [hp1]; iexact HR
  iintro HO
  iapply (signal_one I K Kk c (ringR c) barS 0 csem_bar 2 1 (by rw [dut_bar]; decide) (amt_bar I _ _ _) _ (owed c 0 0 (two 0 0) (two 0 0)) rfl) $$ [HO Ht2]
  · isplitr; · iexact HC
    isplitl [HO]; · iexact HO
    isplitl [Ht2]; · iexact Ht2
    rw [hp2]; iempintro
  iintro ⟨%W, HO⟩
  ihave #Hi := (Ctx_cell I K Kk c 0) $$ HC
  have hlev : Ctx I K Kk ⊢ (levAts L lv : sProp 𝕄) := Ctx_lev I K Kk
  ihave #Hl := hlev $$ HC
  have hr := bar_rest I c
  have he := exp_bar I c
  rw [show cBar c = ((c : Thread nD τ), SemLoc.reg barS) from kcell_eq c 0 _ csem_bar] at hr he ⊢
  rw [kcell_eq c 0 _ csem_bar]
  iapply (Rounds.wp_wait_rest_token 𝒱₀ ER (sched I) (c : Thread nD τ) none (κ := K (c, 0))
      (wpE_semWait_eq 𝒱₀ (c : Thread nD τ) none Set.univ) (Set.mem_univ _) 1 (O := owed c 0 0 (two 0 0) (two 0 0)) (W := W) (R := 0) (m := 0) (T := ∅)
      (by rw [Nat.zero_add, he])) $$ [Hc HO Hat]
  · isplitr; · iexact Hi
    isplitl [Hc]; · iexact Hc
    isplitl [HO]; · iexact HO
    isplitr
    · iapply (mayOwe (F := F) c 1 0 0 (two 0 0) (two 0 0) (above2 (by omega) (by omega) (by omega) (by omega) (by omega) (by omega)) (by decide)
        {(SemLoc.reg barS, 1)} (fun p hp => by rw [Finset.mem_singleton.mp hp])) $$ Hl
    iexact Hat
  iintro ⟨HO, Hat, -, Hpay⟩
  ihave Hp := (Entails.of_eq hr) $$ Hpay
  icases Hp with ⟨-, H1, H0, -⟩
  iapply Hk
  isplitl [HO]; · unfold Ow; iexists _; iexact HO
  isplitl [Hat]; · iexact Hat
  isplitl [H0]
  · iapply (Entails.of_eq (show payBar (F := F) c 0 = SlotsX (partner c) by unfold payBar SlotsX; rw [if_pos rfl])) $$ H0
  iapply (Entails.of_eq (show payBar (F := F) c 1 = SlotsR (ringR c) by unfold payBar SlotsR; rw [if_neg (by decide), if_pos rfl])) $$ H1

/-- The state before the barrier, once the local product is in place. -/
def StI (c : Dev nD) : sProp 𝕄 :=
  iprop((∃ W, owes (c : Thread nD τ) (owed0 c) W)
    ∗ (dutyTok ER (cBar (partner c)) 0 0 ∗ dutyTok ER (cBar (ringL c)) 0 1 ∗ dutyTok ER (cBar (ringR c)) 0 2)
    ∗ SlotsX c ∗ SlotsR c ∗ cred (tallyAt (cBar c) 1 3) ∗ atPos ER (cBar c) 0 ∅ 0
    ∗ ChX c 0 0 0 0 0 ∗ ChR c 0 0 0 0 0 0 ∗ ChR c 1 0 0 0 0 0)

theorem KX_zero (c : Dev nD) : (KX c 0 : sProp 𝕄) = iprop(emp) := by unfold KX; rw [Finset.range_zero, bigSep_empty]; rfl
theorem KR_zero (c : Dev nD) (h : Fin 2) : (KR c h 0 : sProp 𝕄) = iprop(emp) := by unfold KR; rw [Finset.range_zero, bigSep_empty]; rfl

/-- The rows at the start: a device's own, and those it sends. -/
theorem O_all (c : Dev nD) (q) (f : OBuf F) :
    (O c (fun _ => True) q f : sProp 𝕄) ⊣⊢ iprop(O c (fun r => own c r ∧ 0 ≤ pos c r) q f ∗ O c (fun r => ¬ own c r ∧ 0 ≤ pos c r) q f) :=
  O_split c q f (fun n _ => by
      by_cases ho : own c n
      · exact ⟨fun _ => Or.inl ⟨ho, Nat.zero_le _⟩, fun _ => trivial⟩
      · exact ⟨fun _ => Or.inr ⟨ho, Nat.zero_le _⟩, fun _ => trivial⟩)
    (fun n _ h => h.2.1 h.1.1)

/-- The start. -/
theorem m_opening (c : Dev nD) {α : Type} (k : PUnit → KProg F α) (Q : α → sProp 𝕄) :
    iprop(Ctx I K Kk ∗ StI c ∗ O c (fun _ => True) fullShare (I.Y c))
      ⊢ iprop(((St0 I c ∗ atPos ER (cBar c) 1 ∅ 0) -∗ WP c (k ⟨⟩) Q) -∗ WP c (opening c >>= k) Q) := by
  unfold StI St0 opening
  iintro ⟨#HC, ⟨HO, ⟨Ht0, Ht1, Ht2⟩, HSX, HSR, Hc, Hat, HX, HR0, HR1⟩, Hm⟩ Hk
  simp only [Prog.bind_assoc]
  iapply (m_barrier I K Kk c) $$ [HO Ht0 Ht1 Ht2 HSX HSR Hc Hat]
  · isplitr; · iexact HC
    isplitl [HO]; · iexact HO
    isplitl [Ht0]; · iexact Ht0
    isplitl [Ht1]; · iexact Ht1
    isplitl [Ht2]; · iexact Ht2
    isplitl [HSX]; · iexact HSX
    isplitl [HSR]; · iexact HSR
    isplitl [Hc]; · iexact Hc
    iexact Hat
  iintro ⟨HO, Hat, HSX, HSR⟩
  unfold SlotsX SlotsR
  icases HSX with ⟨HSX0, HSX1⟩
  icases HSR with ⟨⟨HS00, HS01⟩, ⟨HS10, HS11⟩⟩
  ihave Hs := (O_all c fullShare _).1 $$ Hm
  icases Hs with ⟨Hown, Hoth⟩
  ihave Hs := (O_from c (own c) (pos c) 0 fullShare _).1 $$ Hown
  icases Hs with ⟨Hb, Hown⟩
  ihave Hs := (O_from c (fun r => ¬ own c r) (pos c) 0 fullShare _).1 $$ Hoth
  icases Hs with ⟨Hx0, Hoth⟩
  ihave Hs := (O_from c (fun r => ¬ own c r) (pos c) 1 fullShare _).1 $$ Hoth
  icases Hs with ⟨Hx1, Hoth⟩
  iapply (xs_first I K Kk c 0 (by omega) _ 0 0 0 0 (two (0) (0)) (two (0) (0))) $$ [HO HX Hx0 HSX0]
  · isplitr; · iexact HC
    isplitl [HO]; · iexact HO
    isplitl [HX]; · iexact HX
    isplitl [Hx0]; · iexact Hx0
    iexact HSX0
  iintro ⟨HO, HX⟩
  iapply (xs_first I K Kk c 1 (by omega) _ 0 0 0 0 (two (0) (0)) (two (0) (0))) $$ [HO HX Hx1 HSX1]
  · isplitr; · iexact HC
    isplitl [HO]; · iexact HO
    isplitl [HX]; · iexact HX
    isplitl [Hx1]; · iexact Hx1
    iexact HSX1
  iintro ⟨HO, HX⟩
  ihave HK := (Entails.of_eq (KX_zero (F := F) c).symm) $$ []
  · iempintro
  iapply (m_xfin I K Kk c 0 _ 2 0 0 2 (two (0) (0)) (two (0) (0)) (above2 (by omega) (by omega) (by omega) (by omega) (by omega) (by omega)) (I.Y c) (I.W 0 c) (fun _ _ => rfl)) $$ [HO HX HK Hb]
  · isplitr; · iexact HC
    isplitl [HO]; · iexact HO
    isplitl [HX]; · iexact HX
    isplitl [HK]; · iexact HK
    iexact Hb
  iintro ⟨HO, HX, HK, Hb, HL⟩
  ihave Hs := (O_halves c 0 fullShare _).1 $$ Hb
  icases Hs with ⟨H0, H1⟩
  iapply (rs_first I K Kk 0 c 0 (by omega) _ 0 0 0 2 1 (two (0) (0)) (two (0) (0)) rfl) $$ [HO HR0 H0 HS00]
  · isplitr; · iexact HC
    isplitl [HO]; · iexact HO
    isplitl [HR0]; · iexact HR0
    isplitl [H0]; · iexact H0
    iexact HS00
  rw [up_two0]
  iintro ⟨HO, HR0⟩
  iapply (rs_first I K Kk 1 c 0 (by omega) _ 0 0 0 2 1 (two (1) (0)) (two (0) (0)) rfl) $$ [HO HR1 H1 HS10]
  · isplitr; · iexact HC
    isplitl [HO]; · iexact HO
    isplitl [HR1]; · iexact HR1
    isplitl [H1]; · iexact H1
    iexact HS10
  rw [up_two1]
  iintro ⟨HO, HR1⟩
  iapply Hk
  isplitr [Hat]
  swap
  · iexact Hat
  isplitl [HO]; · iexact HO
  isplitl [HX]; · iexact HX
  isplitl [HR0]; · iexact HR0
  isplitl [HR1]; · iexact HR1
  isplitl [HK]; · iexact HK
  rw [KR_zero, KR_zero]
  isplitr; · iempintro
  isplitr; · iempintro
  isplitl [HS01]; · iexact HS01
  isplitl [HS11]; · iexact HS11
  isplitl [Hown]; · iexact Hown
  isplitl [Hoth]; · iexact Hoth
  iapply (O_below (partner c) (own c) (pos c) 0 fullShare _).2
  isplitr
  · rw [O_none _ fullShare _ (fun _ _ h => absurd h.2 (Nat.not_lt_zero _))]; iempintro
  iexact HL

/-- Everything after the local product. -/
theorem m_rounds (c : Dev nD) {α : Type} (k : PUnit → KProg F α) (Q : α → sProp 𝕄) :
    iprop(Ctx I K Kk ∗ StI c ∗ O c (fun _ => True) fullShare (I.Y c))
      ⊢ iprop(((StZ I c ∗ atPos ER (cBar c) 1 ∅ 0) -∗ WP c (k ⟨⟩) Q) -∗ WP c (rounds c (I.sc c) >>= k) Q) := by
  unfold rounds
  iintro ⟨#HC, HS, Hm⟩ Hk
  simp only [Prog.bind_assoc]
  iapply (m_opening I K Kk c) $$ [HS Hm]
  · isplitr; · iexact HC
    isplitl [HS]; · iexact HS
    iexact Hm
  iintro ⟨HS, Hat⟩
  iapply (it0 I K Kk c) $$ [HS]
  · isplitr; · iexact HC
    iexact HS
  iintro HS
  iapply (itsR I K Kk c 13 (le_refl 13)) $$ [HS]
  · isplitr; · iexact HC
    iexact HS
  iintro HS
  iapply (it14 I K Kk c) $$ [HS]
  · isplitr; · iexact HC
    iexact HS
  iintro HS
  iapply (it15 I K Kk c) $$ [HS]
  · isplitr; · iexact HC
    iexact HS
  iintro HS
  iapply (itsG I K Kk c 13 (le_refl 13)) $$ [HS]
  · isplitr; · iexact HC
    iexact HS
  iintro HS
  iapply (it29 I K Kk c) $$ [HS]
  · isplitr; · iexact HC
    iexact HS
  iintro HS
  iapply (itZ I K Kk c) $$ [HS]
  · isplitr; · iexact HC
    iexact HS
  iintro HS
  iapply Hk
  isplitl [HS]; · iexact HS
  iexact Hat

/-! ## The local product -/

/-- One chunk. -/
theorem m_gemm (c : Dev nD) (j : ℕ) (hj : j < 32) (f : OBuf F) {α : Type} (k : PUnit → KProg F α) (Q : α → sProp 𝕄) :
    iprop(((c : Thread nD τ).loc cc0_stg0_0 ↦{fullShare} I.x c) ∗ ((c : Thread nD τ).loc cc0_stg1_0 ↦{fullShare} I.w c) ∗ O c (fun r => r / 128 = j) fullShare f)
      ⊢ iprop(((((c : Thread nD τ).loc cc0_stg0_0 ↦{fullShare} I.x c) ∗ ((c : Thread nD τ).loc cc0_stg1_0 ↦{fullShare} I.w c) ∗ O c (fun r => r / 128 = j) fullShare (I.Y c)) -∗ WP c (k ⟨⟩) Q)
        -∗ WP c (gemm j hj >>= k) Q) := by
  unfold gemm
  simp only [Prog.lift, Prog.bind_op, Prog.bind_ret]
  rw [O_rOj c j hj, O_rOj c j hj]
  iintro ⟨Hx, Hw, HO⟩ Hk
  iapply (wp_load 𝒱₀ (c : Thread nD τ) none Set.univ (m := bX) (S := Finset.univ) (q := fullShare) (f := I.x c) (Finset.subset_univ _)) $$ Hx
  iintro Hx
  iapply (wp_load 𝒱₀ (c : Thread nD τ) none Set.univ (m := bW) (S := Finset.univ) (q := fullShare) (f := I.w c) (Finset.subset_univ _)) $$ Hw
  iintro Hw
  iapply (loadO c (rOj j hj) fullShare f) $$ HO
  iintro HO
  iapply (storeO c (rOj j hj) f (I.Y c) _ (fun i hi => gemm_on I c j hj f i hi)) $$ HO
  iintro HO
  iapply Hk
  isplitl [Hx]; · iexact Hx
  isplitl [Hw]; · iexact Hw
  iexact HO

/-- All chunks from `32 - n` on. -/
theorem m_gemms (c : Dev nD) (f : OBuf F) : ∀ (n : ℕ) (hn : n ≤ 32) {α : Type} (k : PUnit → KProg F α) (Q : α → sProp 𝕄),
    iprop(((c : Thread nD τ).loc cc0_stg0_0 ↦{fullShare} I.x c) ∗ ((c : Thread nD τ).loc cc0_stg1_0 ↦{fullShare} I.w c)
        ∗ O c (fun r => True ∧ r / 128 < 32 - n) fullShare (I.Y c) ∗ O c (fun r => True ∧ 32 - n ≤ r / 128) fullShare f)
      ⊢ iprop(((((c : Thread nD τ).loc cc0_stg0_0 ↦{fullShare} I.x c) ∗ ((c : Thread nD τ).loc cc0_stg1_0 ↦{fullShare} I.w c) ∗ O c (fun _ => True) fullShare (I.Y c)) -∗ WP c (k ⟨⟩) Q)
        -∗ WP c (gemms n hn >>= k) Q)
  | 0, _, _, k, Q => by
      iintro ⟨Hx, Hw, HY, -⟩ Hk
      iapply Hk
      isplitl [Hx]; · iexact Hx
      isplitl [Hw]; · iexact Hw
      iapply (Entails.of_eq (O_iff c (p := fun r => True ∧ r / 128 < 32 - 0) (p' := fun _ => True)
        (fun r hr => ⟨fun _ => trivial, fun _ => ⟨trivial, by omega⟩⟩) fullShare (I.Y c))) $$ HY
  | n + 1, hn, _, k, Q => by
      unfold gemms
      rw [Prog.bind_assoc]
      have e : 32 - n = 31 - n + 1 := by omega
      have e' : 32 - (n + 1) = 31 - n := by omega
      have ih := m_gemms c f n (by omega) k Q
      rw [e] at ih
      rw [e']
      iintro ⟨Hx, Hw, HY, Hf⟩ Hk
      ihave Hs := (O_from c (fun _ => True) (fun r => r / 128) (31 - n) fullShare f).1 $$ Hf
      icases Hs with ⟨Hj, Hf⟩
      ihave Hj' := (Entails.of_eq (O_iff c (p := fun r => True ∧ r / 128 = 31 - n) (p' := fun r => r / 128 = 31 - n)
        (fun r hr => ⟨fun h => h.2, fun h => ⟨trivial, h⟩⟩) fullShare f)) $$ Hj
      iapply (m_gemm I c (31 - n) _ f) $$ [Hx Hw Hj']
      · isplitl [Hx]; · iexact Hx
        isplitl [Hw]; · iexact Hw
        iexact Hj'
      iintro ⟨Hx, Hw, Hj⟩
      ihave Hj' := (Entails.of_eq (O_iff c (p := fun r => r / 128 = 31 - n) (p' := fun r => True ∧ r / 128 = 31 - n)
        (fun r hr => ⟨fun h => ⟨trivial, h⟩, fun h => h.2⟩) fullShare (I.Y c))) $$ Hj
      iapply ih $$ [Hx Hw HY Hj' Hf]
      · isplitl [Hx]; · iexact Hx
        isplitl [Hw]; · iexact Hw
        isplitl [HY Hj']
        · iapply (O_below c (fun _ => True) (fun r => r / 128) (31 - n) fullShare (I.Y c)).2
          isplitl [HY]; · iexact HY
          iexact Hj'
        iexact Hf
      iexact Hk

/-! ## The whole body -/

/-- The staging buffers of a device: its inputs, and the output with any contents. -/
theorem m_body (c : Dev nD) (f : OBuf F) (Q : PUnit → sProp 𝕄) :
    iprop(Ctx I K Kk ∗ StI c
        ∗ (((c : Thread nD τ).loc cc0_stg0_0 ↦{fullShare} I.x c) ∗ ((c : Thread nD τ).loc cc0_stg1_0 ↦{fullShare} I.w c)
          ∗ ((c : Thread nD τ).loc cc0_stg2_0 ↦{fullShare} I.sx c) ∗ ((c : Thread nD τ).loc cc0_stg3_0 ↦{fullShare} I.sw c))
        ∗ O c (fun _ => True) fullShare f)
      ⊢ iprop(((StZ I c ∗ atPos ER (cBar c) 1 ∅ 0
        ∗ (((c : Thread nD τ).loc cc0_stg0_0 ↦{fullShare} I.x c) ∗ ((c : Thread nD τ).loc cc0_stg1_0 ↦{fullShare} I.w c)
          ∗ ((c : Thread nD τ).loc cc0_stg2_0 ↦{fullShare} I.sx c) ∗ ((c : Thread nD τ).loc cc0_stg3_0 ↦{fullShare} I.sw c))) -∗ Q ⟨⟩)
        -∗ WP c body Q) := by
  unfold body smemLoad smemLoadElt
  simp only [Prog.lift, Prog.bind_op, Prog.bind_ret, wp_deviceId]
  iintro ⟨#HC, HS, ⟨Hx, Hw, Hsx, Hsw⟩, HO⟩ Hk
  iapply (wp_load_rect 𝒱₀ (c : Thread nD τ) none Set.univ (m := bSx) (r := rSc) (S := Finset.univ) (q := fullShare) (f := I.sx c) (Finset.subset_univ _)) $$ Hsx
  iintro Hsx
  iapply (wp_load_rect 𝒱₀ (c : Thread nD τ) none Set.univ (m := bSw) (r := rSc) (S := Finset.univ) (q := fullShare) (f := I.sw c) (Finset.subset_univ _)) $$ Hsw
  iintro Hsw
  iapply (m_gemms I c f 32 (le_refl 32)) $$ [Hx Hw HO]
  · isplitl [Hx]; · iexact Hx
    isplitl [Hw]; · iexact Hw
    isplitr
    · rw [O_none c fullShare _ (fun _ _ h => absurd h.2 (Nat.not_lt_zero _))]; iempintro
    iapply (Entails.of_eq (O_iff c (p := fun _ => True) (p' := fun r => True ∧ 32 - 32 ≤ r / 128)
      (fun r hr => ⟨fun _ => ⟨trivial, Nat.zero_le _⟩, fun _ => trivial⟩) fullShare f)) $$ HO
  iintro ⟨Hx, Hw, HO⟩
  rw [← Prog.bind_pure (rounds c _)]
  iapply (m_rounds I K Kk c) $$ [HS HO]
  · isplitr; · iexact HC
    isplitl [HS]; · iexact HS
    iexact HO
  iintro ⟨HS, Hat⟩
  unfold WP
  rw [Prog.pure_eq_ret, wp_ret]
  imodintro
  iapply Hk
  isplitl [HS]; · iexact HS
  isplitl [Hat]; · iexact Hat
  isplitl [Hx]; · iexact Hx
  isplitl [Hw]; · iexact Hw
  isplitl [Hsx]; · iexact Hsx
  iexact Hsw

end Cert.KernelIdeal.Pf

end
-- ==== Proof.KI.Ends.lean ====
module

public import proofs.«01_k».proof.Proof.KI.Open

/-! What a device starts from and ends with, in terms of whole buffers and semaphores. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Fin 16 → ℕ) (Kk : Key → ℕ)

theorem fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The receive buffers -/

/-- Whole, at some contents. -/
abbrev Any (c : Dev nD) (b : Ref sig .tc) : sProp 𝕄 := iprop(∃ f : Buf (Elt F) ((c : Thread nD τ).loc b), ((c : Thread nD τ).loc b) ↦{fullShare} f)

/-- The elements of slot `n mod 2` of a buffer of two slots. -/
theorem mem_slot3 {A B : ℕ} (n : ℕ) (inb) (i : (Shape.mk 3 ![2, A, B] : Shape).Idx) :
    Iff (i ∈ (Rect.unit (s := (Shape.mk 3 ![2, A, B] : Shape)) ![n % 2, 0, 0] ![1, A, B] inb).set) ((i 0).val = n % 2) := by
  rw [Rect.mem_set_unit]
  constructor
  · intro h
    have h1 : n % 2 ≤ (i 0).val ∧ (i 0).val < n % 2 + 1 := h 0
    omega
  · intro h b
    have h1 : (i 1).val < A := (i 1).isLt
    have h2 : (i 2).val < B := (i 2).isLt
    fin_cases b
    · show n % 2 ≤ (i 0).val ∧ (i 0).val < n % 2 + 1; omega
    · show 0 ≤ (i 1).val ∧ (i 1).val < 0 + A; omega
    · show 0 ≤ (i 2).val ∧ (i 2).val < 0 + B; omega

/-- Two slots make the buffer. -/
theorem slots_whole (ℓ : Loc nD τ sig) (S0 S1 : Finset (Idx ℓ)) (h0 : ∀ i, Iff (i ∈ S0) (i ∉ S1)) :
    (iprop(∃ f : Buf (Elt F) ℓ, ℓ ↦{fullShare} f) : sProp 𝕄) ⊣⊢ iprop(slot ℓ S0 ∗ slot ℓ S1) := by
  have hu : S0 ∪ S1 = Finset.univ := by
    ext i; rw [Finset.mem_union]; by_cases h : i ∈ S1 <;> simp [h, h0]
  have hd : Disjoint S0 S1 := Finset.disjoint_left.mpr fun i h1 h2 => (h0 i).mp h1 h2
  constructor
  · unfold slot
    iintro ⟨%f, H⟩
    ihave H' := ((Entails.of_eq (by rw [hu])).trans (pointsTo_union (f := f) (q := fullShare) hd).1) $$ H
    icases H' with ⟨H1, H2⟩
    isplitl [H1]
    · iexists f; iexact H1
    · iexists f; iexact H2
  · unfold slot
    iintro ⟨⟨%f, H1⟩, ⟨%g, H2⟩⟩
    ihave H := ((pointsTo_join (f := f) (g := g) (q := fullShare) hd).trans (Entails.of_eq (by rw [hu]))) $$ [H1 H2]
    · isplitl [H1] <;> iassumption
    iexists (S1.piecewise g f)
    iexact H

theorem set_C (n : ℕ) (i : S2x128x2048.Idx) : Iff (i ∈ (slotC n).view.set) ((i 0).val = n % 2) := by
  rw [show (slotC n).view.set = (Rect.unit (s := S2x128x2048) ![n % 2, 0, 0] S1x128x2048.size (inbC _ (par_lt n))).set from
    (View.set_reshape _ _).trans (View.set_slice_whole _ _)]
  exact mem_slot3 n (inbC _ (par_lt n)) i
theorem set_A (n : ℕ) (i : S2x64x2048.Idx) : Iff (i ∈ (slotR bA n).view.set) ((i 0).val = n % 2) := by
  rw [show (slotR bA n).view.set = (Rect.unit (s := S2x64x2048) ![n % 2, 0, 0] S1x64x2048.size (inbR _ (par_lt n))).set from
    (View.set_reshape _ _).trans (View.set_slice_whole _ _)]
  exact mem_slot3 n (inbR _ (par_lt n)) i
theorem set_B (n : ℕ) (i : S2x64x2048.Idx) : Iff (i ∈ (slotR bB n).view.set) ((i 0).val = n % 2) := by
  rw [show (slotR bB n).view.set = (Rect.unit (s := S2x64x2048) ![n % 2, 0, 0] S1x64x2048.size (inbR _ (par_lt n))).set from
    (View.set_reshape _ _).trans (View.set_slice_whole _ _)]
  exact mem_slot3 n (inbR _ (par_lt n)) i

theorem any_C (c : Dev nD) : (Any c cc0_scratch2 : sProp 𝕄) ⊣⊢ SlotsX c := by
  unfold SlotsX SlC
  exact slots_whole _ _ _ fun i => by
    have h : (i 0).val < 2 := (i 0).isLt
    have e0 := set_C 0 i; have e1 := set_C 1 i
    rw [e0, e1]; omega
theorem any_A (c : Dev nD) : (Any c cc0_scratch0 : sProp 𝕄) ⊣⊢ iprop(SlR c 0 0 ∗ SlR c 0 1) := by
  unfold SlR
  exact slots_whole _ _ _ fun i => by
    have h : (i 0).val < 2 := (i 0).isLt
    have e0 := set_A 0 i; have e1 := set_A 1 i
    refine e0.trans (Iff.trans ?_ (not_congr e1).symm)
    omega
theorem any_B (c : Dev nD) : (Any c cc0_scratch1 : sProp 𝕄) ⊣⊢ iprop(SlR c 1 0 ∗ SlR c 1 1) := by
  unfold SlR
  exact slots_whole _ _ _ fun i => by
    have h : (i 0).val < 2 := (i 0).isLt
    have e0 := set_B 0 i; have e1 := set_B 1 i
    refine e0.trans (Iff.trans ?_ (not_congr e1).symm)
    omega

theorem KX_end (c : Dev nD) : (KX c 16 : sProp 𝕄) ⊢ SlotsX c := by
  rw [KX_succ, KX_succ, if_pos (by decide), if_pos (by decide)]
  rw [show (SlC c 15 : sProp 𝕄) = SlC c 1 from by unfold SlC; rw [slotC_congr 15 1 rfl],
    show (SlC c 14 : sProp 𝕄) = SlC c 0 from by unfold SlC; rw [slotC_congr 14 0 rfl]]
  unfold SlotsX
  iintro ⟨H1, H0, -⟩
  isplitl [H0] <;> iassumption
theorem KR_end (c : Dev nD) (h : Fin 2) : (KR c h 15 : sProp 𝕄) ⊢ iprop(SlR c h 0 ∗ SlR c h 1) := by
  rw [KR_succ, KR_succ, if_pos (by decide), if_pos (by decide)]
  rw [show (SlR c h 14 : sProp 𝕄) = SlR c h 0 from by unfold SlR; rw [slotR_congr _ 14 0 rfl],
    show (SlR c h 13 : sProp 𝕄) = SlR c h 1 from by unfold SlR; rw [slotR_congr _ 13 1 rfl]]
  iintro ⟨H1, H0, -⟩
  isplitl [H1] <;> iassumption

/-- The three receive buffers, whole. -/
def scratch (c : Dev nD) : sProp 𝕄 := iprop(Any c cc0_scratch0 ∗ Any c cc0_scratch1 ∗ Any c cc0_scratch2)

theorem scratch_slots (c : Dev nD) : (scratch c : sProp 𝕄) ⊢ iprop(SlotsX c ∗ SlotsR c) := by
  unfold scratch SlotsR
  iintro ⟨HA, HB, HC⟩
  isplitl [HC]; · iapply (any_C c).1; iexact HC
  isplitl [HA]; · iapply (any_A c).1; iexact HA
  iapply (any_B c).1; iexact HB

theorem slots_scratch (c : Dev nD) : (iprop(KX c 16 ∗ KR c 0 15 ∗ KR c 1 15) : sProp 𝕄) ⊢ scratch c := by
  unfold scratch
  iintro ⟨HC, HA, HB⟩
  isplitl [HA]; · iapply (any_A c).2; iapply (KR_end c 0); iexact HA
  isplitl [HB]; · iapply (any_B c).2; iapply (KR_end c 1); iexact HB
  iapply (any_C c).2; iapply (KX_end c); iexact HC

/-! ## The output buffer -/

theorem O_whole (c : Dev nD) (f : OBuf F) : (O c (fun _ => True) fullShare f : sProp 𝕄) = (((c : Thread nD τ).loc cc0_stg4_0) ↦{fullShare} f) := by
  unfold O
  rw [show Rg (fun _ => True) = Finset.univ from by ext i; simp [mem_Rg]]

/-! ## The semaphores -/

/-- The rounds a semaphore goes through. -/
def lastRound (k : Fin 16) : ℕ := if k.val = 0 ∨ 13 ≤ k.val then 1 else if k.val < 5 then 16 else 15

/-- All sixteen at zero. -/
def zeros (c : Dev nD) : sProp 𝕄 := bigSep Finset.univ fun k : Fin 16 => semVal (kcell (c, k)) 0

theorem close_one (c : Dev nD) (k : Fin 16) :
    iprop(Ctx I K Kk ∗ atPos ER (kcell (c, k)) (lastRound k) ∅ 0) ⊢ (|={Set.univ}=> semVal (kcell (c, k)) 0 : sProp 𝕄) := by
  iintro ⟨#HC, H⟩
  ihave HI' := (Ctx_cell I K Kk c k) $$ HC
  iapply (Rounds.cell_close ER (sched I) (Set.mem_univ (K (c, k))) (fun h => h) (R := lastRound k)
    (fun r hr => dut_late I c k r (lastRound k) hr (by unfold lastRound; split_ifs <;> omega))) $$ [H]
  isplitr; · iexact HI'
  iexact H

theorem close_all (c : Dev nD) :
    iprop(Ctx I K Kk ∗ bigSep Finset.univ fun k : Fin 16 => atPos ER (kcell (c, k)) (lastRound k) ∅ 0) ⊢ (|={Set.univ}=> zeros c : sProp 𝕄) :=
  (bigSep_with_persistent (R := Ctx I K Kk) (Ψ := fun k : Fin 16 => iprop(|={Set.univ}=> semVal (kcell (c, k)) 0)) fun k _ => close_one I K Kk c k).trans (bigSep_fupd _ _)

/-- Where the sixteen stand when everything has been done. -/
theorem ends_pos (c : Dev nD) :
    iprop(ChX c 32 32 32 32 32 ∗ ChR c 0 30 30 30 30 30 ∗ ChR c 1 30 30 30 30 30 ∗ atPos ER (cBar c) 1 ∅ 0)
      ⊢ (bigSep Finset.univ fun k : Fin 16 => atPos ER (kcell (c, k)) (lastRound k) ∅ 0 : sProp 𝕄) := by
  rw [fin16]
  unfold ChX ChR pXC' pRC' pXS pXR pRS pRR at0
  simp only [show ¬ (32 < 31) from by decide, show ¬ (30 < 29) from by decide, if_false]
  iintro ⟨⟨-, ⟨⟨⟨X1, -⟩, ⟨X2, -⟩⟩, -⟩, ⟨⟨⟨X3, -⟩, ⟨X4, -⟩⟩, -⟩, ⟨X13, -⟩, -⟩,
    ⟨-, ⟨⟨⟨X5, -⟩, ⟨X6, -⟩⟩, -⟩, ⟨⟨⟨X9, -⟩, ⟨X10, -⟩⟩, -⟩, ⟨X14, -⟩, -⟩,
    ⟨-, ⟨⟨⟨X7, -⟩, ⟨X8, -⟩⟩, -⟩, ⟨⟨⟨X11, -⟩, ⟨X12, -⟩⟩, -⟩, ⟨X15, -⟩, -⟩, X0⟩
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  isplitl [X10]; · iexact X10
  isplitl [X11]; · iexact X11
  isplitl [X12]; · iexact X12
  isplitl [X13]; · iexact X13
  isplitl [X14]; · iexact X14
  iexact X15

theorem owed_end (c : Dev nD) : owed c 32 32 (two 30 30) (two 30 30) = 0 := by
  unfold owed; simp [two]

/-- What a device starts from, beside its receive buffers and what it owes. -/
def Start (c : Dev nD) : sProp 𝕄 :=
  iprop((dutyTok ER (cBar (partner c)) 0 0 ∗ dutyTok ER (cBar (ringL c)) 0 1 ∗ dutyTok ER (cBar (ringR c)) 0 2)
    ∗ cred (tallyAt (cBar c) 1 3) ∗ atPos ER (cBar c) 0 ∅ 0 ∗ ChX c 0 0 0 0 0 ∗ ChR c 0 0 0 0 0 0 ∗ ChR c 1 0 0 0 0 0)

/-- The four inputs at a device. -/
def Ins (c : Dev nD) : sProp 𝕄 :=
  iprop(((c : Thread nD τ).loc cc0_stg0_0 ↦{fullShare} I.x c) ∗ ((c : Thread nD τ).loc cc0_stg1_0 ↦{fullShare} I.w c)
    ∗ ((c : Thread nD τ).loc cc0_stg2_0 ↦{fullShare} I.sx c) ∗ ((c : Thread nD τ).loc cc0_stg3_0 ↦{fullShare} I.sw c))

/-- The whole body, from whole buffers to whole buffers, with every semaphore back at zero. -/
theorem body_whole (c : Dev nD) (f : OBuf F) (W : Waits sig ℕ) (Q : PUnit → sProp 𝕄) :
    iprop(Ctx I K Kk ∗ Start c ∗ scratch c ∗ owes (c : Thread nD τ) (owed0 c) W ∗ Ins I c ∗ ((c : Thread nD τ).loc cc0_stg4_0 ↦{fullShare} f))
      ⊢ iprop(((scratch c ∗ zeros c ∗ (∃ W, owes (c : Thread nD τ) 0 W) ∗ Ins I c ∗ ((c : Thread nD τ).loc cc0_stg4_0 ↦{fullShare} I.OUT)) -∗ Q ⟨⟩)
        -∗ WP c body Q) := by
  rw [← O_whole, ← O_whole]
  unfold Start Ins
  iintro ⟨#HC, ⟨Htok, Hcr, Hat, HX, HR0, HR1⟩, Hscr, HO, Hin, Hout⟩ Hk
  ihave Hs := (scratch_slots c) $$ Hscr
  icases Hs with ⟨HsX, HsR⟩
  unfold WP
  iapply wp_fupd
  iapply (m_body I K Kk c f (fun _ => iprop(|={Set.univ}=> Q ⟨⟩))) $$ [Htok Hcr Hat HX HR0 HR1 HsX HsR HO Hin Hout]
  · isplitr; · iexact HC
    isplitr [Hin Hout]
    · unfold StI
      isplitl [HO]; · iexists W; iexact HO
      isplitl [Htok]; · iexact Htok
      isplitl [HsX]; · iexact HsX
      isplitl [HsR]; · iexact HsR
      isplitl [Hcr]; · iexact Hcr
      isplitl [Hat]; · iexact Hat
      isplitl [HX]; · iexact HX
      isplitl [HR0] <;> iassumption
    isplitl [Hin]; · iexact Hin
    iexact Hout
  unfold StZ Ow
  rw [owed_end]
  iintro ⟨⟨HO, HX, HR0, HR1, HKX, HK0, HK1, Hout⟩, Hat, Hin⟩
  ihave Hp := (ends_pos c) $$ [HX HR0 HR1 Hat]
  · isplitl [HX]; · iexact HX
    isplitl [HR0]; · iexact HR0
    isplitl [HR1]; · iexact HR1
    iexact Hat
  imod (close_all I K Kk c) $$ [Hp] with Hz
  · isplitr; · iexact HC
    iexact Hp
  imodintro
  iapply Hk
  isplitl [HKX HK0 HK1]
  · iapply (slots_scratch c)
    isplitl [HKX]; · iexact HKX
    isplitl [HK0] <;> iassumption
  isplitl [Hz]; · iexact Hz
  isplitl [HO]; · iexact HO
  isplitl [Hin]; · iexact Hin
  iexact Hout

end Cert.KernelIdeal.Pf

end
-- ==== Proof.KI.Deal.lean ====
module

public import proofs.«01_k».proof.Proof.KI.Ends

/-! What is dealt at the launch: the duty tokens, the readers and writers of the receive slots, and the credits. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem sub_big {J : Type} [DecidableEq J] {s t : Finset J} (Φ : J → sProp 𝕄) (h : t ⊆ s) : bigSep s Φ ⊢ bigSep t Φ := bigSep_subset h
theorem mono_big {J : Type} {s : Finset J} {Φ Ψ : J → sProp 𝕄} (h : ∀ i ∈ s, Φ i ⊢ Ψ i) : bigSep s Φ ⊢ bigSep s Ψ := bigSep_mono h
theorem prod_big {J J' : Type} (s : Finset J) (t : Finset J') (Φ : J × J' → sProp 𝕄) :
    bigSep (s ×ˢ t) Φ = bigSep s fun i => bigSep t fun j => Φ (i, j) := by
  classical
  induction s using Finset.induction_on with
  | empty => rw [Finset.empty_product]; rfl
  | insert a s ha ih =>
    have hd : Disjoint (({a} : Finset J) ×ˢ t) (s ×ˢ t) := by
      rw [Finset.disjoint_left]; rintro ⟨i, j⟩ h1 h2
      exact ha (Finset.mem_singleton.mp (Finset.mem_product.mp h1).1 ▸ (Finset.mem_product.mp h2).1)
    rw [Finset.insert_eq, Finset.union_product, bigSep_union hd, ih, ← Finset.insert_eq, bigSep_insert ha, Finset.singleton_product, bigSep_map]
    rfl

theorem fin3 (Φ : Fin 3 → sProp 𝕄) : bigSep Finset.univ Φ = iprop(Φ 0 ∗ Φ 1 ∗ Φ 2) := bigSep_univ_eq_bigSepL [0, 1, 2] (by decide) (by decide) Φ
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## The neighbours are a rearrangement of the devices -/

def eP : Dev nD ≃ Dev nD := ⟨partner, partner, partner_partner, partner_partner⟩
def eR : Dev nD ≃ Dev nD := ⟨ringR, ringL, ringL_ringR, ringR_ringL⟩
theorem by_partner (Φ : Dev nD → sProp 𝕄) : bigSep Finset.univ Φ = bigSep Finset.univ fun c => Φ (partner c) := bigSep_univ_equiv eP Φ
theorem by_ringR (Φ : Dev nD → sProp 𝕄) : bigSep Finset.univ Φ = bigSep Finset.univ fun c => Φ (ringR c) := bigSep_univ_equiv eR Φ
theorem by_ringL (Φ : Dev nD → sProp 𝕄) : bigSep Finset.univ Φ = bigSep Finset.univ fun c => Φ (ringL c) := bigSep_univ_equiv eR.symm Φ

/-! ## The duty tokens -/

/-- The duties of a device's semaphores: the barrier's; transfers to the partner leaving and arriving; transfers round
    the ring leaving and arriving, in each half; the credits from the partner and from the ring, in each half. -/
def tok (x : Dev nD × Fin 10 × ℕ) : GSem nD τ sig × ℕ × ℕ :=
  match x.2.1 with
  | 0 => (cBar x.1, 0, x.2.2)
  | 1 => (cXS x.1 x.2.2, x.2.2 / 2, 0)
  | 2 => (cXR x.1 x.2.2, x.2.2 / 2, 0)
  | 3 => (cRS x.1 0 x.2.2, x.2.2 / 2, 0)
  | 4 => (cRS x.1 1 x.2.2, x.2.2 / 2, 0)
  | 5 => (cRR x.1 0 x.2.2, x.2.2 / 2, 0)
  | 6 => (cRR x.1 1 x.2.2, x.2.2 / 2, 0)
  | 7 => (cXC x.1, 0, x.2.2)
  | 8 => (cRC x.1 0, 0, x.2.2)
  | 9 => (cRC x.1 1, 0, x.2.2)

/-- Which duty of which device a token is for. -/
def untok (t : GSem nD τ sig × ℕ × ℕ) : Dev nD × Fin 10 × ℕ :=
  let k := kd t.1.2
  (t.1.1.1,
    if k = 0 then 0 else if k < 3 then 1 else if k < 5 then 2 else if k < 7 then 3 else if k < 9 then 4 else if k < 11 then 5
      else if k < 13 then 6 else if k = 13 then 7 else if k = 14 then 8 else 9,
    if k = 0 ∨ 13 ≤ k then t.2.2 else 2 * t.2.1 + (k - 1) % 2)

theorem untok_at (c : Dev nD) (k : Fin 16) (r d : ℕ) : untok (kcell (c, k), r, d) = (c,
    if k.val = 0 then 0 else if k.val < 3 then 1 else if k.val < 5 then 2 else if k.val < 7 then 3 else if k.val < 9 then 4 else if k.val < 11 then 5
      else if k.val < 13 then 6 else if k.val = 13 then 7 else if k.val = 14 then 8 else 9,
    if k.val = 0 ∨ 13 ≤ k.val then d else 2 * r + (k.val - 1) % 2) := by
  unfold untok
  rw [show kd (kcell (c, k), r, d).1.2 = k.val from kd_csem k]

theorem untok_tok : Function.LeftInverse untok tok := by
  rintro ⟨c, j, m⟩
  have h2 := Nat.mod_lt m (show 0 < 2 by decide)
  fin_cases j
  · exact (untok_at c 0 0 m).trans rfl
  · refine (untok_at c (kXS m) (m / 2) 0).trans ?_
    unfold kXS
    simp only
    rw [if_neg (by omega), if_pos (by omega), if_neg (by omega), show 2 * (m / 2) + (1 + m % 2 - 1) % 2 = m by omega]; rfl
  · refine (untok_at c (kXR m) (m / 2) 0).trans ?_
    unfold kXR
    simp only
    rw [if_neg (by omega), if_neg (by omega), if_pos (by omega), if_neg (by omega), show 2 * (m / 2) + (3 + m % 2 - 1) % 2 = m by omega]; rfl
  · refine (untok_at c (kRS 0 m) (m / 2) 0).trans ?_
    unfold kRS
    simp only [Fin.val_zero, Nat.mul_zero]
    rw [if_neg (by omega), if_neg (by omega), if_neg (by omega), if_pos (by omega), if_neg (by omega), show 2 * (m / 2) + (5 + 0 + m % 2 - 1) % 2 = m by omega]; rfl
  · refine (untok_at c (kRS 1 m) (m / 2) 0).trans ?_
    unfold kRS
    simp only [Fin.val_one, Nat.mul_one]
    rw [if_neg (by omega), if_neg (by omega), if_neg (by omega), if_neg (by omega), if_pos (by omega), if_neg (by omega), show 2 * (m / 2) + (5 + 2 + m % 2 - 1) % 2 = m by omega]; rfl
  · refine (untok_at c (kRR 0 m) (m / 2) 0).trans ?_
    unfold kRR
    simp only [Fin.val_zero, Nat.mul_zero]
    rw [if_neg (by omega), if_neg (by omega), if_neg (by omega), if_neg (by omega), if_neg (by omega), if_pos (by omega), if_neg (by omega),
      show 2 * (m / 2) + (9 + 0 + m % 2 - 1) % 2 = m by omega]; rfl
  · refine (untok_at c (kRR 1 m) (m / 2) 0).trans ?_
    unfold kRR
    simp only [Fin.val_one, Nat.mul_one]
    rw [if_neg (by omega), if_neg (by omega), if_neg (by omega), if_neg (by omega), if_neg (by omega), if_neg (by omega), if_pos (by omega), if_neg (by omega),
      show 2 * (m / 2) + (9 + 2 + m % 2 - 1) % 2 = m by omega]; rfl
  · exact (untok_at c 13 0 m).trans rfl
  · exact (untok_at c (kRC 0) 0 m).trans rfl
  · exact (untok_at c (kRC 1) 0 m).trans rfl

/-- The tokens minted, and those of one device's own semaphores. -/
def allToks : Finset (GSem nD τ sig × ℕ × ℕ) :=
  (Finset.univ ×ˢ (Finset.univ ×ˢ Finset.range 32)).map ⟨tok, untok_tok.injective⟩
def minted (c : Dev nD) : sProp 𝕄 :=
  bigSep Finset.univ fun j : Fin 10 => bigSep (Finset.range 32) fun m => dutyTok ER (tok (c, j, m)).1 (tok (c, j, m)).2.1 (tok (c, j, m)).2.2
theorem allToks_eq : bigSep allToks (fun x => (dutyTok ER x.1 x.2.1 x.2.2 : sProp 𝕄)) = bigSep Finset.univ minted := by
  unfold allToks
  rw [bigSep_map, prod_big]
  exact bigSep_congr fun c _ => by unfold minted; rw [prod_big]; rfl

def mB (c : Dev nD) (j : ℕ) : sProp 𝕄 := dutyTok ER (cBar c) 0 j
def mXS (c : Dev nD) : sProp 𝕄 := bigSep (Finset.Ico 0 32) fun m => dutyTok ER (cXS c m) (m / 2) 0
def mXR (c : Dev nD) : sProp 𝕄 := bigSep (Finset.Ico 0 32) fun m => dutyTok ER (cXR c m) (m / 2) 0
def mXC (c : Dev nD) : sProp 𝕄 := bigSep (Finset.Ico 0 32) fun m => dutyTok ER (cXC c) 0 m
def mRS (h : Fin 2) (c : Dev nD) : sProp 𝕄 := bigSep (Finset.Ico 0 30) fun m => dutyTok ER (cRS c h m) (m / 2) 0
def mRR (h : Fin 2) (c : Dev nD) : sProp 𝕄 := bigSep (Finset.Ico 0 30) fun m => dutyTok ER (cRR c h m) (m / 2) 0
def mRC (h : Fin 2) (c : Dev nD) : sProp 𝕄 := bigSep (Finset.Ico 0 30) fun m => dutyTok ER (cRC c h) 0 m

theorem less (Φ : ℕ → sProp 𝕄) (a N : ℕ) (h : a ≤ N) : bigSep (Finset.range N) Φ ⊢ bigSep (Finset.Ico 0 a) Φ :=
  sub_big _ fun i hi => Finset.mem_range.mpr ((Finset.mem_Ico.mp hi).2.trans_le h)

theorem bar_three (Φ : ℕ → sProp 𝕄) : bigSep (Finset.range 32) Φ ⊢ iprop(Φ 0 ∗ Φ 1 ∗ Φ 2) := by
  refine (sub_big (t := {0, 1, 2}) Φ (by decide)).trans (Entails.of_eq ?_)
  rw [bigSep_insert (by decide), bigSep_insert (by decide), bigSep_singleton]; rfl

theorem minted_split (c : Dev nD) : (minted c : sProp 𝕄) ⊢ iprop((mB c 0 ∗ mB c 1 ∗ mB c 2) ∗ (mXS c ∗ mXR c ∗ mXC c)
    ∗ (mRS 0 c ∗ mRR 0 c ∗ mRC 0 c) ∗ (mRS 1 c ∗ mRR 1 c ∗ mRC 1 c)) := by
  unfold minted mB mXS mXR mXC mRS mRR mRC
  rw [fin10]
  iintro ⟨H0, H1, H2, H3, H4, H5, H6, H7, H8, H9⟩
  isplitl [H0]
  · iapply (bar_three fun m => dutyTok ER (cBar c) 0 m); iexact H0
  isplitl [H1 H2 H7]
  · isplitl [H1]; · iapply (less (fun m => dutyTok ER (cXS c m) (m / 2) 0) 32 32 (by decide)); iexact H1
    isplitl [H2]; · iapply (less (fun m => dutyTok ER (cXR c m) (m / 2) 0) 32 32 (by decide)); iexact H2
    iapply (less (fun m => dutyTok ER (cXC c) 0 m) 32 32 (by decide)); iexact H7
  isplitl [H3 H5 H8]
  · isplitl [H3]; · iapply (less (fun m => dutyTok ER (cRS c 0 m) (m / 2) 0) 30 32 (by decide)); iexact H3
    isplitl [H5]; · iapply (less (fun m => dutyTok ER (cRR c 0 m) (m / 2) 0) 30 32 (by decide)); iexact H5
    iapply (less (fun m => dutyTok ER (cRC c 0) 0 m) 30 32 (by decide)); iexact H8
  isplitl [H4]; · iapply (less (fun m => dutyTok ER (cRS c 1 m) (m / 2) 0) 30 32 (by decide)); iexact H4
  isplitl [H6]; · iapply (less (fun m => dutyTok ER (cRR c 1 m) (m / 2) 0) 30 32 (by decide)); iexact H6
  iapply (less (fun m => dutyTok ER (cRC c 1) 0 m) 30 32 (by decide)); iexact H9

/-- The tokens of the duties a device pays. -/
def Toks (c : Dev nD) : sProp 𝕄 :=
  iprop((dutyTok ER (cBar (partner c)) 0 0 ∗ dutyTok ER (cBar (ringL c)) 0 1 ∗ dutyTok ER (cBar (ringR c)) 0 2)
    ∗ (tokX c 0 ∗ frX c 0) ∗ (tokR c 0 0 ∗ frR c 0 0) ∗ (tokR c 1 0 ∗ frR c 1 0))

theorem toks_dealt : (bigSep Finset.univ fun c : Dev nD => (minted c : sProp 𝕄)) ⊢ bigSep Finset.univ Toks := by
  refine (mono_big fun c _ => minted_split c).trans ?_
  simp only [bigSep_sep']
  rw [by_partner fun c => mB c 0, by_ringL fun c => mB c 1, by_ringR fun c => mB c 2, by_partner mXR, by_partner mXC,
    by_ringR (mRR 0), by_ringR (mRR 1), by_ringL (mRC 0), by_ringL (mRC 1)]
  unfold Toks tokX frX tokR frR mB mXS mXR mXC mRS mRR mRC
  simp only [bigSep_sep']
  iintro ⟨⟨B0, B1, B2⟩, ⟨XS, XR, XC⟩, ⟨RS0, RR0, RC0⟩, ⟨RS1, RR1, RC1⟩⟩
  isplitl [B0 B1 B2]
  · isplitl [B0]; · iexact B0
    isplitl [B1] <;> iassumption
  isplitl [XS XR XC]
  · isplitl [XS XR]
    · isplitl [XS] <;> iassumption
    iexact XC
  isplitl [RS0 RR0 RC0]
  · isplitl [RS0 RR0]
    · isplitl [RS0] <;> iassumption
    iexact RC0
  isplitl [RS1 RR1]
  · isplitl [RS1] <;> iassumption
  iexact RC1

/-! ## The readers and the writers of the receive slots -/

theorem Ico_shift (Φ : ℕ → sProp 𝕄) (a b : ℕ) :
    bigSep (Finset.range (a + b)) Φ = iprop(bigSep (Finset.Ico 0 b) (fun m => Φ (m + a)) ∗ bigSep (Finset.Ico 0 a) Φ) := by
  induction b with
  | zero => rw [bigSep_Ico_empty _ _ _ (le_refl 0), Nat.add_zero, Finset.range_eq_Ico]; exact (equiv_iff.mp emp_sep).symm
  | succ b ih =>
    rw [← Nat.add_assoc, bigSep_range_succ, ih, bigSep_Ico_top _ 0 b (Nat.zero_le b), Nat.add_comm a b]
    exact (BI.equiv_iff.mp ⟨BI.sep_assoc, BI.sep_assoc'⟩).symm

theorem writers (Φ : ℕ → sProp 𝕄) (b : ℕ) :
    bigSep (Finset.range b) Φ ⊢ bigSep (Finset.Ico 0 (2 + b)) (fun m => if 2 ≤ m then Φ (m - 2) else iprop(emp)) := by
  rw [← Finset.range_eq_Ico, Ico_shift, Finset.range_eq_Ico]
  iintro H
  isplitl [H]
  · iapply (Entails.of_eq (bigSep_congr fun m _ => by rw [if_pos (by omega), Nat.add_sub_cancel])); iexact H
  · rw [bigSep_Ico _ 0 2 (by decide), bigSep_Ico _ 1 2 (by decide), bigSep_Ico_empty _ 2 2 (by decide), if_neg (by decide), if_neg (by decide)]
    isplitl
    · iempintro
    isplitl <;> iempintro

def Rds (c : Dev nD) : sProp 𝕄 := iprop(rdX c 0 ∗ (rdR c 0 0 ∗ rdO c 0 0) ∗ (rdR c 1 0 ∗ rdO c 1 0))
def Wrs (c : Dev nD) : sProp 𝕄 := iprop(wrX c 0 ∗ wrR c 0 0 ∗ wrR c 1 0)

theorem readers_dealt : (bigSep allKeys fun k => (readerAt EK k 0 : sProp 𝕄)) ⊢ bigSep Finset.univ Rds := by
  unfold allKeys
  rw [prod_big]
  refine mono_big fun c _ => ?_
  rw [prod_big, fin3]
  unfold Rds rdX rdR rdO
  have hr (Φ : ℕ → sProp 𝕄) : bigSep (Finset.range 28) Φ ⊢ iprop(bigSep (Finset.Ico 0 13) Φ ∗ bigSep (Finset.Ico 0 15) fun m => Φ (m + 13)) := by
    rw [show (28 : ℕ) = 13 + 15 from rfl, Ico_shift]; exact sep_comm.1
  iintro ⟨H0, H1, H2⟩
  isplitl [H2]
  · iapply (less (fun m => readerAt EK (kyX c m) 0) 14 28 (by decide)); iexact H2
  isplitl [H0]
  · iapply (hr fun m => readerAt EK (kyR c 0 m) 0); iexact H0
  · iapply (hr fun m => readerAt EK (kyR c 1 m) 0); iexact H1

theorem writers_dealt : (bigSep (allKeys ×ˢ Finset.range 1) fun x => (writeTok EK x.1 (x.2 + 1) : sProp 𝕄)) ⊢ bigSep Finset.univ Wrs := by
  unfold allKeys
  have e : (bigSep ((Finset.univ ×ˢ Finset.univ ×ˢ Finset.range 28 : Finset Key) ×ˢ Finset.range 1) fun x => (writeTok EK x.1 (x.2 + 1) : sProp 𝕄))
      = bigSep Finset.univ fun c : Dev nD => iprop((bigSep (Finset.range 28) fun n => writeTok EK (kyR c 0 n) 1)
        ∗ (bigSep (Finset.range 28) fun n => writeTok EK (kyR c 1 n) 1) ∗ bigSep (Finset.range 28) fun n => writeTok EK (kyX c n) 1) := by
    rw [prod_big, prod_big]
    refine bigSep_congr fun c _ => ?_
    rw [prod_big, fin3]
    simp only [Finset.range_one, bigSep_singleton]; rfl
  rw [e]
  simp only [bigSep_sep']
  rw [by_ringR fun c => bigSep (Finset.range 28) fun n => writeTok EK (kyR c 0 n) 1, by_ringR fun c => bigSep (Finset.range 28) fun n => writeTok EK (kyR c 1 n) 1,
    by_partner fun c => bigSep (Finset.range 28) fun n => writeTok EK (kyX c n) 1]
  unfold Wrs
  simp only [bigSep_sep']
  iintro ⟨H0, H1, H2⟩
  isplitl [H2]
  · iapply (mono_big fun c _ => show _ ⊢ wrX c 0 from
      (writers (fun n => writeTok EK (kyX (partner c) n) 1) 28).trans (sub_big _ (fun i hi => Finset.mem_Ico.mpr ⟨Nat.zero_le _, (Finset.mem_Ico.mp hi).2.trans_le (by decide)⟩)))
    iexact H2
  isplitl [H0]
  · iapply (mono_big fun c _ => show _ ⊢ wrR c 0 0 from writers (fun n => writeTok EK (kyR (ringR c) 0 n) 1) 28)
    iexact H0
  · iapply (mono_big fun c _ => show _ ⊢ wrR c 1 0 from writers (fun n => writeTok EK (kyR (ringR c) 1 n) 1) 28)
    iexact H1

end Cert.KernelIdeal.Pf

end
-- ==== Proof.KI.Cred.lean ====
module

public import proofs.«01_k».proof.Proof.KI.Deal
public import Idealize.ShloMosaic.Lib.Pipeline.Launch

/-! The credits of the launch, and everything a device starts from. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- What is owed to device `c` at the launch. -/
def due (c : Dev nD) : CellTallies nD τ sig ℕ :=
  tallyAt (cBar c) 1 3 + (∑ m ∈ Finset.Ico 0 32, tallyAt (cXR c m) (m + 2) NX + ∑ m ∈ Finset.Ico 0 32, tallyAt (cXC c) (m + 3) 1)
    + (∑ m ∈ Finset.Ico 0 30, tallyAt (cRR c 0 m) (m + 3) NR + ∑ m ∈ Finset.Ico 0 30, tallyAt (cRC c 0) (m + 4) 1)
    + (∑ m ∈ Finset.Ico 0 30, tallyAt (cRR c 1 m) (m + 3) NR + ∑ m ∈ Finset.Ico 0 30, tallyAt (cRC c 1) (m + 4) 1)

theorem sum_partner (f : Dev nD → CellTallies nD τ sig ℕ) : ∑ c, f (partner c) = ∑ c, f c := Equiv.sum_comp eP f
theorem sum_ringR (f : Dev nD → CellTallies nD τ sig ℕ) : ∑ c, f (ringR c) = ∑ c, f c := Equiv.sum_comp eR f
theorem sum_ringL (f : Dev nD → CellTallies nD τ sig ℕ) : ∑ c, f (ringL c) = ∑ c, f c := Equiv.sum_comp eR.symm f

/-- All that is owed is owed to someone. -/
theorem sum_owed : ∑ d, owed0 d = ∑ c, due c := by
  unfold owed0 owed due tX tF tS tE
  simp only [two_0, two_1, Finset.sum_add_distrib]
  rw [sum_partner fun c => ∑ n ∈ Finset.Ico 0 32, tallyAt (cXR c n) (n + 2) NX, sum_partner fun c => ∑ n ∈ Finset.Ico 0 32, tallyAt (cXC c) (n + 3) 1,
    sum_ringR fun c => ∑ n ∈ Finset.Ico 0 30, tallyAt (cRR c 0 n) (n + 3) NR, sum_ringR fun c => ∑ n ∈ Finset.Ico 0 30, tallyAt (cRR c 1 n) (n + 3) NR,
    sum_ringL fun c => ∑ n ∈ Finset.Ico 0 30, tallyAt (cRC c 0) (n + 4) 1, sum_ringL fun c => ∑ n ∈ Finset.Ico 0 30, tallyAt (cRC c 1) (n + 4) 1,
    sum_ringR fun c => tallyAt (cBar c) 1 1, sum_ringL fun c => tallyAt (cBar c) 1 1, sum_partner fun c => tallyAt (cBar c) 1 1]
  have h3 : ∑ c : Dev nD, tallyAt (cBar c) 1 3 = ∑ c : Dev nD, tallyAt (cBar c) 1 1 + ∑ c : Dev nD, tallyAt (cBar c) 1 1 + ∑ c : Dev nD, (tallyAt (cBar c) 1 1 : CellTallies nD τ sig ℕ) := by
    rw [← Finset.sum_add_distrib, ← Finset.sum_add_distrib]
    exact Finset.sum_congr rfl fun c _ => by rw [tallyAt_add, tallyAt_add]
  rw [h3]
  abel

/-- It is owed at the device's own semaphores. -/
theorem due_off (c : Dev nD) (g : GSem nD τ sig) (h : g.1 ≠ (c : Thread nD τ)) : due c g = 0 := by
  have h0 (k : Fin 16) (i n : ℕ) : (tallyAt (kcell (c, k)) i n : CellTallies nD τ sig ℕ) g = 0 :=
    tallyAt_ne_cell (fun e => h (by rw [e])) _ _
  unfold due
  simp only [Pi.add_apply, Finset.sum_apply, h0, Finset.sum_const_zero, add_zero]

theorem due_of (c : Dev nD) (sm : SemLoc sig) : launchCredit (Pipeline.owing owed0) 0 ((c : Thread nD τ), sm) = due c ((c : Thread nD τ), sm) := by
  ext i
  rw [Pipeline.launchCredit_owing]
  have e : ∑ d, owed0 d ((c : Thread nD τ), sm) i = (∑ d, owed0 d) ((c : Thread nD τ), sm) i := by
    rw [Finset.sum_apply, Finsupp.finset_sum_apply]
  rw [e, sum_owed, Finset.sum_apply, Finset.sum_eq_single c (fun d _ hd => due_off d _ fun e => hd (congrArg Prod.fst e).symm) (fun h => absurd (Finset.mem_univ c) h)]

theorem due_sum (c : Dev nD) : ∑ sm : SemLoc sig, tallyOn ((c : Thread nD τ), sm) (due c ((c : Thread nD τ), sm)) = due c := by
  funext g
  rw [Finset.sum_apply]
  by_cases h : g.1 = (c : Thread nD τ)
  · have hg : g = ((c : Thread nD τ), g.2) := Prod.ext h rfl
    rw [Finset.sum_eq_single g.2 (fun sm _ hs => tallyOn_ne (fun e => hs (by rw [e])) _) (fun h => absurd (Finset.mem_univ _) h), ← hg, tallyOn_self]
  · rw [due_off c g h]
    exact Finset.sum_eq_zero fun sm _ => tallyOn_ne (fun e => h (by rw [e])) _

theorem cred_sums {J : Type} (s : Finset J) (f : J → CellTallies nD τ sig ℕ) : (cred (∑ i ∈ s, f i) : sProp 𝕄) = bigSep s fun i => cred (f i) := by
  classical
  induction s using Finset.induction_on with
  | empty => rw [Finset.sum_empty, bigSep_empty, cred_zero]; rfl
  | insert a s ha ih =>
    rw [Finset.sum_insert ha, bigSep_insert ha, ← ih]
    exact BI.equiv_iff.mp ⟨(cred_add _ _).1, (cred_add _ _).2⟩
theorem cred_plus (a b : CellTallies nD τ sig ℕ) : (cred (a + b) : sProp 𝕄) = iprop(cred a ∗ cred b) :=
  BI.equiv_iff.mp ⟨(cred_add _ _).1, (cred_add _ _).2⟩

/-- The credits a device waits for. -/
def Crs (c : Dev nD) : sProp 𝕄 :=
  iprop(((cred (tallyAt (cBar c) 1 3) ∗ (crX c 0 ∗ qrX c 0)) ∗ (crR c 0 0 ∗ qrR c 0 0)) ∗ (crR c 1 0 ∗ qrR c 1 0))

theorem creds (c : Dev nD) : (Pipeline.launchCred owed0 c : sProp 𝕄) = Crs c := by
  unfold Pipeline.launchCred
  rw [bigSep_congr (Ψ := fun sm => cred (tallyOn ((c : Thread nD τ), sm) (due c ((c : Thread nD τ), sm)))) (fun sm _ => by rw [due_of]),
    ← cred_sums, due_sum]
  unfold due Crs crX qrX crR qrR
  simp only [cred_plus, cred_sums]

/-- Every semaphore at the start of its first round. -/
def Pos (c : Dev nD) : sProp 𝕄 := bigSep Finset.univ fun k : Fin 16 => at0 (kcell (c, k)) 0

theorem start_of (c : Dev nD) : (iprop(Pos c ∗ Toks c ∗ Rds c ∗ Wrs c ∗ Crs c) : sProp 𝕄) ⊢ Start c := by
  unfold Pos Toks Rds Wrs Crs Start
  rw [fin16]
  iintro ⟨⟨X0, X1, X2, X3, X4, X5, X6, X7, X8, X9, X10, X11, X12, X13, X14, X15⟩, ⟨HB, ⟨HtX, HfX⟩, ⟨HtR, HfR⟩, ⟨HtS, HfS⟩⟩,
    ⟨HrX, ⟨HrR, HrO⟩, ⟨HrS, HrP⟩⟩, ⟨HwX, HwR, HwS⟩, ⟨⟨⟨HcB, ⟨HcX, HqX⟩⟩, ⟨HcR, HqR⟩⟩, ⟨HcS, HqS⟩⟩⟩
  isplitl [HB]; · iexact HB
  isplitl [HcB]; · iexact HcB
  isplitl [X0]; · unfold at0; icases X0 with ⟨X0, -⟩; iexact X0
  isplitl [X1 X2 X3 X4 X13 HtX HfX HrX HwX HcX HqX]
  · unfold ChX pXS pXR pXC' pXC evX
    rw [if_pos (by decide), Finset.range_zero, bigSep_empty, bigSep_Ico_empty _ 0 0 (le_refl 0)]
    isplitl [HtX HwX]
    · isplitl [HtX] <;> iassumption
    isplitl [X1 X2]
    · isplitl
      · isplitl [X1]; · iexact X1
        iexact X2
      · iempintro
    isplitl [X3 X4 HcX]
    · isplitr [HcX]
      · isplitl [X3]; · iexact X3
        iexact X4
      · iexact HcX
    isplitl [X13 HqX]
    · isplitl [X13]
      · iexists ∅; isplitr; · (ipureintro; exact ⟨Finset.empty_subset _, Nat.zero_le _⟩)
        isplitl; · unfold at0; icases X13 with ⟨X, -⟩; iexact X
        rw [bigSep_empty]; iempintro
      · iexact HqX
    isplitl [HfX]; · iexact HfX
    isplitl [HrX]; · iexact HrX
    iempintro
  isplitl [X5 X6 X9 X10 X14 HtR HfR HrR HrO HwR HcR HqR]
  · unfold ChR pRS pRR pRC' pRC evR relO
    rw [if_pos (by decide), Finset.range_zero, bigSep_empty, bigSep_empty, bigSep_Ico_empty _ 0 0 (le_refl 0)]
    isplitl [HtR HwR]
    · isplitl [HtR] <;> iassumption
    isplitl [X5 X6]
    · isplitl
      · isplitl [X5]; · iexact X5
        iexact X6
      · iempintro
    isplitl [X9 X10 HcR]
    · isplitr [HcR]
      · isplitl [X9]; · iexact X9
        iexact X10
      · iexact HcR
    isplitl [X14 HqR]
    · isplitl [X14]
      · iexists ∅; isplitr; · (ipureintro; exact ⟨Finset.empty_subset _, Nat.zero_le _⟩)
        isplitl; · unfold at0; icases X14 with ⟨X, -⟩; iexact X
        rw [bigSep_empty]; iempintro
      · iexact HqR
    isplitl [HfR HrR]
    · isplitl [HfR]; · iexact HfR
      isplitl [HrR]; · iexact HrR
      iempintro
    isplitl [HrO]; · iexact HrO
    iempintro
  · unfold ChR pRS pRR pRC' pRC evR relO
    rw [if_pos (by decide), Finset.range_zero, bigSep_empty, bigSep_empty, bigSep_Ico_empty _ 0 0 (le_refl 0)]
    isplitl [HtS HwS]
    · isplitl [HtS] <;> iassumption
    isplitl [X7 X8]
    · isplitl
      · isplitl [X7]; · iexact X7
        iexact X8
      · iempintro
    isplitl [X11 X12 HcS]
    · isplitr [HcS]
      · isplitl [X11]; · iexact X11
        iexact X12
      · iexact HcS
    isplitl [X15 HqS]
    · isplitl [X15]
      · iexists ∅; isplitr; · (ipureintro; exact ⟨Finset.empty_subset _, Nat.zero_le _⟩)
        isplitl; · unfold at0; icases X15 with ⟨X, -⟩; iexact X
        rw [bigSep_empty]; iempintro
      · iexact HqS
    isplitl [HfS HrS]
    · isplitl [HfS]; · iexact HfS
      isplitl [HrS]; · iexact HrS
      iempintro
    isplitl [HrP]; · iexact HrP
    iempintro

end Cert.KernelIdeal.Pf

end
-- ==== Proof.KI.Body.lean ====
module

public import proofs.«01_k».proof.Proof.KI.Macros
public import proofs.«01_k».proof.Proof.Gen.KernelIdeal.Launch

/-! The printed body is the program of named steps. -/

@[expose] public section

noncomputable section

namespace Cert.KernelIdeal.Pf

open Idealize.ShloMosaic Idealize.ShloMosaic.TcCoe Idealize.SL.Sem Cert.KernelIdeal.Gen

variable {F : FTy → Type} [FloatOps F]

set_option maxRecDepth 1000000 in
theorem body_eq :
    cc0_body (F := F) bX (Memref.isWhole_whole _) bW (Memref.isWhole_whole _) bSx (Memref.isWhole_whole _) bSw (Memref.isWhole_whole _)
      bO (Memref.isWhole_whole _) bA (Memref.isWhole_whole _) bB (Memref.isWhole_whole _) bC (Memref.isWhole_whole _)
      cc0_scratch3 cc0_scratch4 cc0_scratch5 cc0_scratch6 cc0_scratch7 cc0_scratch8 cc0_scratch9 cc0_scratch10 cc0_scratch11 = body := by
  chain_rfl

end Cert.KernelIdeal.Pf

end
-- ==== Proof.KI.Obl.lean ====
module

public import proofs.«01_k».proof.Proof.KI.Ends
public import proofs.«01_k».proof.Proof.KI.Body
public import proofs.«01_k».proof.Proof.Gen.KernelIdeal.Points
public import Idealize.ShloMosaic.Lib.Pipeline.Launch

/-! The proof data of the launch, and the body meeting it. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ) (ρ : Dev nD → PrngReg)

/-- The memory a run starts from: any buffers, every counter at zero. -/
def s₀ : MemSt nD τ sig (Elt F) := ⟨m, fun _ => 0, ρ⟩

/-- The inputs a run starts from. -/
def inp : Inp F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-- What the body starts from and ends with. -/
def Φ₀ (c : Dev nD) : sProp 𝕄 := iprop((∃ K Kk, Ctx (inp m) K Kk ∗ Start c) ∗ scratch c)
def Φ₁ (c : Dev nD) : sProp 𝕄 := iprop(scratch c ∗ zeros c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).w c
    | ⟨2, _⟩ => (inp m).sx c
    | ⟨3, _⟩ => (inp m).sw c
    | ⟨4, _⟩ => (inp m).OUT
  Φ t := match t with
    | ⟨0, _⟩ => Φ₀ m c
    | ⟨_ + 1, _⟩ => Φ₁ c
  q _ := fullShare
  owed t := match t with
    | ⟨0, _⟩ => owed0 c
    | ⟨_ + 1, _⟩ => 0

theorem cfg0_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

/-- A staging buffer, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

theorem stg_out (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

def bodyPre (c : Dev nD) : sProp 𝕄 :=
  iprop(Φ₀ m c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt 0 t0_0.succ
    ∗ stg c cc0_stg0_0 ((inp m).x c) ∗ stg c cc0_stg1_0 ((inp m).w c) ∗ stg c cc0_stg2_0 ((inp m).sx c) ∗ stg c cc0_stg3_0 ((inp m).sw c)
    ∗ stg c cc0_stg4_0 (inp m).OUT)

theorem body_sound (c : Dev nD) : bodyPre m ρ c ⊢ WP c body fun _ => bodyPost m ρ c := by
  unfold bodyPre bodyPost Φ₀ Φ₁ Dat.owesAt Pipeline.owesWithin
  rw [show (dats m ρ 0 c).owed t0_0.castSucc = owed0 c from rfl, show (dats m ρ 0 c).owed t0_0.succ = 0 from rfl]
  iintro ⟨⟨⟨%K, %Kk, #HC, Hst⟩, Hscr⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩⟩
  have h0 : f0 = (inp m).x c := by rw [e0]; unfold Dat.before; rw [if_pos (fetch0_0 t0_0)]; rfl
  have h1 : f1 = (inp m).w c := by rw [e1]; unfold Dat.before; rw [if_pos (fetch0_1 t0_0)]; rfl
  have h2 : f2 = (inp m).sx c := by rw [e2]; unfold Dat.before; rw [if_pos (fetch0_2 t0_0)]; rfl
  have h3 : f3 = (inp m).sw c := by rw [e3]; unfold Dat.before; rw [if_pos (fetch0_3 t0_0)]; rfl
  subst h0 h1 h2 h3
  iapply (body_whole (inp m) K Kk c f4 W (fun _ => _)) $$ [Hst Hscr HO H0 H1 H2 H3 H4]
  · isplitr; · iexact HC
    isplitl [Hst]; · iexact Hst
    isplitl [Hscr]; · iexact Hscr
    isplitl [HO]; · iexact HO
    isplitr [H4]
    · unfold Ins
      isplitl [H0]; · iexact H0
      isplitl [H1]; · iexact H1
      isplitl [H2] <;> iassumption
    iexact H4
  unfold Ins
  iintro ⟨Hscr, Hz, ⟨%W', HO⟩, ⟨H0, H1, H2, H3⟩, H4⟩
  isplitl [Hscr Hz]
  · isplitl [Hscr] <;> iassumption
  isplitl [HO]
  · iexists W'; isplitr; · (ipureintro; exact fun _ _ => Or.inl trivial)
    iexact HO
  isplitl [H0]; · iapply (stg_out c cc0_stg0_0 _); iexact H0
  isplitl [H1]; · iapply (stg_out c cc0_stg1_0 _); iexact H1
  isplitl [H2]; · iapply (stg_out c cc0_stg2_0 _); iexact H2
  isplitl [H3]; · iapply (stg_out c cc0_stg3_0 _); iexact H3
  iapply (stg_out c cc0_stg4_0 _); iexact H4

set_option maxRecDepth 1000000 in
/-- The body obligation on device `c`. -/
theorem body_obligation (c : Dev nD) : BodyObligation (dats (F := F) m ρ 0 c) (defs₀ (F := F)) 𝒱₀ 0 Set.univ := fun t => by
  rw [fin_N0 t]
  rw [cfg0_W, cfg0_W]
  simp only [owns_stg]
  show bodyPre m ρ c ⊢ wp frame (wpE (defs₀ (F := F)) 𝒱₀ c none) Set.univ (bodyAt0 t0_0) (fun _ => bodyPost m ρ c)
  rw [show bodyAt0 (F := F) t0_0 = body from body_eq]
  exact body_sound m ρ c

end Cert.KernelIdeal.Pf

end
-- ==== Proof.KI.Launch.lean ====
module

public import proofs.«01_k».proof.Proof.KI.Cred
public import proofs.«01_k».proof.Proof.KI.Obl
public import Idealize.ShloMosaic.Lib.Pipeline.CollectiveSegs

/-! The launch: what every device is dealt, and the run of the whole program. -/

@[expose] public section

set_option maxRecDepth 20000

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ) (ρ : Dev nD → PrngReg)

/-! ## Semaphores and tokens -/

/-- The kernel's own fifteen semaphores. -/
abbrev osem (k : Fin 15) : SemLoc sig := csem k.succ

theorem ownSemFacts : Pipeline.OwnSemFacts cfg0.spec osem := by decide +kernel

theorem share_eq (c : Dev nD) (w : Fin cfg0.W) : (dats m ρ 0 c).share w = fullShare := by unfold Pipeline.Dat.share; split <;> rfl

theorem kcell_injective : Function.Injective (kcell : Dev nD × Fin 16 → GSem nD τ sig) := by
  rintro ⟨c, k⟩ ⟨c', k'⟩ h
  have h1 : c = c' := congrArg (fun g : GSem nD τ sig => g.1.1) h
  subst h1
  rw [csem_inj k k' (congrArg Prod.snd h)]
def allCells : Finset (GSem nD τ sig) := Finset.univ.map ⟨kcell, kcell_injective⟩

def u₀ : UU :=
  (initOf (Pipeline.cells cfgs cellOf_inj) (Pipeline.launchToks cfgs cellOf_inj), (initOf allCells allToks, initSlots allKeys 1))

/-- The counts of all slots, held at the launch by the first device. -/
def counts (c : Dev nD) : sProp 𝕄 := if c = 0 then BI.own (EK (initSlots allKeys 1)) else iprop(emp)
theorem counts_intro : (BI.own (EK (initSlots allKeys 1)) : sProp 𝕄) ⊢ bigSep Finset.univ counts := by
  have he : (bigSep (Finset.univ.erase (0 : Dev nD)) counts : sProp 𝕄) = iprop(emp) :=
    (bigSep_congr fun c hc => if_neg (Finset.ne_of_mem_erase hc)).trans (bigSep_emp_const _)
  rw [bigSep_univ_at _ (0 : Dev nD), he]
  unfold counts
  rw [if_pos rfl]
  iintro H
  isplitl [H]; · iexact H
  iempintro
theorem counts_elim : (bigSep Finset.univ counts : sProp 𝕄) ⊢ BI.own (EK (initSlots allKeys 1)) := by
  rw [bigSep_univ_at _ (0 : Dev nD)]
  unfold counts
  rw [if_pos rfl]
  iintro ⟨H, -⟩
  iexact H

def Rch (c : Dev nD) : sProp 𝕄 := bigSep Finset.univ fun k : Fin 16 => reached ER (kcell (c, k)) 0

/-- What the launch deals device `c`. -/
def G (c : Dev nD) : sProp 𝕄 :=
  iprop((bigSep Finset.univ fun k : Fin 16 => roundState ER (sched (inp m)) (kcell (c, k)) 0) ∗ Pos c ∗ Rch c ∗ minted c ∗ counts c)

/-- What all devices share, but for the levels. -/
def Rec (K : Dev nD × Fin 16 → ℕ) (Kk : Key → ℕ) : sProp 𝕄 :=
  iprop(bigSep Finset.univ (fun ck => cellInv ER (sched (inp m)) (K ck) (kcell ck))
    ∗ bigSep allKeys (fun k => slotInv EK (Kk k) k (keySlot k))
    ∗ bigSep Finset.univ (fun ck : Dev nD × Fin 16 => reached ER (kcell ck) 0))
instance Rec_persistent (K Kk) : BI.Persistent (Rec m K Kk) := by unfold Rec; infer_instance

/-- What device `c` holds once the invariants stand. -/
def G' (c : Dev nD) : sProp 𝕄 := iprop(∃ K Kk, Rec m K Kk ∗ Pos c ∗ Toks c ∗ Rds c ∗ Wrs c)

theorem fund : (BI.own (EQ (initOf allCells allToks, initSlots allKeys 1)) : sProp 𝕄) ⊢ |==> bigSep Finset.univ (G m) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  iintro HX
  ihave H := (own_pair_emb EQ _ _) $$ HX
  icases H with ⟨HR, HK⟩
  imod (Rounds.fund ER (sched (inp m)) allCells allToks) $$ HR with ⟨Hst, #Hr, Hat, Htok⟩
  imodintro
  ihave Hst' := (Entails.of_eq (hX fun g => roundState ER (sched (inp m)) g 0)) $$ Hst
  ihave Hat' := (Entails.of_eq (hX fun g => atPos ER g 0 ∅ 0)) $$ Hat
  ihave Hr' := (Entails.of_eq (hX fun g => reached ER g 0)) $$ Hr
  ihave Hr2 := (Entails.of_eq (hX fun g => reached ER g 0)) $$ Hr
  ihave Htok' := (Entails.of_eq allToks_eq) $$ Htok
  ihave HK' := counts_intro $$ HK
  unfold G Pos Rch at0; simp only [bigSep_sep']
  isplitl [Hst']; · iexact Hst'
  isplitl [Hat' Hr']
  · isplitl [Hat'] <;> iassumption
  isplitl [Hr2]; · iexact Hr2
  isplitl [Htok']; · iexact Htok'
  iexact HK'

theorem ownSems0_eq (c : Dev nD) : (Pipeline.ownSems0 (Ix := ℕ) (Name := ℕ) (U := UU) (Lvl := ℕ) (Val := Elt F) (τ := τ) osem c : sProp 𝕄)
    = bigSepL [0, 1, 2, 3, 4, 5, 6, 7, 8, 9, 10, 11, 12, 13, 14] fun k : Fin 15 => semVal ((c : Thread nD τ), osem k) 0 :=
  Pipeline.ownSems0_eq_of_list c osem [0, 1, 2, 3, 4, 5, 6, 7, 8, 9, 10, 11, 12, 13, 14] (by decide) (by decide)
theorem unscopedSems0_eq (c : Dev nD) : (unscopedSems0 c : sProp 𝕄) = semVal (cBar c) 0 := by
  unfold unscopedSems0; rw [bigSep_eq_bigSepL_of_eq [SemLoc.reg barS] (by decide) (by decide)]; rfl

/-- The sixteen counters at zero: the kernel's own and the barrier's. -/
theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  unfold zeros
  rw [ownSems0_eq, unscopedSems0_eq, fin16]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (inp m)) κ (kcell (c, k))))
          ∗ Pos c ∗ Rch c ∗ minted c ∗ counts c) := by
  unfold G
  iintro ⟨Hos, Hus, Hst, Hrest⟩
  ihave Hv := (Entails.of_eq (zeros_eq (F := F) c).symm) $$ [Hos Hus]
  · isplitl [Hus] <;> iassumption
  unfold zeros
  imod (show iprop((bigSep Finset.univ fun k : Fin 16 => semVal (kcell (c, k)) 0) ∗ bigSep Finset.univ fun k : Fin 16 => roundState ER (sched (inp m)) (kcell (c, k)) 0)
      ⊢ (|={Set.univ}=> bigSep Finset.univ fun k => iprop(∃ κ : ℕ, cellInv ER (sched (inp m)) κ (kcell (c, k))) : sProp 𝕄) from by
        rw [← bigSep_sep']
        exact (bigSep_mono fun k _ => (Rounds.body_intro ER (sched (inp m)) (kcell (c, k))).trans inv_alloc).trans (bigSep_fupd _ _)) $$ [Hv Hst] with Hinv
  · isplitl [Hv] <;> iassumption
  imodintro
  isplitl [Hinv]; · iexact Hinv
  iexact Hrest

theorem with_shared {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (inp m)) κ (kcell (c, k))))
          ∗ Pos c ∗ Rch c ∗ minted c ∗ counts c) : sProp 𝕄)
      ⊢ |={Set.univ}=> bigSep Finset.univ (G' m) := by
  rw [bigSep_sep', bigSep_sep', bigSep_sep', bigSep_sep', ← bigSep_univ_prod (fun ck : Dev nD × Fin 16 => iprop(∃ κ : ℕ, cellInv ER (sched (inp m)) κ (kcell ck))),
    show (bigSep Finset.univ Rch : sProp 𝕄) = bigSep Finset.univ fun ck : Dev nD × Fin 16 => reached ER (kcell ck) 0 from
      (bigSep_univ_prod fun ck : Dev nD × Fin 16 => (reached ER (kcell ck) 0 : sProp 𝕄)).symm]
  iintro ⟨HI, HP, #HR, HT, HC⟩
  ihave HK := (BI.bigSep_exists_pi Finset.univ (fun (ck : Dev nD × Fin 16) (κ : ℕ) => (cellInv ER (sched (inp m)) κ (kcell ck) : sProp 𝕄))) $$ HI
  icases HK with ⟨%K, #HI⟩
  ihave HT' := (toks_dealt (F := F)) $$ HT
  ihave HC' := (counts_elim (F := F)) $$ HC
  imod (slots_init EK allKeys 1 (keySlot (F := F)) (Es := Set.univ)) $$ HC' with ⟨%Kk, -, #HS, Hrd, Hwr⟩
  ihave Hrd' := (readers_dealt (F := F)) $$ Hrd
  ihave Hwr' := (writers_dealt (F := F)) $$ Hwr
  imodintro
  iapply (with_shared (R := Rec m K Kk) (Φ := fun c => iprop(Pos c ∗ Toks c ∗ Rds c ∗ Wrs c)) fun c _ => by
    show _ ⊢ G' m c
    unfold G'
    iintro H
    iexists K; iexists Kk
    iexact H)
  isplitr
  · unfold Rec; isplitl; · iexact HI
    isplitl; · iexact HS
    iexact HR
  · simp only [bigSep_sep']
    isplitl [HP]; · iexact HP
    isplitl [HT']; · iexact HT'
    isplitl [Hrd'] <;> iassumption

/-- The invariants are raised on all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans fupd_trans)

/-! ## The conditions of the launch theorem -/

def start (c : Dev nD) : sProp 𝕄 := iprop(∃ K Kk, Ctx (inp m) K Kk ∗ Start c)

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  unfold G' start Rec
  iintro ⟨-, #Hlev, Hcr, -, ⟨%K, %Kk, ⟨#HI, #HS, #HR⟩, HP, HT, Hrd, Hwr⟩⟩
  ihave Hc := (Entails.of_eq (creds (F := F) c)) $$ Hcr
  imodintro
  isplitl
  · iexists K; iexists Kk
    isplitr
    · unfold Ctx
      isplitl; · iexact HI
      isplitl; · iexact HS
      isplitl; · iexact Hlev
      iexact HR
    iapply (start_of c)
    isplitl [HP]; · iexact HP
    isplitl [HT]; · iexact HT
    isplitl [Hrd]; · iexact Hrd
    isplitl [Hwr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hu, Ho⟩
  isplitl [Hu]; · iexact Hu
  isplitl [Ho]; · iexact Ho
  iexact Hr

theorem owed0_pos {c : Dev nD} {g : GSem nD τ sig} {i : ℕ} (h : 0 < owed0 c g i) : g.1.2 = .tc ∧ 0 < i ∧ i < 64 := by
  have hA : Above 0 0 0 (two 0 0) (two 0 0) := ⟨fun _ => by omega, fun _ => by omega, fun _ _ => by omega, fun _ _ => by omega⟩
  by_contra hn
  have h1 : owed c 0 0 (two 0 0) (two 0 0) g i = 0 := by by_contra hc; exact hn (owed_pos hA (Nat.pos_of_ne_zero hc))
  have h2 (d : Dev nD) : (tallyAt (cBar d) 1 1 : CellTallies nD τ sig ℕ) g i = 0 := by
    by_contra hc
    obtain ⟨rfl, rfl⟩ := tally_pos (Nat.pos_of_ne_zero hc)
    exact hn ⟨rfl, by omega, by omega⟩
  unfold owed0 at h
  simp only [Pi.add_apply, Finsupp.add_apply, h1, h2] at h
  exact absurd h (by decide)

theorem mayWait_stage (c : Dev nD) (q : DmaSem sig) (O : CellTallies nD τ sig ℕ) (hO : O = owed0 c ∨ O = 0) :
    (levAts L lv : sProp 𝕄) ⊢ MayWait (c : Thread nD τ) (.dma q) 0 O := by
  rcases hO with rfl | rfl
  · exact MayOwe.of_cut (L := L) (lev := lv) 0
      (fun p hp => by rw [Finset.mem_singleton.mp hp]; unfold L; rw [if_pos rfl]; exact Finset.mem_range.mpr (by omega))
      (fun g i hg => by have := owed0_pos hg; unfold L; rw [if_pos this.1]; exact Finset.mem_range.mpr this.2.2)
      (fun p hp => by rw [Finset.mem_singleton.mp hp]; exact le_refl 0)
      (fun g i hg => (owed0_pos hg).2.1)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with zero counters every weakly fair run of the program ends, with every array at the contents
    computed and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := fun g h => if_neg h) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run are what they were. -/
theorem kept (c : Dev nD) (w : Fin 5) (hw : (cfg0.win w).isOut = false) : finalA m ρ c w = (s₀ m ρ).mem ((cfg0.win w).arr.view.loc (c : Thread nD τ)) :=
  (dats (F := F) m ρ 0 c).arrAt_in w hw _

end Cert.KernelIdeal.Pf

end
-- ==== Proof.KI.Value.lean ====
module

public import proofs.«01_k».proof.Proof.KI.Launch
public import proofs.«01_k».proof.Proof.Gen.ReferenceIdeal.Run
public import Idealize.ShloMosaic.Lib.IntMxu
public import Idealize.ShloMosaic.Lib.Layout
public import Idealize.ShloMosaic.Lib.ValueIdxCore

/-! The values at the extended reals: the product of whole arrays is the sum of the devices' local products, and so what
every device ends with. -/

@[expose] public section

set_option maxRecDepth 20000

noncomputable section

namespace Cert.KernelIdeal.Pf

open Idealize.ShloMosaic Idealize.ShloMosaic.TcCoe Cert.KernelIdeal.Gen
open Idealize.ShloMosaic.ValueIdx (contrEquiv1 contrEquiv1_symm_val)

/-! ## Sums over the devices -/

/-- The device `u` steps to the left of `d`. -/
def back (d : Dev nD) : ℕ → Dev nD
  | 0 => d
  | u + 1 => ringL (back d u)
theorem xc_back (d : Dev nD) (u : ℕ) : xc (back d u) = xc d := by
  induction u with
  | zero => rfl
  | succ u ih => exact (xc_ringL _).trans ih
theorem qq_back (d : Dev nD) (u : ℕ) : qq (back d u) = (qq d + 15 * u) % 16 := by
  induction u with
  | zero => have := qq_lt d; show qq d = _; omega
  | succ u ih => refine (qq_ringL _).trans ?_; rw [ih]; omega
theorem back_left (d : Dev nD) (u : ℕ) : back (ringL d) u = back d (u + 1) := by
  induction u with
  | zero => rfl
  | succ u ih => exact congrArg ringL ih

/-- The ring on one side and the ring on the other are all devices. -/
def both (d : Dev nD) (p : Fin 16 × Fin 2) : Dev nD := if p.2 = 0 then back d p.1.val else partner (back d p.1.val)
theorem both_bij (d : Dev nD) : Function.Bijective (both d) := by
  refine (Fintype.bijective_iff_injective_and_card (both d)).mpr ⟨?_, by decide⟩
  have hx (p : Fin 16 × Fin 2) : xc (both d p) = if p.2 = 0 then xc d else 1 - xc d := by
    unfold both; split
    · exact xc_back d _
    · rw [xc_partner, xc_back]
  have hq (p : Fin 16 × Fin 2) : qq (both d p) = (qq d + 15 * p.1.val) % 16 := by
    unfold both; split
    · exact qq_back d _
    · rw [qq_partner, qq_back]
  rintro ⟨⟨u, hu⟩, s⟩ ⟨⟨v, hv⟩, t⟩ h
  have h1 := congrArg xc h
  have h2 := congrArg qq h
  rw [hx, hx] at h1
  rw [hq, hq] at h2
  have hd := xc_lt d
  simp only at h1 h2
  have huv : u = v := by omega
  subst huv
  have hst : s = t := by
    by_cases hs : s = 0 <;> by_cases ht : t = 0 <;> simp only [hs, ht, if_true, if_false] at h1 <;> omega
  subst hst
  rfl

theorem sum_both (f : Dev nD → ℤ) (d : Dev nD) : ∑ u ∈ Finset.range 16, (f (back d u) + f (partner (back d u))) = ∑ c, f c := by
  rw [← (both_bij d).sum_comp f, Fintype.sum_prod_type, Finset.sum_range]
  refine Finset.sum_congr rfl fun u _ => ?_
  rw [Fin.sum_univ_two]
  rfl

/-- An integer as a value. -/
def ofZ (n : ℤ) : Ideal .f32 := ((n : ℝ) : EReal)
theorem ofZ_add (a b : ℤ) : FloatOps.addf (F := Ideal) (φ := .f32) (ofZ a) (ofZ b) = ofZ (a + b) := by
  show ((a : ℝ) : EReal) + ((b : ℝ) : EReal) = _
  unfold ofZ
  rw [← EReal.coe_add, Int.cast_add]
theorem ofZ_mul (a b : ℤ) : (ofZ a : EReal) * ofZ b = ofZ (a * b) := by
  show ((a : ℝ) : EReal) * ((b : ℝ) : EReal) = _
  unfold ofZ
  rw [← EReal.coe_mul, Int.cast_mul]
theorem ofZ_sum {J : Type} (s : Finset J) (f : J → ℤ) : ∑ j ∈ s, (ofZ (f j) : EReal) = ofZ (∑ j ∈ s, f j) := by
  classical
  induction s using Finset.induction_on with
  | empty => show (0 : EReal) = ((((0 : ℤ) : ℝ)) : EReal); simp
  | insert a s ha ih => rw [Finset.sum_insert ha, Finset.sum_insert ha, ih]; exact ofZ_add _ _

variable (I : Inp Ideal)

/-- The local product of device `d` at an element, over the integers. -/
def D (d : Dev nD) (i : OIdx) : ℤ :=
  ∑ k : Fin 128, (BitVec.toInt (I.x d (ValueIdx.ix2 ⟨row i, row_lt i⟩ k : S4096x128.Idx))) * BitVec.toInt (I.w d (ValueIdx.ix2 k ⟨col i, col_lt i⟩ : S128x2048.Idx))

abbrev dd : DotDims S128x128 S128x2048 S128x2048 := dot_S128x128_S128x2048_S128x2048_1_0_0_1_n_n

theorem Y_val (d : Dev nD) (i : OIdx) : I.Y d i = ofZ (D I d i) := by
  have hr := row_lt i
  unfold Inp.Y Inp.PV prodV
  show (((BitVec.toInt (matmulI8 IntMxuNumerics.v7x dd _ _ _ (loc128 i)) : ℤ) : ℝ) : EReal) = _
  rw [matmulI8_toInt IntMxuNumerics.v7x dd _ _ _ (loc128 i) rfl ((absDotI8_le_numel dd _ _ _).trans (by decide))]
  unfold ofZ
  refine congrArg (fun n : ℤ => ((n : ℝ) : EReal)) ?_
  unfold dotI8 D
  rw [← Equiv.sum_comp (contrEquiv1 dd 128 rfl rfl).symm]
  refine Finset.sum_congr rfl fun k _ => ?_
  have hk := contrEquiv1_symm_val dd 128 rfl rfl k
  rw [shapeCast_self, shapeCast_self]
  refine congrArg₂ (fun a b : BitVec 8 => a.toInt * b.toInt) ?_ ?_
  · refine congrArg (I.x d) (funext fun a => Fin.ext ?_)
    match a with
    | ⟨0, _⟩ => show 128 * (row i / 128) + 1 * (row i % 128) = row i; omega
    | ⟨1, _⟩ => exact (show 0 + 1 * _ = _ from by rw [Nat.zero_add, Nat.one_mul]; exact hk)
  · refine congrArg (I.w d) (funext fun a => Fin.ext ?_)
    match a with
    | ⟨0, _⟩ => exact (show 0 + 1 * _ = _ from by rw [Nat.zero_add, Nat.one_mul]; exact hk)
    | ⟨1, _⟩ => show 0 + 1 * col i = col i; omega

theorem W_val (t : ℕ) : ∀ (d : Dev nD) (i : OIdx),
    I.W t d i = ofZ (∑ u ∈ Finset.range (t + 1), (D I (back d u) i + D I (partner (back d u)) i)) := by
  induction t with
  | zero =>
    intro d i
    show FloatOps.addf (F := Ideal) (φ := .f32) (I.Y d i) (I.Y (partner d) i) = _
    rw [Y_val, Y_val, ofZ_add, Finset.sum_range_one]
    rfl
  | succ t ih =>
    intro d i
    have hs : ∑ u ∈ Finset.range (t + 1 + 1), (D I (back d u) i + D I (partner (back d u)) i)
        = (∑ u ∈ Finset.range (t + 1), (D I (back (ringL d) u) i + D I (partner (back (ringL d) u)) i)) + (D I d i + D I (partner d) i) := by
      rw [Finset.sum_range_succ']
      simp only [back_left]
      rfl
    unfold Inp.W
    split
    · rw [ih, Y_val, Y_val, ofZ_add, ofZ_add, hs]
      exact congrArg ofZ (by ring)
    · rw [ih, Y_val, Y_val, ofZ_add, ofZ_add, hs]
      exact congrArg ofZ (by ring)

/-- What every device ends with. -/
theorem OUT_val (i : OIdx) : I.OUT i = (ofZ (∑ c, D I c i) : EReal) * (I.sc (orig i) : EReal) := by
  unfold Inp.OUT
  rw [W_val, sum_both (fun c => D I c i)]
  rfl

end Cert.KernelIdeal.Pf

end
-- ==== Proof.KI.Ref.lean ====
module

public import proofs.«01_k».proof.Proof.KI.Value

/-! The reference's value at an element, and its sum over the shared dimension cut into the devices' blocks. -/

@[expose] public section

set_option maxRecDepth 20000

noncomputable section

namespace Cert.ReferenceIdeal.Pf

open Idealize.ShloMosaic Idealize.ShloMosaic.TcCoe Cert.ReferenceIdeal.Gen
open Idealize.ShloMosaic.ValueIdx (contrEquiv1 contrEquiv1_symm_val)
open Cert.KernelIdeal.Pf (ofZ ofZ_sum ofZ_mul)

abbrev dr : DotDims S4096x4096 S4096x2048 S4096x2048 := dot_S4096x4096_S4096x2048_S4096x2048_1_0_0_1_n_n

/-- A byte widened to a word keeps its integer. -/
theorem wide_toInt (b : BitVec 8) : (b.signExtend 32).toInt = b.toInt := BitVec.toInt_signExtend_of_le (by decide)

/-- What the reference computes from its four arrays. -/
def refV (X : IVec S4096x4096 8) (Y : IVec S4096x2048 8)
    (s t : FVec Ideal S1 .f32) : FVec Ideal S4096x2048 .f32 :=
  mulf (Host.dotGeneral dr none (sitofp .f32 (extsi 32 X natLt_8_32)) (sitofp .f32 (extsi 32 Y natLt_8_32)))
    (broadcastInDim S4096x2048 ![0, 1] bcast_S1x1_S4096x2048_0_1 (broadcastInDim S1x1 ![1] bcast_S1_S1x1_1 (mulf s t)))

/-- Entry `i` of the product of the whole arrays, over the integers. -/
def E (X : IVec S4096x4096 8) (Y : IVec S4096x2048 8) (i : S4096x2048.Idx) (k : Fin 4096) : ℤ :=
  BitVec.toInt (X (ValueIdx.ix2 (i 0) k : S4096x4096.Idx)) * BitVec.toInt (Y (ValueIdx.ix2 k (i 1) : S4096x2048.Idx))

theorem refV_apply (X : IVec S4096x4096 8) (Y : IVec S4096x2048 8)
    (s t : FVec Ideal S1 .f32) (i : S4096x2048.Idx) (o : S1.Idx) :
    refV X Y s t i = (ofZ (∑ k, E X Y i k) : EReal) * ((s o : EReal) * (t o : EReal)) := by
  unfold refV
  simp only [Host.dotGeneral]
  refine (congrArg₂ (fun a b : EReal => a * b) (Ideal.dotGeneral_apply dr none _ _ _ i) rfl).trans ?_
  rw [← Equiv.sum_comp (contrEquiv1 dr 4096 rfl rfl).symm, ← ofZ_sum]
  refine congrArg₂ (fun a b : EReal => a * b) (Finset.sum_congr rfl fun k _ => ?_) ?_
  · have hk := contrEquiv1_symm_val dr 4096 rfl rfl k
    show ofZ (BitVec.toInt (BitVec.signExtend 32 (X _))) * ofZ (BitVec.toInt (BitVec.signExtend 32 (Y _))) = _
    rw [wide_toInt, wide_toInt, ofZ_mul]
    refine congrArg ofZ (congrArg₂ (fun a b : BitVec 8 => a.toInt * b.toInt) ?_ ?_)
    · refine congrArg X (funext fun a => Fin.ext ?_)
      match a with
      | ⟨0, _⟩ => rfl
      | ⟨1, _⟩ => exact hk
    · refine congrArg Y (funext fun a => Fin.ext ?_)
      match a with
      | ⟨0, _⟩ => exact hk
      | ⟨1, _⟩ => rfl
  · show (mulf s t : FVec Ideal S1 .f32) _ = (mulf s t : FVec Ideal S1 .f32) o
    exact congrArg (mulf s t : FVec Ideal S1 .f32) (funext fun a => by
      match a with
      | ⟨0, _⟩ => exact Subsingleton.elim (α := Fin 1) _ _)

/-- The shared dimension, cut into thirty-two blocks of 128. -/
theorem sum_cut (f : Fin 4096 → ℤ) : ∑ k, f k = ∑ c : Fin 32, ∑ k : Fin 128, f ⟨c.val * 128 + k.val, by omega⟩ := by
  rw [← Fintype.sum_prod_type' (fun (c : Fin 32) (k : Fin 128) => f ⟨c.val * 128 + k.val, by omega⟩),
    ← (finProdFinEquiv (m := 32) (n := 128)).sum_comp f]
  refine Finset.sum_congr rfl fun p _ => congrArg f (Fin.ext ?_)
  show p.2.val + 128 * p.1.val = p.1.val * 128 + p.2.val
  omega

end Cert.ReferenceIdeal.Pf

end
-- ==== Proof.KI.Final.lean ====
module

public import proofs.«01_k».proof.Proof.KI.Ref

/-! The output array every device ends with is the reference's. -/

@[expose] public section

set_option maxRecDepth 20000

noncomputable section

namespace Cert.KernelIdeal.Pf

open Idealize.ShloMosaic Idealize.ShloMosaic.TcCoe Cert.KernelIdeal.Gen
open Cert.ReferenceIdeal.Pf (refV refV_apply E sum_cut)

variable (m : (ℓ : Loc nD τ sig) → Buf (Elt Ideal) ℓ) (ρ : Dev nD → PrngReg)

/-! ## The inputs are the argument arrays, and the output array is the last staging contents -/

theorem inp_x (c : Dev nD) : (inp m).x c = m ((c : Thread nD τ).loc main_arg0) := by
  have hz : (fun a => (win0_0.index (0 : Fin 1)) a * main_arg0.ty.shape.size a) = fun _ => 0 := funext fun a => by fin_cases a <;> decide
  show (win0_0.blk (0 : Fin 1)).view.read (Elt Ideal) (m ((c : Thread nD τ).loc main_arg0)) = _
  exact Memref.read_access_unit_zero (Elt Ideal) main_arg0 hz _ (m ((c : Thread nD τ).loc main_arg0))
theorem inp_w (c : Dev nD) : (inp m).w c = m ((c : Thread nD τ).loc main_arg1) := by
  have hz : (fun a => (win0_1.index (0 : Fin 1)) a * main_arg1.ty.shape.size a) = fun _ => 0 := funext fun a => by fin_cases a <;> decide
  show (win0_1.blk (0 : Fin 1)).view.read (Elt Ideal) (m ((c : Thread nD τ).loc main_arg1)) = _
  exact Memref.read_access_unit_zero (Elt Ideal) main_arg1 hz _ (m ((c : Thread nD τ).loc main_arg1))
theorem inp_sx (c : Dev nD) : (inp m).sx c = m ((c : Thread nD τ).loc main_arg2) := by
  have hz : (fun a => (win0_2.index (0 : Fin 1)) a * main_arg2.ty.shape.size a) = fun _ => 0 := funext fun a => by fin_cases a <;> decide
  show (win0_2.blk (0 : Fin 1)).view.read (Elt Ideal) (m ((c : Thread nD τ).loc main_arg2)) = _
  exact Memref.read_access_unit_zero (Elt Ideal) main_arg2 hz _ (m ((c : Thread nD τ).loc main_arg2))
theorem inp_sw (c : Dev nD) : (inp m).sw c = m ((c : Thread nD τ).loc main_arg3) := by
  have hz : (fun a => (win0_3.index (0 : Fin 1)) a * main_arg3.ty.shape.size a) = fun _ => 0 := funext fun a => by fin_cases a <;> decide
  show (win0_3.blk (0 : Fin 1)).view.read (Elt Ideal) (m ((c : Thread nD τ).loc main_arg3)) = _
  exact Memref.read_access_unit_zero (Elt Ideal) main_arg3 hz _ (m ((c : Thread nD τ).loc main_arg3))

theorem final_out (c : Dev nD) : finalA m ρ c (4 : Fin 5) = (inp m).OUT := by
  have hz : (fun a => (win0_4.index (0 : Fin 1)) a * main_v1.ty.shape.size a) = fun _ => 0 := funext fun a => by fin_cases a <;> decide
  have hr : (win0_4.blk (0 : Fin 1)).view.read (Elt Ideal) (finalA m ρ c (4 : Fin 5)) = (inp m).OUT := by
    unfold finalA
    rw [show cfg0.N = (0 : Fin 1).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt Ideal) main_v1 hz _ _).symm.trans hr

/-! ## The two values agree -/

/-- The one index of a scalar array. -/
def o1 : S1.Idx := ValueIdx.ix1 (0 : Fin 1)
theorem sc_val (I : Inp Ideal) (d : Dev nD) (s t : FVec Ideal S1 .f32) (hs : I.sx d = s) (ht : I.sw d = t) :
    I.sc d = ((s o1 : EReal) * (t o1 : EReal) : EReal) := by
  have h (a b : S1.Idx) : a = b := funext fun x => by
    match x with
    | ⟨0, _⟩ => exact Subsingleton.elim (α := Fin 1) _ _
  unfold Inp.sc
  rw [hs, ht]
  exact congrArg₂ (fun a b : S1.Idx => ((s a : EReal) * (t b : EReal) : EReal)) (h _ _) (h _ _)

theorem out_eq (I : Inp Ideal) (X : IVec Cert.ReferenceIdeal.S4096x4096 8) (Y : IVec Cert.ReferenceIdeal.S4096x2048 8)
    (s t : FVec Ideal Cert.ReferenceIdeal.S1 .f32)
    (hx : ∀ c, I.x c = Layout.block ⟨2, ![4096, 128]⟩ ⟨2, ![4096, 4096]⟩ 1 32 c X)
    (hw : ∀ c, I.w c = Layout.block ⟨2, ![128, 2048]⟩ ⟨2, ![4096, 2048]⟩ 0 32 c Y)
    (hs : ∀ c, I.sx c = s) (ht : ∀ c, I.sw c = t) : I.OUT = refV X Y s t := by
  funext i
  refine (OUT_val I i).trans ((refV_apply X Y s t i o1).trans ?_).symm
  rw [sc_val I (orig i) s t (hs _) (ht _), sum_cut]
  refine congrArg₂ (fun (n : ℤ) (e : EReal) => (ofZ n : EReal) * e) (Finset.sum_congr rfl fun c _ => Finset.sum_congr rfl fun k _ => ?_) rfl
  rw [hx, hw]
  unfold E
  refine congrArg₂ (fun a b : BitVec 8 => a.toInt * b.toInt) ?_ ?_
  · refine congrArg X (funext fun a => Fin.ext ?_)
    match a with
    | ⟨0, _⟩ => rfl
    | ⟨1, _⟩ => rfl
  · refine congrArg Y (funext fun a => Fin.ext ?_)
    match a with
    | ⟨0, _⟩ => rfl
    | ⟨1, _⟩ => rfl

end Cert.KernelIdeal.Pf

end
-- ==== Proof.lean ====
/- The certificate's proof: the runs of the kernel (Proof/K/Launch.lean at float words, Proof/KI/Launch.lean at
   the extended reals) and of the reference, read at their arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.KI.Final
public import Idealize.ShloMosaic.Adequacy
public import Idealize.ShloMosaic.Init

@[expose] public section

noncomputable section

namespace Cert.Proof

open Idealize.ShloMosaic Idealize.SL.Sem
open Cert.KernelIdeal.Pf (run_main kept final_out inp inp_x inp_w inp_sx inp_sw out_eq)

/-- The kernel runs, keeps its arguments and leaves every semaphore at zero. -/
theorem frame_p : Cert.quiescent_Kernel := by
  intro m ρ _
  exact (θ_run Cert.Kernel.defs _ _).mono
    (fun _ h => ⟨fun c => ⟨(h.1 c (0 : Fin 5)).trans (Cert.Kernel.Pf.kept m ρ c 0 rfl), (h.1 c (1 : Fin 5)).trans (Cert.Kernel.Pf.kept m ρ c 1 rfl),
      (h.1 c (2 : Fin 5)).trans (Cert.Kernel.Pf.kept m ρ c 2 rfl), (h.1 c (3 : Fin 5)).trans (Cert.Kernel.Pf.kept m ρ c 3 rfl)⟩, h.2⟩)
    (Cert.Kernel.Pf.run_main (F := Bits) m ρ)

/-- So does its reading at the extended reals. -/
theorem frame_pi : Cert.quiescent_KernelIdeal := by
  intro m ρ _
  exact (θ_run Cert.KernelIdeal.defs _ _).mono
    (fun _ h => ⟨fun c => ⟨(h.1 c (0 : Fin 5)).trans (kept m ρ c 0 rfl), (h.1 c (1 : Fin 5)).trans (kept m ρ c 1 rfl),
      (h.1 c (2 : Fin 5)).trans (kept m ρ c 2 rfl), (h.1 c (3 : Fin 5)).trans (kept m ρ c 3 rfl)⟩, h.2⟩)
    (run_main (F := Ideal) m ρ)

/-- And the reference, which has no semaphore. -/
theorem frame_ri : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- From blocks of the same arrays the kernel ends, on every device, with the reference's array. -/
theorem algebraic : Cert.algebraic_KernelIdeal_ReferenceIdeal := by
  intro m ρ m' ρ' _ hm
  refine ⟨Cert.ReferenceIdeal.Pf.refV (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2))
    (m' ((0 : Dev Cert.ReferenceIdeal.nD).tc.loc Cert.ReferenceIdeal.main_arg3)), ?_, ?_⟩
  · have he := out_eq (inp m) _ _ _ _
      (fun c => (inp_x m c).trans (hm c).1) (fun c => (inp_w m c).trans (hm c).2.1)
      (fun c => (inp_sx m c).trans (hm c).2.2.1) (fun c => (inp_sw m c).trans (hm c).2.2.2)
    exact (θ_run Cert.KernelIdeal.defs _ _).mono
      (fun _ h c => ⟨((h.1 c (4 : Fin 5)).trans (final_out m ρ c)).trans he,
        (h.1 c (0 : Fin 5)).trans (kept m ρ c 0 rfl), (h.1 c (1 : Fin 5)).trans (kept m ρ c 1 rfl),
        (h.1 c (2 : Fin 5)).trans (kept m ρ c 2 rfl), (h.1 c (3 : Fin 5)).trans (kept m ρ c 3 rfl)⟩)
      (run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_p, frame_pi, frame_ri, trivial, algebraic⟩

end Cert.Proof

end
